-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_normal [hPre_normal : Cert.Pre_normal.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_normal.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_normal.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_normal.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_normal [hPre_normal : Cert.Pre_normal.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_normal.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_normal.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_normal.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_normal [hKernel2Ideal : Cert.Kernel2Ideal.Facts] [hPre_normal : Cert.Pre_normal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_normal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_normal [hReference2Ideal : Cert.Reference2Ideal.Facts] [hPre_normal : Cert.Pre_normal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_normal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  IdealRules.named_const.Statement Cert.Kernel2Ideal.κ "mask" .bf16 0xF14A#16 ⊥
  ∧ IdealRules.named_const.Statement Cert.Kernel2Ideal.κ "mask" .f32 0xF149F2CA#32 ⊥

def algebraic_Kernel2Ideal_Reference2Ideal_pre_normal [hKernel2Ideal : Cert.Kernel2Ideal.Facts] [hReference2Ideal : Cert.Reference2Ideal.Facts] [hPre_normal : Cert.Pre_normal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_normal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v44)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_normal : Cert.Pre_normal.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_normal (hKernel2Ideal := hKernel2Ideal) (hPre_normal := hPre_normal)
    ∧ quiescent_Reference2Ideal (hReference2Ideal := hReference2Ideal)
    ∧ quiescent_Reference2Ideal_pre_normal (hReference2Ideal := hReference2Ideal) (hPre_normal := hPre_normal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_normal (hKernel2Ideal := hKernel2Ideal) (hReference2Ideal := hReference2Ideal) (hPre_normal := hPre_normal)
-- ==== Pre_finite.lean ====
abbrev S32x128x768 : Shape := ⟨3, ![32, 128, 768]⟩
abbrev S12x768 : Shape := ⟨2, ![12, 768]⟩
abbrev S12x768x2304 : Shape := ⟨3, ![12, 768, 2304]⟩
abbrev S12x768x768 : Shape := ⟨3, ![12, 768, 768]⟩
abbrev S12x768x3072 : Shape := ⟨3, ![12, 768, 3072]⟩
abbrev S12x3072 : Shape := ⟨2, ![12, 3072]⟩
abbrev S12x3072x768 : Shape := ⟨3, ![12, 3072, 768]⟩
abbrev S768 : Shape := ⟨1, ![768]⟩
abbrev S768x40 : Shape := ⟨2, ![768, 40]⟩
abbrev S40 : Shape := ⟨1, ![40]⟩
abbrev S32x101x768 : Shape := ⟨3, ![32, 101, 768]⟩
abbrev S_ : Shape := ⟨0, ![]⟩

class Facts : Prop where
  slices_S32x128x768_S32x101x768_0_0_0 : S32x128x768.Slices ![0, 0, 0] S32x101x768
  bcast_S_S32x101x768 : S_.BroadcastsInDim S32x101x768 (![] : Fin 0 → Fin S32x101x768.rank)
  bcast_S_S12x768 : S_.BroadcastsInDim S12x768 (![] : Fin 0 → Fin S12x768.rank)
  bcast_S_S12x768x2304 : S_.BroadcastsInDim S12x768x2304 (![] : Fin 0 → Fin S12x768x2304.rank)
  bcast_S_S12x768x768 : S_.BroadcastsInDim S12x768x768 (![] : Fin 0 → Fin S12x768x768.rank)
  bcast_S_S12x768x3072 : S_.BroadcastsInDim S12x768x3072 (![] : Fin 0 → Fin S12x768x3072.rank)
  bcast_S_S12x3072 : S_.BroadcastsInDim S12x3072 (![] : Fin 0 → Fin S12x3072.rank)
  bcast_S_S12x3072x768 : S_.BroadcastsInDim S12x3072x768 (![] : Fin 0 → Fin S12x3072x768.rank)

variable [Facts]

def fn_part2 {F : FTy → Type} [FloatOps F] (main_v3 : IVec S32x101x768 1) (main_v6 : IVec S12x768 1) (main_v9 : IVec S12x768 1) (main_v12 : IVec S12x768x2304 1) (main_v15 : IVec S12x768x768 1) (main_v18 : IVec S12x768 1) (main_v21 : IVec S12x768 1) (main_v24 : IVec S12x768 1) (main_v27 : IVec S12x768x3072 1) (main_v30 : IVec S12x3072 1) (main_v33 : IVec S12x3072x768 1) (main_v34 : FVec F S12x768 .f32) (main_v35 : FVec F S12x768 .f32) : IVec S32x101x768 1 × IVec S12x768 1 × IVec S12x768 1 × IVec S12x768x2304 1 × IVec S12x768x768 1 × IVec S12x768 1 × IVec S12x768 1 × IVec S12x768 1 × IVec S12x768x3072 1 × IVec S12x3072 1 × IVec S12x3072x768 1 × IVec S12x768 1 :=
  let main_v36 : IVec S12x768 1 := cmpf .olt main_v34 main_v35
  (main_v3, main_v6, main_v9, main_v12, main_v15, main_v18, main_v21, main_v24, main_v27, main_v30, main_v33, main_v36)

def fn_part1 {F : FTy → Type} [FloatOps F] (main_arg6 : FVec F S12x768 .f32) (main_arg7 : FVec F S12x768 .f32) (main_arg8 : FVec F S12x768x3072 .f32) (main_arg9 : FVec F S12x3072 .f32) (main_arg10 : FVec F S12x3072x768 .f32) (main_arg11 : FVec F S12x768 .f32) (main_v3 : IVec S32x101x768 1) (main_v6 : IVec S12x768 1) (main_v9 : IVec S12x768 1) (main_v12 : IVec S12x768x2304 1) (main_v15 : IVec S12x768x768 1) (main_v16 : FVec F S12x768 .f32) (main_v17 : FVec F S12x768 .f32) : IVec S32x101x768 1 × IVec S12x768 1 × IVec S12x768 1 × IVec S12x768x2304 1 × IVec S12x768x768 1 × IVec S12x768 1 × IVec S12x768 1 × IVec S12x768 1 × IVec S12x768x3072 1 × IVec S12x3072 1 × IVec S12x3072x768 1 × IVec S12x768 1 :=
  let main_v18 : IVec S12x768 1 := cmpf .olt main_v16 main_v17
  let main_v19 : FVec F S12x768 .f32 := Host.absf main_arg6
  let main_cst_5 : FVec F S_ .f32 := constant S_ .f32 0x7F800000#32
  let main_v20 : FVec F S12x768 .f32 := broadcastInDim S12x768 ![] bcast_S_S12x768 main_cst_5
  let main_v21 : IVec S12x768 1 := cmpf .olt main_v19 main_v20
  let main_v22 : FVec F S12x768 .f32 := Host.absf main_arg7
  let main_cst_6 : FVec F S_ .f32 := constant S_ .f32 0x7F800000#32
  let main_v23 : FVec F S12x768 .f32 := broadcastInDim S12x768 ![] bcast_S_S12x768 main_cst_6
  let main_v24 : IVec S12x768 1 := cmpf .olt main_v22 main_v23
  let main_v25 : FVec F S12x768x3072 .f32 := Host.absf main_arg8
  let main_cst_7 : FVec F S_ .f32 := constant S_ .f32 0x7F800000#32
  let main_v26 : FVec F S12x768x3072 .f32 := broadcastInDim S12x768x3072 ![] bcast_S_S12x768x3072 main_cst_7
  let main_v27 : IVec S12x768x3072 1 := cmpf .olt main_v25 main_v26
  let main_v28 : FVec F S12x3072 .f32 := Host.absf main_arg9
  let main_cst_8 : FVec F S_ .f32 := constant S_ .f32 0x7F800000#32
  let main_v29 : FVec F S12x3072 .f32 := broadcastInDim S12x3072 ![] bcast_S_S12x3072 main_cst_8
  let main_v30 : IVec S12x3072 1 := cmpf .olt main_v28 main_v29
  let main_v31 : FVec F S12x3072x768 .f32 := Host.absf main_arg10
  let main_cst_9 : FVec F S_ .f32 := constant S_ .f32 0x7F800000#32
  let main_v32 : FVec F S12x3072x768 .f32 := broadcastInDim S12x3072x768 ![] bcast_S_S12x3072x768 main_cst_9
  let main_v33 : IVec S12x3072x768 1 := cmpf .olt main_v31 main_v32
  let main_v34 : FVec F S12x768 .f32 := Host.absf main_arg11
  let main_cst_10 : FVec F S_ .f32 := constant S_ .f32 0x7F800000#32
  let main_v35 : FVec F S12x768 .f32 := broadcastInDim S12x768 ![] bcast_S_S12x768 main_cst_10
  fn_part2 (F := F) main_v3 main_v6 main_v9 main_v12 main_v15 main_v18 main_v21 main_v24 main_v27 main_v30 main_v33 main_v34 main_v35

def fn {F : FTy → Type} [FloatOps F] (main_arg0 : FVec F S32x128x768 .f32) (main_arg1 : FVec F S12x768 .f32) (main_arg2 : FVec F S12x768 .f32) (main_arg3 : FVec F S12x768x2304 .f32) (main_arg4 : FVec F S12x768x768 .f32) (main_arg5 : FVec F S12x768 .f32) (main_arg6 : FVec F S12x768 .f32) (main_arg7 : FVec F S12x768 .f32) (main_arg8 : FVec F S12x768x3072 .f32) (main_arg9 : FVec F S12x3072 .f32) (main_arg10 : FVec F S12x3072x768 .f32) (main_arg11 : FVec F S12x768 .f32) (main_arg12 : FVec F S768 .f32) (main_arg13 : FVec F S768 .f32) (main_arg14 : FVec F S768x40 .f32) (main_arg15 : FVec F S40 .f32) : IVec S32x101x768 1 × IVec S12x768 1 × IVec S12x768 1 × IVec S12x768x2304 1 × IVec S12x768x768 1 × IVec S12x768 1 × IVec S12x768 1 × IVec S12x768 1 × IVec S12x768x3072 1 × IVec S12x3072 1 × IVec S12x3072x768 1 × IVec S12x768 1 :=
  let main_v0 : FVec F S32x101x768 .f32 := (extractStridedSlice S32x101x768 ![0, 0, 0] · slices_S32x128x768_S32x101x768_0_0_0) main_arg0
  let main_v1 : FVec F S32x101x768 .f32 := Host.absf main_v0
  let main_cst : FVec F S_ .f32 := constant S_ .f32 0x7F800000#32
  let main_v2 : FVec F S32x101x768 .f32 := broadcastInDim S32x101x768 ![] bcast_S_S32x101x768 main_cst
  let main_v3 : IVec S32x101x768 1 := cmpf .olt main_v1 main_v2
  let main_v4 : FVec F S12x768 .f32 := Host.absf main_arg1
  let main_cst_0 : FVec F S_ .f32 := constant S_ .f32 0x7F800000#32
  let main_v5 : FVec F S12x768 .f32 := broadcastInDim S12x768 ![] bcast_S_S12x768 main_cst_0
  let main_v6 : IVec S12x768 1 := cmpf .olt main_v4 main_v5
  let main_v7 : FVec F S12x768 .f32 := Host.absf main_arg2
  let main_cst_1 : FVec F S_ .f32 := constant S_ .f32 0x7F800000#32
  let main_v8 : FVec F S12x768 .f32 := broadcastInDim S12x768 ![] bcast_S_S12x768 main_cst_1
  let main_v9 : IVec S12x768 1 := cmpf .olt main_v7 main_v8
  let main_v10 : FVec F S12x768x2304 .f32 := Host.absf main_arg3
  let main_cst_2 : FVec F S_ .f32 := constant S_ .f32 0x7F800000#32
  let main_v11 : FVec F S12x768x2304 .f32 := broadcastInDim S12x768x2304 ![] bcast_S_S12x768x2304 main_cst_2
  let main_v12 : IVec S12x768x2304 1 := cmpf .olt main_v10 main_v11
  let main_v13 : FVec F S12x768x768 .f32 := Host.absf main_arg4
  let main_cst_3 : FVec F S_ .f32 := constant S_ .f32 0x7F800000#32
  let main_v14 : FVec F S12x768x768 .f32 := broadcastInDim S12x768x768 ![] bcast_S_S12x768x768 main_cst_3
  let main_v15 : IVec S12x768x768 1 := cmpf .olt main_v13 main_v14
  let main_v16 : FVec F S12x768 .f32 := Host.absf main_arg5
  let main_cst_4 : FVec F S_ .f32 := constant S_ .f32 0x7F800000#32
  let main_v17 : FVec F S12x768 .f32 := broadcastInDim S12x768 ![] bcast_S_S12x768 main_cst_4
  fn_part1 (F := F) main_arg6 main_arg7 main_arg8 main_arg9 main_arg10 main_arg11 main_v3 main_v6 main_v9 main_v12 main_v15 main_v16 main_v17
-- ==== Pre_normal.lean ====
abbrev S32x2048x3 : Shape := ⟨3, ![32, 2048, 3]⟩
abbrev S6x32 : Shape := ⟨2, ![6, 32]⟩
abbrev S32x64 : Shape := ⟨2, ![32, 64]⟩
abbrev S64x128 : Shape := ⟨2, ![64, 128]⟩
abbrev S256x768 : Shape := ⟨2, ![256, 768]⟩
abbrev S100 : Shape := ⟨1, ![100]⟩
abbrev S1x1x768 : Shape := ⟨3, ![1, 1, 768]⟩
abbrev S1x101x768 : Shape := ⟨3, ![1, 101, 768]⟩
abbrev S_ : Shape := ⟨0, ![]⟩

class Facts : Prop where
  bcast_S_S100 : S_.BroadcastsInDim S100 (![] : Fin 0 → Fin S100.rank)

variable [Facts]

def fn {F : FTy → Type} [FloatOps F] (main_arg0 : FVec F S32x2048x3 .f32) (main_arg1 : FVec F S6x32 .f32) (main_arg2 : FVec F S32x64 .f32) (main_arg3 : FVec F S64x128 .f32) (main_arg4 : FVec F S256x768 .f32) (main_arg5 : FVec F S100 .f32) (main_arg6 : FVec F S100 .f32) (main_arg7 : FVec F S100 .f32) (main_arg8 : FVec F S100 .f32) (main_arg9 : FVec F S1x1x768 .f32) (main_arg10 : FVec F S1x101x768 .f32) : IVec S100 1 × IVec S100 1 × IVec S100 1 :=
  let main_v0 : FVec F S100 .f32 := Host.absf main_arg7
  let main_cst : FVec F S_ .f32 := constant S_ .f32 0x7F800000#32
  let main_v1 : FVec F S100 .f32 := broadcastInDim S100 ![] bcast_S_S100 main_cst
  let main_v2 : IVec S100 1 := cmpf .olt main_v0 main_v1
  let main_v3 : FVec F S100 .f32 := Host.absf main_arg5
  let main_cst_0 : FVec F S_ .f32 := constant S_ .f32 0x7F800000#32
  let main_v4 : FVec F S100 .f32 := broadcastInDim S100 ![] bcast_S_S100 main_cst_0
  let main_v5 : IVec S100 1 := cmpf .olt main_v3 main_v4
  let main_cst_1 : FVec F S_ .f32 := constant S_ .f32 0x00000000#32
  let main_v6 : FVec F S100 .f32 := broadcastInDim S100 ![] bcast_S_S100 main_cst_1
  let main_v7 : IVec S100 1 := cmpf .oge main_arg8 main_v6
  (main_v2, main_v5, main_v7)
-- ==== Kernel.lean ====
abbrev S32x128x768 : Shape := ⟨3, ![32, 128, 768]⟩
abbrev S12x768 : Shape := ⟨2, ![12, 768]⟩
abbrev S12x768x2304 : Shape := ⟨3, ![12, 768, 2304]⟩
abbrev S12x768x768 : Shape := ⟨3, ![12, 768, 768]⟩
abbrev S12x768x3072 : Shape := ⟨3, ![12, 768, 3072]⟩
abbrev S12x3072 : Shape := ⟨2, ![12, 3072]⟩
abbrev S12x3072x768 : Shape := ⟨3, ![12, 3072, 768]⟩
abbrev S768 : Shape := ⟨1, ![768]⟩
abbrev S768x40 : Shape := ⟨2, ![768, 40]⟩
abbrev S40 : Shape := ⟨1, ![40]⟩
abbrev S12x1x768 : Shape := ⟨3, ![12, 1, 768]⟩
abbrev S12x1x3072 : Shape := ⟨3, ![12, 1, 3072]⟩
abbrev S2x128x768 : Shape := ⟨3, ![2, 128, 768]⟩
abbrev S1x1x768 : Shape := ⟨3, ![1, 1, 768]⟩
abbrev S1x768x2304 : Shape := ⟨3, ![1, 768, 2304]⟩
abbrev S1x768x768 : Shape := ⟨3, ![1, 768, 768]⟩
abbrev S1x768x3072 : Shape := ⟨3, ![1, 768, 3072]⟩
abbrev S1x1x3072 : Shape := ⟨3, ![1, 1, 3072]⟩
abbrev S1x3072x768 : Shape := ⟨3, ![1, 3072, 768]⟩
abbrev S16x128x768 : Shape := ⟨3, ![16, 128, 768]⟩
abbrev S1x128 : Shape := ⟨2, ![1, 128]⟩
abbrev S1x128x768 : Shape := ⟨3, ![1, 128, 768]⟩
abbrev S128x768 : Shape := ⟨2, ![128, 768]⟩
abbrev S1x768 : Shape := ⟨2, ![1, 768]⟩
abbrev S128 : Shape := ⟨1, ![128]⟩
abbrev S128x1 : Shape := ⟨2, ![128, 1]⟩
abbrev S768x2304 : Shape := ⟨2, ![768, 2304]⟩
abbrev S128x2304 : Shape := ⟨2, ![128, 2304]⟩
abbrev S128x64 : Shape := ⟨2, ![128, 64]⟩
abbrev S128x128 : Shape := ⟨2, ![128, 128]⟩
abbrev S768x768 : Shape := ⟨2, ![768, 768]⟩
abbrev S768x3072 : Shape := ⟨2, ![768, 3072]⟩
abbrev S128x3072 : Shape := ⟨2, ![128, 3072]⟩
abbrev S1x3072 : Shape := ⟨2, ![1, 3072]⟩
abbrev S3072x768 : Shape := ⟨2, ![3072, 768]⟩
abbrev S32x1x768 : Shape := ⟨3, ![32, 1, 768]⟩
abbrev S32x768 : Shape := ⟨2, ![32, 768]⟩
abbrev S1x40 : Shape := ⟨2, ![1, 40]⟩
abbrev S32x40 : Shape := ⟨2, ![32, 40]⟩
abbrev S16x768 : Shape := ⟨2, ![16, 768]⟩
abbrev S16x40 : Shape := ⟨2, ![16, 40]⟩
abbrev S16 : Shape := ⟨1, ![16]⟩
abbrev S16x1 : Shape := ⟨2, ![16, 1]⟩

abbrev nBuf : Space → Nat
  | .hbm => 34
  | .vmem => 35
  | .smem => 0
  | _ => 0

abbrev bufTy : (tb : Table) → Fin (tcTables nBuf tb) → BufTy
  | .hbm, ⟨0, _⟩ => ⟨S32x128x768, .f32⟩
  | .hbm, ⟨1, _⟩ => ⟨S12x768, .f32⟩
  | .hbm, ⟨2, _⟩ => ⟨S12x768, .f32⟩
  | .hbm, ⟨3, _⟩ => ⟨S12x768x2304, .f32⟩
  | .hbm, ⟨4, _⟩ => ⟨S12x768x768, .f32⟩
  | .hbm, ⟨5, _⟩ => ⟨S12x768, .f32⟩
  | .hbm, ⟨6, _⟩ => ⟨S12x768, .f32⟩
  | .hbm, ⟨7, _⟩ => ⟨S12x768, .f32⟩
  | .hbm, ⟨8, _⟩ => ⟨S12x768x3072, .f32⟩
  | .hbm, ⟨9, _⟩ => ⟨S12x3072, .f32⟩
  | .hbm, ⟨10, _⟩ => ⟨S12x3072x768, .f32⟩
  | .hbm, ⟨11, _⟩ => ⟨S12x768, .f32⟩
  | .hbm, ⟨12, _⟩ => ⟨S768, .f32⟩
  | .hbm, ⟨13, _⟩ => ⟨S768, .f32⟩
  | .hbm, ⟨14, _⟩ => ⟨S768x40, .f32⟩
  | .hbm, ⟨15, _⟩ => ⟨S40, .f32⟩
  | .hbm, ⟨16, _⟩ => ⟨S12x1x768, .f32⟩
  | .hbm, ⟨17, _⟩ => ⟨S12x1x768, .f32⟩
  | .hbm, ⟨18, _⟩ => ⟨S12x768x2304, .bf16⟩
  | .hbm, ⟨19, _⟩ => ⟨S12x768x768, .bf16⟩
  | .hbm, ⟨20, _⟩ => ⟨S12x1x768, .f32⟩
  | .hbm, ⟨21, _⟩ => ⟨S12x1x768, .f32⟩
  | .hbm, ⟨22, _⟩ => ⟨S12x1x768, .f32⟩
  | .hbm, ⟨23, _⟩ => ⟨S12x768x3072, .bf16⟩
  | .hbm, ⟨24, _⟩ => ⟨S12x1x3072, .f32⟩
  | .hbm, ⟨25, _⟩ => ⟨S12x3072x768, .bf16⟩
  | .hbm, ⟨26, _⟩ => ⟨S12x1x768, .f32⟩
  | .hbm, ⟨27, _⟩ => ⟨S32x128x768, .f32⟩
  | .hbm, ⟨28, _⟩ => ⟨S32x1x768, .f32⟩
  | .hbm, ⟨29, _⟩ => ⟨S32x768, .f32⟩
  | .hbm, ⟨30, _⟩ => ⟨S1x768, .f32⟩
  | .hbm, ⟨31, _⟩ => ⟨S1x768, .f32⟩
  | .hbm, ⟨32, _⟩ => ⟨S1x40, .f32⟩
  | .hbm, ⟨33, _⟩ => ⟨S32x40, .f32⟩
  | .local _ .vmem, ⟨0, _⟩ => ⟨S2x128x768, .f32⟩
  | .local _ .vmem, ⟨1, _⟩ => ⟨S2x128x768, .f32⟩
  | .local _ .vmem, ⟨2, _⟩ => ⟨S1x1x768, .f32⟩
  | .local _ .vmem, ⟨3, _⟩ => ⟨S1x1x768, .f32⟩
  | .local _ .vmem, ⟨4, _⟩ => ⟨S1x1x768, .f32⟩
  | .local _ .vmem, ⟨5, _⟩ => ⟨S1x1x768, .f32⟩
  | .local _ .vmem, ⟨6, _⟩ => ⟨S1x768x2304, .bf16⟩
  | .local _ .vmem, ⟨7, _⟩ => ⟨S1x768x2304, .bf16⟩
  | .local _ .vmem, ⟨8, _⟩ => ⟨S1x768x768, .bf16⟩
  | .local _ .vmem, ⟨9, _⟩ => ⟨S1x768x768, .bf16⟩
  | .local _ .vmem, ⟨10, _⟩ => ⟨S1x1x768, .f32⟩
  | .local _ .vmem, ⟨11, _⟩ => ⟨S1x1x768, .f32⟩
  | .local _ .vmem, ⟨12, _⟩ => ⟨S1x1x768, .f32⟩
  | .local _ .vmem, ⟨13, _⟩ => ⟨S1x1x768, .f32⟩
  | .local _ .vmem, ⟨14, _⟩ => ⟨S1x1x768, .f32⟩
  | .local _ .vmem, ⟨15, _⟩ => ⟨S1x1x768, .f32⟩
  | .local _ .vmem, ⟨16, _⟩ => ⟨S1x768x3072, .bf16⟩
  | .local _ .vmem, ⟨17, _⟩ => ⟨S1x768x3072, .bf16⟩
  | .local _ .vmem, ⟨18, _⟩ => ⟨S1x1x3072, .f32⟩
  | .local _ .vmem, ⟨19, _⟩ => ⟨S1x1x3072, .f32⟩
  | .local _ .vmem, ⟨20, _⟩ => ⟨S1x3072x768, .bf16⟩
  | .local _ .vmem, ⟨21, _⟩ => ⟨S1x3072x768, .bf16⟩
  | .local _ .vmem, ⟨22, _⟩ => ⟨S1x1x768, .f32⟩
  | .local _ .vmem, ⟨23, _⟩ => ⟨S1x1x768, .f32⟩
  | .local _ .vmem, ⟨24, _⟩ => ⟨S2x128x768, .f32⟩
  | .local _ .vmem, ⟨25, _⟩ => ⟨S2x128x768, .f32⟩
  | .local _ .vmem, ⟨26, _⟩ => ⟨S16x128x768, .f32⟩
  | .local _ .vmem, ⟨27, _⟩ => ⟨S16x768, .f32⟩
  | .local _ .vmem, ⟨28, _⟩ => ⟨S16x768, .f32⟩
  | .local _ .vmem, ⟨29, _⟩ => ⟨S1x768, .f32⟩
  | .local _ .vmem, ⟨30, _⟩ => ⟨S1x768, .f32⟩
  | .local _ .vmem, ⟨31, _⟩ => ⟨S768x40, .f32⟩
  | .local _ .vmem, ⟨32, _⟩ => ⟨S1x40, .f32⟩
  | .local _ .vmem, ⟨33, _⟩ => ⟨S16x40, .f32⟩
  | .local _ .vmem, ⟨34, _⟩ => ⟨S16x40, .f32⟩
  | _, _ => ⟨S32x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem3_0 : DmaSem sig := 30
abbrev cc1_sem4_0 : DmaSem sig := 31
abbrev cc1_sem5_0 : DmaSem sig := 32
abbrev cc1_sem5_1 : DmaSem sig := 33

abbrev nD : Nat := 1
abbrev τ : Topo := Topo.v7x

variable {F : FTy → Type} [FloatOps F]

abbrev grid0 : Pipeline.Grid := ⟨3, ![2, 12, 8], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let c2_i32_234 : BitVec 32 := 2#32
  let v680 : BitVec 32 := Scalar.muli arg2 c2_i32_234
  let v681 : Index := Scalar.indexCast v680
  let c0_235 : Index := 0#32
  let c0_236 : Index := 0#32
  ![v681.toNat, 0, 0]
def k0_off2 (i : grid0.Coords) (c0_i32_1 : BitVec 32) : Fin 3 → Nat :=
  let arg2 : BitVec 32 := BitVec.ofNat 32 (i 2).val
  let c2_i32 : BitVec 32 := 2#32
  let v6 : BitVec 32 := Scalar.muli arg2 c2_i32
  let v7 : BitVec 32 := Scalar.addi v6 c0_i32_1
  let v8 : Index := Scalar.indexCast v7
  let c0 : Index := 0#32
  let c0_2 : Index := 0#32
  ![v8.toNat, 0, 0]
def k0_off3 (i : grid0.Coords) : Fin 3 → Nat :=
  let arg2 : BitVec 32 := BitVec.ofNat 32 (i 2).val
  let c2_i32_225 : BitVec 32 := 2#32
  let v673 : BitVec 32 := Scalar.muli arg2 c2_i32_225
  let v674 : Index := Scalar.indexCast v673
  let c0_226 : Index := 0#32
  let c0_227 : Index := 0#32
  ![v674.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x768x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x768x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x768x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x3072x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x1x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S2x128x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S32x128x768 : Shape := ⟨3, ![32, 128, 768]⟩
abbrev S12x768 : Shape := ⟨2, ![12, 768]⟩
abbrev S12x768x2304 : Shape := ⟨3, ![12, 768, 2304]⟩
abbrev S12x768x768 : Shape := ⟨3, ![12, 768, 768]⟩
abbrev S12x768x3072 : Shape := ⟨3, ![12, 768, 3072]⟩
abbrev S12x3072 : Shape := ⟨2, ![12, 3072]⟩
abbrev S12x3072x768 : Shape := ⟨3, ![12, 3072, 768]⟩
abbrev S768 : Shape := ⟨1, ![768]⟩
abbrev S768x40 : Shape := ⟨2, ![768, 40]⟩
abbrev S40 : Shape := ⟨1, ![40]⟩
abbrev S32x101x768 : Shape := ⟨3, ![32, 101, 768]⟩
abbrev S_ : Shape := ⟨0, ![]⟩
abbrev S1x768 : Shape := ⟨2, ![1, 768]⟩
abbrev S1x768x2304 : Shape := ⟨3, ![1, 768, 2304]⟩
abbrev S768x2304 : Shape := ⟨2, ![768, 2304]⟩
abbrev S1x768x768 : Shape := ⟨3, ![1, 768, 768]⟩
abbrev S768x768 : Shape := ⟨2, ![768, 768]⟩
abbrev S1x768x3072 : Shape := ⟨3, ![1, 768, 3072]⟩
abbrev S768x3072 : Shape := ⟨2, ![768, 3072]⟩
abbrev S1x3072 : Shape := ⟨2, ![1, 3072]⟩
abbrev S3072 : Shape := ⟨1, ![3072]⟩
abbrev S1x3072x768 : Shape := ⟨3, ![1, 3072, 768]⟩
abbrev S3072x768 : Shape := ⟨2, ![3072, 768]⟩
abbrev S32x101 : Shape := ⟨2, ![32, 101]⟩
abbrev S32x101x1 : Shape := ⟨3, ![32, 101, 1]⟩
abbrev S1x1x768 : Shape := ⟨3, ![1, 1, 768]⟩
abbrev S32x101x2304 : Shape := ⟨3, ![32, 101, 2304]⟩
abbrev S32x101x3x12x64 : Shape := ⟨5, ![32, 101, 3, 12, 64]⟩
abbrev S32x101x1x12x64 : Shape := ⟨5, ![32, 101, 1, 12, 64]⟩
abbrev S32x101x12x64 : Shape := ⟨4, ![32, 101, 12, 64]⟩
abbrev S32x12x101x101 : Shape := ⟨4, ![32, 12, 101, 101]⟩
abbrev S32x12x101 : Shape := ⟨3, ![32, 12, 101]⟩
abbrev S32x12x101x1 : Shape := ⟨4, ![32, 12, 101, 1]⟩
abbrev S32x12x64x101 : Shape := ⟨4, ![32, 12, 64, 101]⟩
abbrev S32x101x3072 : Shape := ⟨3, ![32, 101, 3072]⟩
abbrev S1x1x3072 : Shape := ⟨3, ![1, 1, 3072]⟩
abbrev S32x1x768 : Shape := ⟨3, ![32, 1, 768]⟩
abbrev S32x768 : Shape := ⟨2, ![32, 768]⟩
abbrev S32x40 : Shape := ⟨2, ![32, 40]⟩
abbrev S1x40 : Shape := ⟨2, ![1, 40]⟩

abbrev nBuf : Space → Nat
  | .hbm => 219
  | .vmem => 0
  | .smem => 0
  | _ => 0

abbrev hbmTy0_0 (i : Nat) : BufTy := match i % 128 with
  | 0 => ⟨S32x128x768, .f32⟩
  | 1 => ⟨S12x768, .f32⟩
  | 2 => ⟨S12x768, .f32⟩
  | 3 => ⟨S12x768x2304, .f32⟩
  | 4 => ⟨S12x768x768, .f32⟩
  | 5 => ⟨S12x768, .f32⟩
  | 6 => ⟨S12x768, .f32⟩
  | 7 => ⟨S12x768, .f32⟩
  | 8 => ⟨S12x768x3072, .f32⟩
  | 9 => ⟨S12x3072, .f32⟩
  | 10 => ⟨S12x3072x768, .f32⟩
  | 11 => ⟨S12x768, .f32⟩
  | 12 => ⟨S768, .f32⟩
  | 13 => ⟨S768, .f32⟩
  | 14 => ⟨S768x40, .f32⟩
  | 15 => ⟨S40, .f32⟩
  | 16 => ⟨S32x101x768, .f32⟩
  | 17 => ⟨S_, .i32⟩
  | 18 => ⟨S12x768, .f32⟩
  | 19 => ⟨S12x768, .f32⟩
  | 20 => ⟨S12x768x2304, .f32⟩
  | 21 => ⟨S12x768x768, .f32⟩
  | 22 => ⟨S12x768, .f32⟩
  | 23 => ⟨S12x768, .f32⟩
  | 24 => ⟨S12x768, .f32⟩
  | 25 => ⟨S12x768x3072, .f32⟩
  | 26 => ⟨S12x3072, .f32⟩
  | 27 => ⟨S12x3072x768, .f32⟩
  | 28 => ⟨S12x768, .f32⟩
  | 29 => ⟨S_, .i32⟩
  | 30 => ⟨S32x101x768, .f32⟩
  | 31 => ⟨S_, .i32⟩
  | 32 => ⟨S_, .i1⟩
  | 33 => ⟨S_, .i32⟩
  | 34 => ⟨S1x768, .f32⟩
  | 35 => ⟨S768, .f32⟩
  | 36 => ⟨S_, .i32⟩
  | 37 => ⟨S1x768, .f32⟩
  | 38 => ⟨S768, .f32⟩
  | 39 => ⟨S_, .i32⟩
  | 40 => ⟨S_, .i32⟩
  | 41 => ⟨S1x768x2304, .f32⟩
  | 42 => ⟨S768x2304, .f32⟩
  | 43 => ⟨S_, .i32⟩
  | 44 => ⟨S_, .i32⟩
  | 45 => ⟨S1x768x768, .f32⟩
  | 46 => ⟨S768x768, .f32⟩
  | 47 => ⟨S_, .i32⟩
  | 48 => ⟨S1x768, .f32⟩
  | 49 => ⟨S768, .f32⟩
  | 50 => ⟨S_, .i32⟩
  | 51 => ⟨S1x768, .f32⟩
  | 52 => ⟨S768, .f32⟩
  | 53 => ⟨S_, .i32⟩
  | 54 => ⟨S1x768, .f32⟩
  | 55 => ⟨S768, .f32⟩
  | 56 => ⟨S_, .i32⟩
  | 57 => ⟨S_, .i32⟩
  | 58 => ⟨S1x768x3072, .f32⟩
  | 59 => ⟨S768x3072, .f32⟩
  | 60 => ⟨S_, .i32⟩
  | 61 => ⟨S1x3072, .f32⟩
  | 62 => ⟨S3072, .f32⟩
  | 63 => ⟨S_, .i32⟩
  | 64 => ⟨S_, .i32⟩
  | 65 => ⟨S1x3072x768, .f32⟩
  | 66 => ⟨S3072x768, .f32⟩
  | 67 => ⟨S_, .i32⟩
  | 68 => ⟨S1x768, .f32⟩
  | 69 => ⟨S768, .f32⟩
  | 70 => ⟨S_, .f32⟩
  | 71 => ⟨S32x101, .f32⟩
  | 72 => ⟨S32x101x1, .f32⟩
  | 73 => ⟨S_, .f32⟩
  | 74 => ⟨S32x101x1, .f32⟩
  | 75 => ⟨S32x101x1, .f32⟩
  | 76 => ⟨S32x101x768, .f32⟩
  | 77 => ⟨S32x101x768, .f32⟩
  | 78 => ⟨S32x101x768, .f32⟩
  | 79 => ⟨S_, .f32⟩
  | 80 => ⟨S32x101, .f32⟩
  | 81 => ⟨S32x101x1, .f32⟩
  | 82 => ⟨S_, .f32⟩
  | 83 => ⟨S32x101x1, .f32⟩
  | 84 => ⟨S32x101x1, .f32⟩
  | 85 => ⟨S32x101x768, .f32⟩
  | 86 => ⟨S32x101x768, .f32⟩
  | 87 => ⟨S_, .f32⟩
  | 88 => ⟨S32x101x1, .f32⟩
  | 89 => ⟨S32x101x1, .f32⟩
  | 90 => ⟨S32x101x1, .f32⟩
  | 91 => ⟨S32x101x768, .f32⟩
  | 92 => ⟨S32x101x768, .f32⟩
  | 93 => ⟨S1x1x768, .f32⟩
  | 94 => ⟨S32x101x768, .f32⟩
  | 95 => ⟨S32x101x768, .f32⟩
  | 96 => ⟨S1x1x768, .f32⟩
  | 97 => ⟨S32x101x768, .f32⟩
  | 98 => ⟨S32x101x768, .f32⟩
  | 99 => ⟨S32x101x2304, .f32⟩
  | 100 => ⟨S32x101x3x12x64, .f32⟩
  | 101 => ⟨S32x101x1x12x64, .f32⟩
  | 102 => ⟨S32x101x12x64, .f32⟩
  | 103 => ⟨S32x101x1x12x64, .f32⟩
  | 104 => ⟨S32x101x12x64, .f32⟩
  | 105 => ⟨S32x101x1x12x64, .f32⟩
  | 106 => ⟨S32x101x12x64, .f32⟩
  | 107 => ⟨S32x12x101x101, .f32⟩
  | 108 => ⟨S_, .f32⟩
  | 109 => ⟨S32x12x101x101, .f32⟩
  | 110 => ⟨S32x12x101x101, .f32⟩
  | 111 => ⟨S_, .f32⟩
  | 112 => ⟨S32x12x101, .f32⟩
  | 113 => ⟨S_, .f32⟩
  | 114 => ⟨S32x12x101, .f32⟩
  | 115 => ⟨S32x12x101, .f32⟩
  | 116 => ⟨S32x12x101x1, .f32⟩
  | 117 => ⟨S32x12x101x101, .f32⟩
  | 118 => ⟨S32x12x101x101, .f32⟩
  | 119 => ⟨S32x12x101x101, .f32⟩
  | 120 => ⟨S_, .f32⟩
  | 121 => ⟨S32x12x101, .f32⟩
  | 122 => ⟨S32x12x101x1, .f32⟩
  | 123 => ⟨S32x12x101x101, .f32⟩
  | 124 => ⟨S32x12x101x101, .f32⟩
  | 125 => ⟨S32x12x64x101, .f32⟩
  | 126 => ⟨S32x101x12x64, .f32⟩
  | 127 => ⟨S32x101x768, .f32⟩
  | _ => ⟨S32x128x768, .f32⟩

abbrev hbmTy0_1 (i : Nat) : BufTy := match i % 128 with
  | 0 => ⟨S32x101x768, .f32⟩
  | 1 => ⟨S32x101x768, .f32⟩
  | 2 => ⟨S1x1x768, .f32⟩
  | 3 => ⟨S32x101x768, .f32⟩
  | 4 => ⟨S32x101x768, .f32⟩
  | 5 => ⟨S_, .f32⟩
  | 6 => ⟨S32x101, .f32⟩
  | 7 => ⟨S32x101x1, .f32⟩
  | 8 => ⟨S_, .f32⟩
  | 9 => ⟨S32x101x1, .f32⟩
  | 10 => ⟨S32x101x1, .f32⟩
  | 11 => ⟨S32x101x768, .f32⟩
  | 12 => ⟨S32x101x768, .f32⟩
  | 13 => ⟨S32x101x768, .f32⟩
  | 14 => ⟨S_, .f32⟩
  | 15 => ⟨S32x101, .f32⟩
  | 16 => ⟨S32x101x1, .f32⟩
  | 17 => ⟨S_, .f32⟩
  | 18 => ⟨S32x101x1, .f32⟩
  | 19 => ⟨S32x101x1, .f32⟩
  | 20 => ⟨S32x101x768, .f32⟩
  | 21 => ⟨S32x101x768, .f32⟩
  | 22 => ⟨S_, .f32⟩
  | 23 => ⟨S32x101x1, .f32⟩
  | 24 => ⟨S32x101x1, .f32⟩
  | 25 => ⟨S32x101x1, .f32⟩
  | 26 => ⟨S32x101x768, .f32⟩
  | 27 => ⟨S32x101x768, .f32⟩
  | 28 => ⟨S1x1x768, .f32⟩
  | 29 => ⟨S32x101x768, .f32⟩
  | 30 => ⟨S32x101x768, .f32⟩
  | 31 => ⟨S1x1x768, .f32⟩
  | 32 => ⟨S32x101x768, .f32⟩
  | 33 => ⟨S32x101x768, .f32⟩
  | 34 => ⟨S32x101x3072, .f32⟩
  | 35 => ⟨S1x1x3072, .f32⟩
  | 36 => ⟨S32x101x3072, .f32⟩
  | 37 => ⟨S32x101x3072, .f32⟩
  | 38 => ⟨S_, .f32⟩
  | 39 => ⟨S32x101x3072, .f32⟩
  | 40 => ⟨S32x101x3072, .f32⟩
  | 41 => ⟨S_, .f32⟩
  | 42 => ⟨S32x101x3072, .f32⟩
  | 43 => ⟨S32x101x3072, .f32⟩
  | 44 => ⟨S32x101x3072, .f32⟩
  | 45 => ⟨S_, .f32⟩
  | 46 => ⟨S32x101x3072, .f32⟩
  | 47 => ⟨S32x101x3072, .f32⟩
  | 48 => ⟨S32x101x3072, .f32⟩
  | 49 => ⟨S32x101x768, .f32⟩
  | 50 => ⟨S32x101x768, .f32⟩
  | 51 => ⟨S1x1x768, .f32⟩
  | 52 => ⟨S32x101x768, .f32⟩
  | 53 => ⟨S32x101x768, .f32⟩
  | 54 => ⟨S_, .i32⟩
  | 55 => ⟨S_, .i32⟩
  | 56 => ⟨S_, .f32⟩
  | 57 => ⟨S32x101, .f32⟩
  | 58 => ⟨S32x101x1, .f32⟩
  | 59 => ⟨S_, .f32⟩
  | 60 => ⟨S32x101x1, .f32⟩
  | 61 => ⟨S32x101x1, .f32⟩
  | 62 => ⟨S32x101x768, .f32⟩
  | 63 => ⟨S32x101x768, .f32⟩
  | 64 => ⟨S32x101x768, .f32⟩
  | 65 => ⟨S_, .f32⟩
  | 66 => ⟨S32x101, .f32⟩
  | 67 => ⟨S32x101x1, .f32⟩
  | 68 => ⟨S_, .f32⟩
  | 69 => ⟨S32x101x1, .f32⟩
  | 70 => ⟨S32x101x1, .f32⟩
  | 71 => ⟨S32x101x768, .f32⟩
  | 72 => ⟨S32x101x768, .f32⟩
  | 73 => ⟨S_, .f32⟩
  | 74 => ⟨S32x101x1, .f32⟩
  | 75 => ⟨S32x101x1, .f32⟩
  | 76 => ⟨S32x101x1, .f32⟩
  | 77 => ⟨S32x101x768, .f32⟩
  | 78 => ⟨S32x101x768, .f32⟩
  | 79 => ⟨S1x1x768, .f32⟩
  | 80 => ⟨S32x101x768, .f32⟩
  | 81 => ⟨S32x101x768, .f32⟩
  | 82 => ⟨S1x1x768, .f32⟩
  | 83 => ⟨S32x101x768, .f32⟩
  | 84 => ⟨S32x101x768, .f32⟩
  | 85 => ⟨S32x1x768, .f32⟩
  | 86 => ⟨S32x768, .f32⟩
  | 87 => ⟨S32x40, .f32⟩
  | 88 => ⟨S1x40, .f32⟩
  | 89 => ⟨S32x40, .f32⟩
  | 90 => ⟨S32x40, .f32⟩
  | _ => ⟨S32x128x768, .f32⟩

abbrev hbmTy (i : Nat) : BufTy := match i / 128 with
  | 0 => hbmTy0_0 i
  | 1 => hbmTy0_1 i
  | _ => ⟨S32x128x768, .f32⟩

abbrev bufTy : (tb : Table) → Fin (tcTables nBuf tb) → BufTy
  | .hbm, ⟨i, _⟩ => hbmTy i
  | _, _ => ⟨S32x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1_0 : Ref sig .tc := ⟨.hbm, 18, rfl⟩
abbrev main_v1_1 : Ref sig .tc := ⟨.hbm, 19, rfl⟩
abbrev main_v1_2 : Ref sig .tc := ⟨.hbm, 20, rfl⟩
abbrev main_v1_3 : Ref sig .tc := ⟨.hbm, 21, rfl⟩
abbrev main_v1_4 : Ref sig .tc := ⟨.hbm, 22, rfl⟩
abbrev main_v1_5 : Ref sig .tc := ⟨.hbm, 23, rfl⟩
abbrev main_v1_6 : Ref sig .tc := ⟨.hbm, 24, rfl⟩
abbrev main_v1_7 : Ref sig .tc := ⟨.hbm, 25, rfl⟩
abbrev main_v1_8 : Ref sig .tc := ⟨.hbm, 26, rfl⟩
abbrev main_v1_9 : Ref sig .tc := ⟨.hbm, 27, rfl⟩
abbrev main_v1_10 : Ref sig .tc := ⟨.hbm, 28, rfl⟩
abbrev main_v1_11 : Ref sig .tc := ⟨.hbm, 29, rfl⟩
abbrev main_v1_12 : Ref sig .tc := ⟨.hbm, 30, rfl⟩
abbrev main_while0c_c_16 : Ref sig .tc := ⟨.hbm, 31, rfl⟩
abbrev main_while0c_v32 : Ref sig .tc := ⟨.hbm, 32, rfl⟩
abbrev main_while0b_call0_c : Ref sig .tc := ⟨.hbm, 33, rfl⟩
abbrev main_while0b_call0_v0 : Ref sig .tc := ⟨.hbm, 34, rfl⟩
abbrev main_while0b_v32 : Ref sig .tc := ⟨.hbm, 35, rfl⟩
abbrev main_while0b_call1_c : Ref sig .tc := ⟨.hbm, 36, rfl⟩
abbrev main_while0b_call1_v0 : Ref sig .tc := ⟨.hbm, 37, rfl⟩
abbrev main_while0b_v33 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_v0 : Ref sig .tc := ⟨.hbm, 41, rfl⟩
abbrev main_while0b_v34 : Ref sig .tc := ⟨.hbm, 42, rfl⟩
abbrev main_while0b_call3_c : Ref sig .tc := ⟨.hbm, 43, rfl⟩
abbrev main_while0b_call3_c_0 : Ref sig .tc := ⟨.hbm, 44, rfl⟩
abbrev main_while0b_call3_v0 : Ref sig .tc := ⟨.hbm, 45, rfl⟩
abbrev main_while0b_v35 : Ref sig .tc := ⟨.hbm, 46, rfl⟩
abbrev main_while0b_call4_c : Ref sig .tc := ⟨.hbm, 47, rfl⟩
abbrev main_while0b_call4_v0 : Ref sig .tc := ⟨.hbm, 48, rfl⟩
abbrev main_while0b_v36 : Ref sig .tc := ⟨.hbm, 49, rfl⟩
abbrev main_while0b_call5_c : Ref sig .tc := ⟨.hbm, 50, rfl⟩
abbrev main_while0b_call5_v0 : Ref sig .tc := ⟨.hbm, 51, rfl⟩
abbrev main_while0b_v37 : Ref sig .tc := ⟨.hbm, 52, rfl⟩
abbrev main_while0b_call6_c : Ref sig .tc := ⟨.hbm, 53, rfl⟩
abbrev main_while0b_call6_v0 : Ref sig .tc := ⟨.hbm, 54, rfl⟩
abbrev main_while0b_v38 : Ref sig .tc := ⟨.hbm, 55, rfl⟩
abbrev main_while0b_call7_c : Ref sig .tc := ⟨.hbm, 56, rfl⟩
abbrev main_while0b_call7_c_0 : Ref sig .tc := ⟨.hbm, 57, rfl⟩
abbrev main_while0b_call7_v0 : Ref sig .tc := ⟨.hbm, 58, rfl⟩
abbrev main_while0b_v39 : Ref sig .tc := ⟨.hbm, 59, rfl⟩
abbrev main_while0b_call8_c : Ref sig .tc := ⟨.hbm, 60, rfl⟩
abbrev main_while0b_call8_v0 : Ref sig .tc := ⟨.hbm, 61, rfl⟩
abbrev main_while0b_v40 : Ref sig .tc := ⟨.hbm, 62, rfl⟩
abbrev main_while0b_call9_c : Ref sig .tc := ⟨.hbm, 63, rfl⟩
abbrev main_while0b_call9_c_0 : Ref sig .tc := ⟨.hbm, 64, rfl⟩
abbrev main_while0b_call9_v0 : Ref sig .tc := ⟨.hbm, 65, rfl⟩
abbrev main_while0b_v41 : Ref sig .tc := ⟨.hbm, 66, rfl⟩
abbrev main_while0b_call10_c : Ref sig .tc := ⟨.hbm, 67, rfl⟩
abbrev main_while0b_call10_v0 : Ref sig .tc := ⟨.hbm, 68, rfl⟩
abbrev main_while0b_v42 : Ref sig .tc := ⟨.hbm, 69, rfl⟩
abbrev main_while0b_cst_16 : Ref sig .tc := ⟨.hbm, 70, rfl⟩
abbrev main_while0b_v43 : Ref sig .tc := ⟨.hbm, 71, rfl⟩
abbrev main_while0b_v44 : Ref sig .tc := ⟨.hbm, 72, rfl⟩
abbrev main_while0b_cst_17 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_cst_18 : Ref sig .tc := ⟨.hbm, 79, rfl⟩
abbrev main_while0b_v50 : Ref sig .tc := ⟨.hbm, 80, rfl⟩
abbrev main_while0b_v51 : Ref sig .tc := ⟨.hbm, 81, rfl⟩
abbrev main_while0b_cst_19 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_v55 : Ref sig .tc := ⟨.hbm, 86, rfl⟩
abbrev main_while0b_cst_20 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_cst_21 : Ref sig .tc := ⟨.hbm, 108, rfl⟩
abbrev main_while0b_v76 : Ref sig .tc := ⟨.hbm, 109, rfl⟩
abbrev main_while0b_v77 : Ref sig .tc := ⟨.hbm, 110, rfl⟩
abbrev main_while0b_cst_22 : Ref sig .tc := ⟨.hbm, 111, rfl⟩
abbrev main_while0b_v78 : Ref sig .tc := ⟨.hbm, 112, rfl⟩
abbrev main_while0b_cst_23 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_cst_24 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_v88 : Ref sig .tc := ⟨.hbm, 124, rfl⟩
abbrev main_while0b_v89 : Ref sig .tc := ⟨.hbm, 125, rfl⟩
abbrev main_while0b_v90 : Ref sig .tc := ⟨.hbm, 126, rfl⟩
abbrev main_while0b_v91 : Ref sig .tc := ⟨.hbm, 127, rfl⟩
abbrev main_while0b_v92 : Ref sig .tc := ⟨.hbm, 128, rfl⟩
abbrev main_while0b_v93 : Ref sig .tc := ⟨.hbm, 129, rfl⟩
abbrev main_while0b_v94 : Ref sig .tc := ⟨.hbm, 130, rfl⟩
abbrev main_while0b_v95 : Ref sig .tc := ⟨.hbm, 131, rfl⟩
abbrev main_while0b_v96 : Ref sig .tc := ⟨.hbm, 132, rfl⟩
abbrev main_while0b_cst_25 : Ref sig .tc := ⟨.hbm, 133, rfl⟩
abbrev main_while0b_v97 : Ref sig .tc := ⟨.hbm, 134, rfl⟩
abbrev main_while0b_v98 : Ref sig .tc := ⟨.hbm, 135, rfl⟩
abbrev main_while0b_cst_26 : Ref sig .tc := ⟨.hbm, 136, rfl⟩
abbrev main_while0b_v99 : Ref sig .tc := ⟨.hbm, 137, rfl⟩
abbrev main_while0b_v100 : Ref sig .tc := ⟨.hbm, 138, rfl⟩
abbrev main_while0b_v101 : Ref sig .tc := ⟨.hbm, 139, rfl⟩
abbrev main_while0b_v102 : Ref sig .tc := ⟨.hbm, 140, rfl⟩
abbrev main_while0b_v103 : Ref sig .tc := ⟨.hbm, 141, rfl⟩
abbrev main_while0b_cst_27 : Ref sig .tc := ⟨.hbm, 142, rfl⟩
abbrev main_while0b_v104 : Ref sig .tc := ⟨.hbm, 143, rfl⟩
abbrev main_while0b_v105 : Ref sig .tc := ⟨.hbm, 144, rfl⟩
abbrev main_while0b_cst_28 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_cst_29 : Ref sig .tc := ⟨.hbm, 150, rfl⟩
abbrev main_while0b_v110 : Ref sig .tc := ⟨.hbm, 151, rfl⟩
abbrev main_while0b_v111 : Ref sig .tc := ⟨.hbm, 152, rfl⟩
abbrev main_while0b_v112 : Ref sig .tc := ⟨.hbm, 153, rfl⟩
abbrev main_while0b_v113 : Ref sig .tc := ⟨.hbm, 154, rfl⟩
abbrev main_while0b_v114 : Ref sig .tc := ⟨.hbm, 155, rfl⟩
abbrev main_while0b_v115 : Ref sig .tc := ⟨.hbm, 156, rfl⟩
abbrev main_while0b_v116 : Ref sig .tc := ⟨.hbm, 157, rfl⟩
abbrev main_while0b_v117 : Ref sig .tc := ⟨.hbm, 158, rfl⟩
abbrev main_while0b_v118 : Ref sig .tc := ⟨.hbm, 159, rfl⟩
abbrev main_while0b_v119 : Ref sig .tc := ⟨.hbm, 160, rfl⟩
abbrev main_while0b_v120 : Ref sig .tc := ⟨.hbm, 161, rfl⟩
abbrev main_while0b_v121 : Ref sig .tc := ⟨.hbm, 162, rfl⟩
abbrev main_while0b_v122 : Ref sig .tc := ⟨.hbm, 163, rfl⟩
abbrev main_while0b_v123 : Ref sig .tc := ⟨.hbm, 164, rfl⟩
abbrev main_while0b_v124 : Ref sig .tc := ⟨.hbm, 165, rfl⟩
abbrev main_while0b_cst_30 : Ref sig .tc := ⟨.hbm, 166, rfl⟩
abbrev main_while0b_v125 : Ref sig .tc := ⟨.hbm, 167, rfl⟩
abbrev main_while0b_v126 : Ref sig .tc := ⟨.hbm, 168, rfl⟩
abbrev main_while0b_cst_31 : Ref sig .tc := ⟨.hbm, 169, rfl⟩
abbrev main_while0b_v127 : Ref sig .tc := ⟨.hbm, 170, rfl⟩
abbrev main_while0b_v128 : Ref sig .tc := ⟨.hbm, 171, rfl⟩
abbrev main_while0b_v129 : Ref sig .tc := ⟨.hbm, 172, rfl⟩
abbrev main_while0b_cst_32 : Ref sig .tc := ⟨.hbm, 173, rfl⟩
abbrev main_while0b_v130 : Ref sig .tc := ⟨.hbm, 174, rfl⟩
abbrev main_while0b_v131 : Ref sig .tc := ⟨.hbm, 175, rfl⟩
abbrev main_while0b_v132 : Ref sig .tc := ⟨.hbm, 176, rfl⟩
abbrev main_while0b_v133 : Ref sig .tc := ⟨.hbm, 177, rfl⟩
abbrev main_while0b_v134 : Ref sig .tc := ⟨.hbm, 178, rfl⟩
abbrev main_while0b_v135 : Ref sig .tc := ⟨.hbm, 179, rfl⟩
abbrev main_while0b_v136 : Ref sig .tc := ⟨.hbm, 180, rfl⟩
abbrev main_while0b_v137 : Ref sig .tc := ⟨.hbm, 181, rfl⟩
abbrev main_while0b_c_33 : Ref sig .tc := ⟨.hbm, 182, rfl⟩
abbrev main_while0b_v138 : Ref sig .tc := ⟨.hbm, 183, rfl⟩
abbrev main_cst : Ref sig .tc := ⟨.hbm, 184, rfl⟩
abbrev main_v2 : Ref sig .tc := ⟨.hbm, 185, rfl⟩
abbrev main_v3 : Ref sig .tc := ⟨.hbm, 186, rfl⟩
abbrev main_cst_0 : Ref sig .tc := ⟨.hbm, 187, rfl⟩
abbrev main_v4 : Ref sig .tc := ⟨.hbm, 188, rfl⟩
abbrev main_v5 : Ref sig .tc := ⟨.hbm, 189, rfl⟩
abbrev main_v6 : Ref sig .tc := ⟨.hbm, 190, rfl⟩
abbrev main_v7 : Ref sig .tc := ⟨.hbm, 191, rfl⟩
abbrev main_v8 : Ref sig .tc := ⟨.hbm, 192, rfl⟩
abbrev main_cst_1 : Ref sig .tc := ⟨.hbm, 193, rfl⟩
abbrev main_v9 : Ref sig .tc := ⟨.hbm, 194, rfl⟩
abbrev main_v10 : Ref sig .tc := ⟨.hbm, 195, rfl⟩
abbrev main_cst_2 : Ref sig .tc := ⟨.hbm, 196, rfl⟩
abbrev main_v11 : Ref sig .tc := ⟨.hbm, 197, rfl⟩
abbrev main_v12 : Ref sig .tc := ⟨.hbm, 198, rfl⟩
abbrev main_v13 : Ref sig .tc := ⟨.hbm, 199, rfl⟩
abbrev main_v14 : Ref sig .tc := ⟨.hbm, 200, rfl⟩
abbrev main_cst_3 : Ref sig .tc := ⟨.hbm, 201, rfl⟩
abbrev main_v15 : Ref sig .tc := ⟨.hbm, 202, rfl⟩
abbrev main_v16 : Ref sig .tc := ⟨.hbm, 203, rfl⟩
abbrev main_v17 : Ref sig .tc := ⟨.hbm, 204, rfl⟩
abbrev main_v18 : Ref sig .tc := ⟨.hbm, 205, rfl⟩
abbrev main_v19 : Ref sig .tc := ⟨.hbm, 206, rfl⟩
abbrev main_v20 : Ref sig .tc := ⟨.hbm, 207, rfl⟩
abbrev main_v21 : Ref sig .tc := ⟨.hbm, 208, rfl⟩
abbrev main_v22 : Ref sig .tc := ⟨.hbm, 209, rfl⟩
abbrev main_v23 : Ref sig .tc := ⟨.hbm, 210, rfl⟩
abbrev main_v24 : Ref sig .tc := ⟨.hbm, 211, rfl⟩
abbrev main_v25 : Ref sig .tc := ⟨.hbm, 212, rfl⟩
abbrev main_v26 : Ref sig .tc := ⟨.hbm, 213, rfl⟩
abbrev main_v27 : Ref sig .tc := ⟨.hbm, 214, rfl⟩
abbrev main_v28 : Ref sig .tc := ⟨.hbm, 215, rfl⟩
abbrev main_v29 : Ref sig .tc := ⟨.hbm, 216, rfl⟩
abbrev main_v30 : Ref sig .tc := ⟨.hbm, 217, rfl⟩
abbrev main_v31 : Ref sig .tc := ⟨.hbm, 218, rfl⟩

abbrev nD : Nat := 1
abbrev τ : Topo := Topo.v7x

variable {F : FTy → Type} [FloatOps F]

abbrev main_while0_count : Scf.Loop 32 := ⟨0#32, 12#32, 1#32⟩
-- ==== Kernel2.lean ====
abbrev S32x2048x3 : Shape := ⟨3, ![32, 2048, 3]⟩
abbrev S6x32 : Shape := ⟨2, ![6, 32]⟩
abbrev S32x64 : Shape := ⟨2, ![32, 64]⟩
abbrev S64x128 : Shape := ⟨2, ![64, 128]⟩
abbrev S256x768 : Shape := ⟨2, ![256, 768]⟩
abbrev S100 : Shape := ⟨1, ![100]⟩
abbrev S1x1x768 : Shape := ⟨3, ![1, 1, 768]⟩
abbrev S1x101x768 : Shape := ⟨3, ![1, 101, 768]⟩
abbrev S3 : Shape := ⟨1, ![3]⟩
abbrev S3x32 : Shape := ⟨2, ![3, 32]⟩
abbrev S_ : Shape := ⟨0, ![]⟩
abbrev S3x1 : Shape := ⟨2, ![3, 1]⟩
abbrev S128x768 : Shape := ⟨2, ![128, 768]⟩
abbrev S100x1 : Shape := ⟨2, ![100, 1]⟩
abbrev S100x768 : Shape := ⟨2, ![100, 768]⟩
abbrev S1 : Shape := ⟨1, ![1]⟩
abbrev S1x100x768 : Shape := ⟨3, ![1, 100, 768]⟩
abbrev S1x768 : Shape := ⟨2, ![1, 768]⟩
abbrev S32x128x768 : Shape := ⟨3, ![32, 128, 768]⟩
abbrev S1x2048x3 : Shape := ⟨3, ![1, 2048, 3]⟩
abbrev S1x128x768 : Shape := ⟨3, ![1, 128, 768]⟩
abbrev S16x8x896 : Shape := ⟨3, ![16, 8, 896]⟩
abbrev S2048x3 : Shape := ⟨2, ![2048, 3]⟩
abbrev S2048x1 : Shape := ⟨2, ![2048, 1]⟩
abbrev S2048x128 : Shape := ⟨2, ![2048, 128]⟩
abbrev S128x1 : Shape := ⟨2, ![128, 1]⟩
abbrev S128x3 : Shape := ⟨2, ![128, 3]⟩
abbrev S2048x32 : Shape := ⟨2, ![2048, 32]⟩
abbrev S2048x64 : Shape := ⟨2, ![2048, 64]⟩
abbrev S2048x768 : Shape := ⟨2, ![2048, 768]⟩
abbrev S2048x896 : Shape := ⟨2, ![2048, 896]⟩
abbrev S896 : Shape := ⟨1, ![896]⟩
abbrev S1x896 : Shape := ⟨2, ![1, 896]⟩
abbrev S8x896 : Shape := ⟨2, ![8, 896]⟩
abbrev S1x8x896 : Shape := ⟨3, ![1, 8, 896]⟩
abbrev S128x896 : Shape := ⟨2, ![128, 896]⟩
abbrev S128x128 : Shape := ⟨2, ![128, 128]⟩
abbrev S127x768 : Shape := ⟨2, ![127, 768]⟩

abbrev nBuf : Space → Nat
  | .hbm => 66
  | .vmem => 14
  | .smem => 0
  | _ => 0

abbrev bufTy : (tb : Table) → Fin (tcTables nBuf tb) → BufTy
  | .hbm, ⟨0, _⟩ => ⟨S32x2048x3, .f32⟩
  | .hbm, ⟨1, _⟩ => ⟨S6x32, .f32⟩
  | .hbm, ⟨2, _⟩ => ⟨S32x64, .f32⟩
  | .hbm, ⟨3, _⟩ => ⟨S64x128, .f32⟩
  | .hbm, ⟨4, _⟩ => ⟨S256x768, .f32⟩
  | .hbm, ⟨5, _⟩ => ⟨S100, .f32⟩
  | .hbm, ⟨6, _⟩ => ⟨S100, .f32⟩
  | .hbm, ⟨7, _⟩ => ⟨S100, .f32⟩
  | .hbm, ⟨8, _⟩ => ⟨S100, .f32⟩
  | .hbm, ⟨9, _⟩ => ⟨S1x1x768, .f32⟩
  | .hbm, ⟨10, _⟩ => ⟨S1x101x768, .f32⟩
  | .hbm, ⟨11, _⟩ => ⟨S3, .i32⟩
  | .hbm, ⟨12, _⟩ => ⟨S3x32, .f32⟩
  | .hbm, ⟨13, _⟩ => ⟨S_, .i32⟩
  | .hbm, ⟨14, _⟩ => ⟨S3, .i32⟩
  | .hbm, ⟨15, _⟩ => ⟨S3, .i1⟩
  | .hbm, ⟨16, _⟩ => ⟨S_, .i32⟩
  | .hbm, ⟨17, _⟩ => ⟨S3, .i32⟩
  | .hbm, ⟨18, _⟩ => ⟨S3, .i32⟩
  | .hbm, ⟨19, _⟩ => ⟨S3, .i32⟩
  | .hbm, ⟨20, _⟩ => ⟨S3x1, .i32⟩
  | .hbm, ⟨21, _⟩ => ⟨S3x32, .f32⟩
  | .hbm, ⟨22, _⟩ => ⟨S3x32, .f32⟩
  | .hbm, ⟨23, _⟩ => ⟨S_, .i32⟩
  | .hbm, ⟨24, _⟩ => ⟨S3, .i32⟩
  | .hbm, ⟨25, _⟩ => ⟨S3, .i1⟩
  | .hbm, ⟨26, _⟩ => ⟨S_, .i32⟩
  | .hbm, ⟨27, _⟩ => ⟨S3, .i32⟩
  | .hbm, ⟨28, _⟩ => ⟨S3, .i32⟩
  | .hbm, ⟨29, _⟩ => ⟨S3, .i32⟩
  | .hbm, ⟨30, _⟩ => ⟨S3x1, .i32⟩
  | .hbm, ⟨31, _⟩ => ⟨S3x32, .f32⟩
  | .hbm, ⟨32, _⟩ => ⟨S6x32, .f32⟩
  | .hbm, ⟨33, _⟩ => ⟨S3x32, .f32⟩
  | .hbm, ⟨34, _⟩ => ⟨S3x32, .f32⟩
  | .hbm, ⟨35, _⟩ => ⟨S128x768, .f32⟩
  | .hbm, ⟨36, _⟩ => ⟨S128x768, .f32⟩
  | .hbm, ⟨37, _⟩ => ⟨S_, .f32⟩
  | .hbm, ⟨38, _⟩ => ⟨S100, .f32⟩
  | .hbm, ⟨39, _⟩ => ⟨S100, .f32⟩
  | .hbm, ⟨40, _⟩ => ⟨S100, .f32⟩
  | .hbm, ⟨41, _⟩ => ⟨S100, .f32⟩
  | .hbm, ⟨42, _⟩ => ⟨S100, .f32⟩
  | .hbm, ⟨43, _⟩ => ⟨S100, .f32⟩
  | .hbm, ⟨44, _⟩ => ⟨S_, .f32⟩
  | .hbm, ⟨45, _⟩ => ⟨S128x768, .f32⟩
  | .hbm, ⟨46, _⟩ => ⟨S100x1, .f32⟩
  | .hbm, ⟨47, _⟩ => ⟨S100x768, .f32⟩
  | .hbm, ⟨48, _⟩ => ⟨S_, .i32⟩
  | .hbm, ⟨49, _⟩ => ⟨S1, .i32⟩
  | .hbm, ⟨50, _⟩ => ⟨S128x768, .f32⟩
  | .hbm, ⟨51, _⟩ => ⟨S_, .f32⟩
  | .hbm, ⟨52, _⟩ => ⟨S128x768, .f32⟩
  | .hbm, ⟨53, _⟩ => ⟨S100x1, .f32⟩
  | .hbm, ⟨54, _⟩ => ⟨S1x100x768, .f32⟩
  | .hbm, ⟨55, _⟩ => ⟨S100x768, .f32⟩
  | .hbm, ⟨56, _⟩ => ⟨S100x768, .f32⟩
  | .hbm, ⟨57, _⟩ => ⟨S100x768, .f32⟩
  | .hbm, ⟨58, _⟩ => ⟨S_, .i32⟩
  | .hbm, ⟨59, _⟩ => ⟨S1, .i32⟩
  | .hbm, ⟨60, _⟩ => ⟨S128x768, .f32⟩
  | .hbm, ⟨61, _⟩ => ⟨S1x768, .f32⟩
  | .hbm, ⟨62, _⟩ => ⟨S1x1x768, .f32⟩
  | .hbm, ⟨63, _⟩ => ⟨S1x768, .f32⟩
  | .hbm, ⟨64, _⟩ => ⟨S1x768, .f32⟩
  | .hbm, ⟨65, _⟩ => ⟨S32x128x768, .f32⟩
  | .local _ .vmem, ⟨0, _⟩ => ⟨S1x2048x3, .f32⟩
  | .local _ .vmem, ⟨1, _⟩ => ⟨S1x2048x3, .f32⟩
  | .local _ .vmem, ⟨2, _⟩ => ⟨S3x32, .f32⟩
  | .local _ .vmem, ⟨3, _⟩ => ⟨S3x32, .f32⟩
  | .local _ .vmem, ⟨4, _⟩ => ⟨S32x64, .f32⟩
  | .local _ .vmem, ⟨5, _⟩ => ⟨S64x128, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S1x768, .f32⟩
  | .local _ .vmem, ⟨11, _⟩ => ⟨S1x128x768, .f32⟩
  | .local _ .vmem, ⟨12, _⟩ => ⟨S1x128x768, .f32⟩
  | .local _ .vmem, ⟨13, _⟩ => ⟨S16x8x896, .bf16⟩
  | _, _ => ⟨S32x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_c_0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c13_i32 : BitVec 32 := 13#32
  let v67 : BitVec 32 := Scalar.addi c0_i32 c13_i32
  let c1_i32 : BitVec 32 := 1#32
  ⟨c0_i32, v67, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v185 : Index := Scalar.indexCast arg13
  let c0_79 : Index := 0#32
  let c0_80 : Index := 0#32
  ![v185.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x128x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
variable {F : FTy → Type} [FloatOps F] [Named F]
def κ : String → Option EReal := fun
  | "mask" => some ⊥
  | _ => none
-- ==== Reference2Ideal.lean ====
abbrev S32x2048x3 : Shape := ⟨3, ![32, 2048, 3]⟩
abbrev S6x32 : Shape := ⟨2, ![6, 32]⟩
abbrev S32x64 : Shape := ⟨2, ![32, 64]⟩
abbrev S64x128 : Shape := ⟨2, ![64, 128]⟩
abbrev S256x768 : Shape := ⟨2, ![256, 768]⟩
abbrev S100 : Shape := ⟨1, ![100]⟩
abbrev S1x1x768 : Shape := ⟨3, ![1, 1, 768]⟩
abbrev S1x101x768 : Shape := ⟨3, ![1, 101, 768]⟩
abbrev S3 : Shape := ⟨1, ![3]⟩
abbrev S_ : Shape := ⟨0, ![]⟩
abbrev S3x1 : Shape := ⟨2, ![3, 1]⟩
abbrev S32x2048x2 : Shape := ⟨3, ![32, 2048, 2]⟩
abbrev S32x2048x1 : Shape := ⟨3, ![32, 2048, 1]⟩
abbrev S32x2048 : Shape := ⟨2, ![32, 2048]⟩
abbrev S1x1x100 : Shape := ⟨3, ![1, 1, 100]⟩
abbrev S32x2048x100 : Shape := ⟨3, ![32, 2048, 100]⟩
abbrev S32x2048x100x1 : Shape := ⟨4, ![32, 2048, 100, 1]⟩
abbrev S32x2048x1x1 : Shape := ⟨4, ![32, 2048, 1, 1]⟩
abbrev S32x100x1 : Shape := ⟨3, ![32, 100, 1]⟩
abbrev S32x2048x1x3 : Shape := ⟨4, ![32, 2048, 1, 3]⟩
abbrev S32x2048x100x3 : Shape := ⟨4, ![32, 2048, 100, 3]⟩
abbrev S32x100x3 : Shape := ⟨3, ![32, 100, 3]⟩
abbrev S1 : Shape := ⟨1, ![1]⟩
abbrev S1x1x1 : Shape := ⟨3, ![1, 1, 1]⟩
abbrev S32x2048x6 : Shape := ⟨3, ![32, 2048, 6]⟩
abbrev S32x2048x32 : Shape := ⟨3, ![32, 2048, 32]⟩
abbrev S32x2048x64 : Shape := ⟨3, ![32, 2048, 64]⟩
abbrev S32x2048x128 : Shape := ⟨3, ![32, 2048, 128]⟩
abbrev S32x2048x1x128 : Shape := ⟨4, ![32, 2048, 1, 128]⟩
abbrev S32x2048x100x128 : Shape := ⟨4, ![32, 2048, 100, 128]⟩
abbrev S32x100x128 : Shape := ⟨3, ![32, 100, 128]⟩
abbrev S32x2048x256 : Shape := ⟨3, ![32, 2048, 256]⟩
abbrev S32x2048x768 : Shape := ⟨3, ![32, 2048, 768]⟩
abbrev S32x2048x1x768 : Shape := ⟨4, ![32, 2048, 1, 768]⟩
abbrev S32x2048x100x768 : Shape := ⟨4, ![32, 2048, 100, 768]⟩
abbrev S32x100x768 : Shape := ⟨3, ![32, 100, 768]⟩
abbrev S1x100x1 : Shape := ⟨3, ![1, 100, 1]⟩
abbrev S32x1x768 : Shape := ⟨3, ![32, 1, 768]⟩
abbrev S32x101x768 : Shape := ⟨3, ![32, 101, 768]⟩
abbrev S32x128x768 : Shape := ⟨3, ![32, 128, 768]⟩

abbrev nBuf : Space → Nat
  | .hbm => 192
  | .vmem => 0
  | .smem => 0
  | _ => 0

abbrev hbmTy0_0 (i : Nat) : BufTy := match i % 128 with
  | 0 => ⟨S32x2048x3, .f32⟩
  | 1 => ⟨S6x32, .f32⟩
  | 2 => ⟨S32x64, .f32⟩
  | 3 => ⟨S64x128, .f32⟩
  | 4 => ⟨S256x768, .f32⟩
  | 5 => ⟨S100, .f32⟩
  | 6 => ⟨S100, .f32⟩
  | 7 => ⟨S100, .f32⟩
  | 8 => ⟨S100, .f32⟩
  | 9 => ⟨S1x1x768, .f32⟩
  | 10 => ⟨S1x101x768, .f32⟩
  | 11 => ⟨S3, .i32⟩
  | 12 => ⟨S_, .i32⟩
  | 13 => ⟨S3, .i32⟩
  | 14 => ⟨S3, .i1⟩
  | 15 => ⟨S_, .i32⟩
  | 16 => ⟨S3, .i32⟩
  | 17 => ⟨S3, .i32⟩
  | 18 => ⟨S3, .i32⟩
  | 19 => ⟨S3x1, .i32⟩
  | 20 => ⟨S32x2048x3, .f32⟩
  | 21 => ⟨S32x2048x2, .f32⟩
  | 22 => ⟨S_, .f32⟩
  | 23 => ⟨S32x2048x2, .f32⟩
  | 24 => ⟨S32x2048x2, .f32⟩
  | 25 => ⟨S_, .f32⟩
  | 26 => ⟨S_, .f32⟩
  | 27 => ⟨S_, .f32⟩
  | 28 => ⟨S32x2048x2, .f32⟩
  | 29 => ⟨S32x2048x2, .f32⟩
  | 30 => ⟨S_, .f32⟩
  | 31 => ⟨S32x2048x2, .f32⟩
  | 32 => ⟨S32x2048x2, .f32⟩
  | 33 => ⟨S_, .f32⟩
  | 34 => ⟨S32x2048x2, .f32⟩
  | 35 => ⟨S32x2048x2, .f32⟩
  | 36 => ⟨S32x2048x2, .f32⟩
  | 37 => ⟨S32x2048x2, .i32⟩
  | 38 => ⟨S32x2048x1, .i32⟩
  | 39 => ⟨S32x2048, .i32⟩
  | 40 => ⟨S_, .i32⟩
  | 41 => ⟨S32x2048, .i32⟩
  | 42 => ⟨S32x2048, .i32⟩
  | 43 => ⟨S32x2048x1, .i32⟩
  | 44 => ⟨S32x2048, .i32⟩
  | 45 => ⟨S32x2048, .i32⟩
  | 46 => ⟨S32x2048x1, .i32⟩
  | 47 => ⟨S100, .i32⟩
  | 48 => ⟨S1x1x100, .i32⟩
  | 49 => ⟨S32x2048x100, .i32⟩
  | 50 => ⟨S32x2048x100, .i32⟩
  | 51 => ⟨S32x2048x100, .i1⟩
  | 52 => ⟨S_, .f32⟩
  | 53 => ⟨S32x2048x1, .f32⟩
  | 54 => ⟨S32x2048x100x1, .i1⟩
  | 55 => ⟨S32x2048x1x1, .f32⟩
  | 56 => ⟨S_, .f32⟩
  | 57 => ⟨S_, .f32⟩
  | 58 => ⟨S32x2048x100x1, .f32⟩
  | 59 => ⟨S32x2048x100x1, .f32⟩
  | 60 => ⟨S32x2048x100x1, .f32⟩
  | 61 => ⟨S_, .f32⟩
  | 62 => ⟨S32x100x1, .f32⟩
  | 63 => ⟨S32x2048x100x1, .i1⟩
  | 64 => ⟨S32x2048x1x3, .f32⟩
  | 65 => ⟨S_, .f32⟩
  | 66 => ⟨S_, .f32⟩
  | 67 => ⟨S32x2048x100x3, .i1⟩
  | 68 => ⟨S32x2048x100x3, .f32⟩
  | 69 => ⟨S32x2048x100x3, .f32⟩
  | 70 => ⟨S32x2048x100x3, .f32⟩
  | 71 => ⟨S_, .f32⟩
  | 72 => ⟨S32x100x3, .f32⟩
  | 73 => ⟨S_, .f32⟩
  | 74 => ⟨S32x100x1, .f32⟩
  | 75 => ⟨S32x100x1, .f32⟩
  | 76 => ⟨S32x100x3, .f32⟩
  | 77 => ⟨S32x100x3, .f32⟩
  | 78 => ⟨S32x2048x1, .i32⟩
  | 79 => ⟨S_, .i32⟩
  | 80 => ⟨S32x2048x1, .i32⟩
  | 81 => ⟨S32x2048x1, .i1⟩
  | 82 => ⟨S_, .i32⟩
  | 83 => ⟨S32x2048x1, .i32⟩
  | 84 => ⟨S32x2048x1, .i32⟩
  | 85 => ⟨S32x2048x1, .i32⟩
  | 86 => ⟨S1, .i32⟩
  | 87 => ⟨S_, .i32⟩
  | 88 => ⟨S32x2048x1, .i32⟩
  | 89 => ⟨S32x2048x1, .i1⟩
  | 90 => ⟨S1x1x1, .i32⟩
  | 91 => ⟨S32x2048x1, .i32⟩
  | 92 => ⟨S32x2048x1, .i1⟩
  | 93 => ⟨S32x2048x1, .i1⟩
  | 94 => ⟨S_, .i1⟩
  | 95 => ⟨S32x2048, .i1⟩
  | 96 => ⟨S32x2048x3, .f32⟩
  | 97 => ⟨S32x2048x3, .i1⟩
  | 98 => ⟨S_, .f32⟩
  | 99 => ⟨S32x2048x3, .f32⟩
  | 100 => ⟨S32x2048x3, .f32⟩
  | 101 => ⟨S32x2048x3, .f32⟩
  | 102 => ⟨S32x2048x6, .f32⟩
  | 103 => ⟨S32x2048x32, .f32⟩
  | 104 => ⟨S_, .f32⟩
  | 105 => ⟨S32x2048x32, .f32⟩
  | 106 => ⟨S32x2048x32, .f32⟩
  | 107 => ⟨S32x2048x64, .f32⟩
  | 108 => ⟨S_, .f32⟩
  | 109 => ⟨S32x2048x64, .f32⟩
  | 110 => ⟨S32x2048x64, .f32⟩
  | 111 => ⟨S32x2048x128, .f32⟩
  | 112 => ⟨S_, .f32⟩
  | 113 => ⟨S32x2048x128, .f32⟩
  | 114 => ⟨S32x2048x128, .f32⟩
  | 115 => ⟨S32x2048x100x1, .i1⟩
  | 116 => ⟨S32x2048x1x128, .f32⟩
  | 117 => ⟨S_, .f32⟩
  | 118 => ⟨S_, .f32⟩
  | 119 => ⟨S32x2048x100x128, .i1⟩
  | 120 => ⟨S32x2048x100x128, .f32⟩
  | 121 => ⟨S32x2048x100x128, .f32⟩
  | 122 => ⟨S32x2048x100x128, .f32⟩
  | 123 => ⟨S_, .f32⟩
  | 124 => ⟨S32x100x128, .f32⟩
  | 125 => ⟨S32x2048x1, .i32⟩
  | 126 => ⟨S_, .i32⟩
  | 127 => ⟨S32x2048x1, .i32⟩
  | _ => ⟨S32x2048x3, .f32⟩

abbrev hbmTy0_1 (i : Nat) : BufTy := match i % 128 with
  | 0 => ⟨S32x2048x1, .i1⟩
  | 1 => ⟨S_, .i32⟩
  | 2 => ⟨S32x2048x1, .i32⟩
  | 3 => ⟨S32x2048x1, .i32⟩
  | 4 => ⟨S32x2048x1, .i32⟩
  | 5 => ⟨S1, .i32⟩
  | 6 => ⟨S_, .i32⟩
  | 7 => ⟨S32x2048x1, .i32⟩
  | 8 => ⟨S32x2048x1, .i1⟩
  | 9 => ⟨S1x1x1, .i32⟩
  | 10 => ⟨S32x2048x1, .i32⟩
  | 11 => ⟨S32x2048x1, .i1⟩
  | 12 => ⟨S32x2048x1, .i1⟩
  | 13 => ⟨S_, .i1⟩
  | 14 => ⟨S32x2048, .i1⟩
  | 15 => ⟨S32x2048x128, .f32⟩
  | 16 => ⟨S32x2048x128, .i1⟩
  | 17 => ⟨S_, .f32⟩
  | 18 => ⟨S32x2048x128, .f32⟩
  | 19 => ⟨S32x2048x128, .f32⟩
  | 20 => ⟨S32x2048x256, .f32⟩
  | 21 => ⟨S32x2048x768, .f32⟩
  | 22 => ⟨S_, .f32⟩
  | 23 => ⟨S32x2048x768, .f32⟩
  | 24 => ⟨S32x2048x768, .f32⟩
  | 25 => ⟨S_, .f32⟩
  | 26 => ⟨S32x100x1, .f32⟩
  | 27 => ⟨S32x100x1, .i1⟩
  | 28 => ⟨S32x2048x100x1, .i1⟩
  | 29 => ⟨S32x2048x1x768, .f32⟩
  | 30 => ⟨S_, .f32⟩
  | 31 => ⟨S_, .f32⟩
  | 32 => ⟨S32x2048x100x768, .i1⟩
  | 33 => ⟨S32x2048x100x768, .f32⟩
  | 34 => ⟨S32x2048x100x768, .f32⟩
  | 35 => ⟨S32x2048x100x768, .f32⟩
  | 36 => ⟨S_, .f32⟩
  | 37 => ⟨S32x100x768, .f32⟩
  | 38 => ⟨S_, .f32⟩
  | 39 => ⟨S_, .f32⟩
  | 40 => ⟨S32x100x768, .i1⟩
  | 41 => ⟨S32x100x768, .f32⟩
  | 42 => ⟨S32x100x768, .f32⟩
  | 43 => ⟨S_, .f32⟩
  | 44 => ⟨S100, .f32⟩
  | 45 => ⟨S100, .f32⟩
  | 46 => ⟨S100, .f32⟩
  | 47 => ⟨S100, .f32⟩
  | 48 => ⟨S1x100x1, .f32⟩
  | 49 => ⟨S32x100x768, .f32⟩
  | 50 => ⟨S32x100x768, .f32⟩
  | 51 => ⟨S1x100x1, .f32⟩
  | 52 => ⟨S32x100x768, .f32⟩
  | 53 => ⟨S32x100x768, .f32⟩
  | 54 => ⟨S1x100x1, .f32⟩
  | 55 => ⟨S32x100x768, .f32⟩
  | 56 => ⟨S32x100x768, .f32⟩
  | 57 => ⟨S32x1x768, .f32⟩
  | 58 => ⟨S32x101x768, .f32⟩
  | 59 => ⟨S32x101x768, .f32⟩
  | 60 => ⟨S32x101x768, .f32⟩
  | 61 => ⟨S_, .i32⟩
  | 62 => ⟨S_, .f32⟩
  | 63 => ⟨S32x128x768, .f32⟩
  | _ => ⟨S32x2048x3, .f32⟩

abbrev hbmTy (i : Nat) : BufTy := match i / 128 with
  | 0 => hbmTy0_0 i
  | 1 => hbmTy0_1 i
  | _ => ⟨S32x2048x3, .f32⟩

abbrev bufTy : (tb : Table) → Fin (tcTables nBuf tb) → BufTy
  | .hbm, ⟨i, _⟩ => hbmTy i
  | _, _ => ⟨S32x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_c_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v10 : Ref sig .tc := ⟨.hbm, 32, rfl⟩
abbrev main_cst_4 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v31 : Ref sig .tc := ⟨.hbm, 60, rfl⟩
abbrev main_cst_8 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_9 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_v35 : Ref sig .tc := ⟨.hbm, 70, rfl⟩
abbrev main_cst_10 : Ref sig .tc := ⟨.hbm, 71, rfl⟩
abbrev main_v36 : Ref sig .tc := ⟨.hbm, 72, rfl⟩
abbrev main_cst_11 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_1 : Ref sig .tc := ⟨.hbm, 86, rfl⟩
abbrev main_call3_c_2 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_c_3 : Ref sig .tc := ⟨.hbm, 94, rfl⟩
abbrev main_call3_v11 : Ref sig .tc := ⟨.hbm, 95, rfl⟩
abbrev main_call3_v12 : Ref sig .tc := ⟨.hbm, 96, rfl⟩
abbrev main_call3_v13 : Ref sig .tc := ⟨.hbm, 97, rfl⟩
abbrev main_call3_cst : Ref sig .tc := ⟨.hbm, 98, rfl⟩
abbrev main_call3_v14 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_call4_cst : Ref sig .tc := ⟨.hbm, 104, rfl⟩
abbrev main_call4_v0 : Ref sig .tc := ⟨.hbm, 105, rfl⟩
abbrev main_v46 : Ref sig .tc := ⟨.hbm, 106, rfl⟩
abbrev main_v47 : Ref sig .tc := ⟨.hbm, 107, rfl⟩
abbrev main_call5_cst : Ref sig .tc := ⟨.hbm, 108, rfl⟩
abbrev main_call5_v0 : Ref sig .tc := ⟨.hbm, 109, rfl⟩
abbrev main_v48 : Ref sig .tc := ⟨.hbm, 110, rfl⟩
abbrev main_v49 : Ref sig .tc := ⟨.hbm, 111, rfl⟩
abbrev main_call6_cst : Ref sig .tc := ⟨.hbm, 112, rfl⟩
abbrev main_call6_v0 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_12 : Ref sig .tc := ⟨.hbm, 117, rfl⟩
abbrev main_call7_v0 : Ref sig .tc := ⟨.hbm, 118, rfl⟩
abbrev main_call7_v1 : Ref sig .tc := ⟨.hbm, 119, rfl⟩
abbrev main_call7_v2 : Ref sig .tc := ⟨.hbm, 120, rfl⟩
abbrev main_call7_v3 : Ref sig .tc := ⟨.hbm, 121, rfl⟩
abbrev main_v53 : Ref sig .tc := ⟨.hbm, 122, rfl⟩
abbrev main_cst_13 : Ref sig .tc := ⟨.hbm, 123, rfl⟩
abbrev main_v54 : Ref sig .tc := ⟨.hbm, 124, rfl⟩
abbrev main_v55 : Ref sig .tc := ⟨.hbm, 125, rfl⟩
abbrev main_call8_c : Ref sig .tc := ⟨.hbm, 126, rfl⟩
abbrev main_call8_v0 : Ref sig .tc := ⟨.hbm, 127, rfl⟩
abbrev main_call8_v1 : Ref sig .tc := ⟨.hbm, 128, rfl⟩
abbrev main_call8_c_0 : Ref sig .tc := ⟨.hbm, 129, rfl⟩
abbrev main_call8_v2 : Ref sig .tc := ⟨.hbm, 130, rfl⟩
abbrev main_call8_v3 : Ref sig .tc := ⟨.hbm, 131, rfl⟩
abbrev main_call8_v4 : Ref sig .tc := ⟨.hbm, 132, rfl⟩
abbrev main_call8_c_1 : Ref sig .tc := ⟨.hbm, 133, rfl⟩
abbrev main_call8_c_2 : Ref sig .tc := ⟨.hbm, 134, rfl⟩
abbrev main_call8_v5 : Ref sig .tc := ⟨.hbm, 135, rfl⟩
abbrev main_call8_v6 : Ref sig .tc := ⟨.hbm, 136, rfl⟩
abbrev main_call8_v7 : Ref sig .tc := ⟨.hbm, 137, rfl⟩
abbrev main_call8_v8 : Ref sig .tc := ⟨.hbm, 138, rfl⟩
abbrev main_call8_v9 : Ref sig .tc := ⟨.hbm, 139, rfl⟩
abbrev main_call8_v10 : Ref sig .tc := ⟨.hbm, 140, rfl⟩
abbrev main_call8_c_3 : Ref sig .tc := ⟨.hbm, 141, rfl⟩
abbrev main_call8_v11 : Ref sig .tc := ⟨.hbm, 142, rfl⟩
abbrev main_call8_v12 : Ref sig .tc := ⟨.hbm, 143, rfl⟩
abbrev main_call8_v13 : Ref sig .tc := ⟨.hbm, 144, rfl⟩
abbrev main_call8_cst : Ref sig .tc := ⟨.hbm, 145, rfl⟩
abbrev main_call8_v14 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_call9_cst : Ref sig .tc := ⟨.hbm, 150, rfl⟩
abbrev main_call9_v0 : Ref sig .tc := ⟨.hbm, 151, rfl⟩
abbrev main_v59 : Ref sig .tc := ⟨.hbm, 152, rfl⟩
abbrev main_cst_14 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_cst_15 : Ref sig .tc := ⟨.hbm, 158, rfl⟩
abbrev main_call10_v0 : Ref sig .tc := ⟨.hbm, 159, rfl⟩
abbrev main_call10_v1 : Ref sig .tc := ⟨.hbm, 160, rfl⟩
abbrev main_call10_v2 : Ref sig .tc := ⟨.hbm, 161, rfl⟩
abbrev main_call10_v3 : Ref sig .tc := ⟨.hbm, 162, rfl⟩
abbrev main_v64 : Ref sig .tc := ⟨.hbm, 163, rfl⟩
abbrev main_cst_16 : Ref sig .tc := ⟨.hbm, 164, rfl⟩
abbrev main_v65 : Ref sig .tc := ⟨.hbm, 165, rfl⟩
abbrev main_cst_17 : Ref sig .tc := ⟨.hbm, 166, rfl⟩
abbrev main_call11_v0 : Ref sig .tc := ⟨.hbm, 167, rfl⟩
abbrev main_call11_v1 : Ref sig .tc := ⟨.hbm, 168, rfl⟩
abbrev main_call11_v2 : Ref sig .tc := ⟨.hbm, 169, rfl⟩
abbrev main_v66 : Ref sig .tc := ⟨.hbm, 170, rfl⟩
abbrev main_cst_18 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_c_19 : Ref sig .tc := ⟨.hbm, 189, rfl⟩
abbrev main_call12_v0 : Ref sig .tc := ⟨.hbm, 190, rfl⟩
abbrev main_v84 : Ref sig .tc := ⟨.hbm, 191, rfl⟩

abbrev nD : Nat := 1
abbrev τ : Topo := Topo.v7x

variable {F : FTy → Type} [FloatOps F]
-- ==== Proof.LayerI.lean ====
/-
  One encoder layer of the transformer kernel, on ONE batch row, as vector operations: the functions the two copies of
  the layer in the kernel's body (one per batch row of the block) are instances of.
-/
module

public import proofs.«01_k».proof.Proof.Gen.KernelIdeal.Skeleton

@[expose] public section

set_option maxRecDepth 16384

noncomputable section

namespace Cert.KernelIdeal.Vit

open Idealize.ShloMosaic Idealize.SL.Sem
open Cert.KernelIdeal.Gen

variable {F : FTy → Type} [FloatOps F]

/-- The mean of each row of a 128-row block, kept as a column. -/
def rowMean (t : FVec F S128x768 .f32) : FVec F S128x1 .f32 :=
  divf (shapeCast S128x1 (multiReduction .add [1] S128 t 0x00000000#32 reduces_S128x768_S128 (.inl rfl) rfl) shapeCasts_S128_S128x1)
    (broadcast S128x1 (Scalar.ofBits .f32 0x44400000#32))
/-- Each row with its mean taken off. -/
def centred (t : FVec F S128x768 .f32) : FVec F S128x768 .f32 :=
  subf t (broadcastTo S128x768 (rowMean t) broadcasts_S128x1_S128x768)
/-- The reciprocal root of each row's variance plus the small constant. -/
def invStd (t : FVec F S128x768 .f32) : FVec F S128x1 .f32 :=
  rsqrt (addf (rowMean (mulf (centred t) (centred t))) (broadcast S128x1 (Scalar.ofBits .f32 0x3727C5AC#32)))
/-- Layer normalisation of the block's rows with a scale and a shift, rounded for the matrix unit. -/
def lnorm (t : FVec F S128x768 .f32) (g b : Vec F S1x1x768 .f32) : FVec F S128x768 .bf16 :=
  truncf .bf16
    (addf
      (mulf (mulf (centred t) (broadcastTo S128x768 (invStd t) broadcasts_S128x1_S128x768))
        (broadcastTo S128x768 (shapeCast S1x768 g shapeCasts_S1x1x768_S1x768) broadcasts_S1x768_S128x768))
      (broadcastTo S128x768 (shapeCast S1x768 b shapeCasts_S1x1x768_S1x768) broadcasts_S1x768_S128x768))
    bitsLt_bf16_f32
/-- The queries, keys and values of every head, side by side. -/
def qkvOf (y : FVec F S128x768 .bf16) (w : Vec F S1x768x2304 .bf16) : FVec F S128x2304 .f32 :=
  matmul dot_S128x768_S768x2304_S128x2304_1_0_0_1_n_n none y (shapeCast S768x2304 w shapeCasts_S1x768x2304_S768x2304)
    (constant S128x2304 .f32 0x00000000#32)
/-- The scaled scores of one head: its queries start at column `oq`, its keys at `ok`. -/
def scoreAt (oq ok : Nat) (hq : S128x2304.Slices ![0, oq] S128x64) (hk : S128x2304.Slices ![0, ok] S128x64)
    (z : FVec F S128x2304 .f32) : FVec F S128x128 .f32 :=
  matmul dot_S128x64_S128x64_S128x128_1_1_0_0_n_n none
    (truncf .bf16 (mulf (extractStridedSlice S128x64 ![0, oq] z hq) (broadcast S128x64 (Scalar.ofBits .f32 0x3E000000#32))) bitsLt_bf16_f32)
    (truncf .bf16 (extractStridedSlice S128x64 ![0, ok] z hk) bitsLt_bf16_f32)
    (constant S128x128 .f32 0x00000000#32)
/-- The exponentials of the scores, zero in the padding columns. -/
def expMask (s : FVec F S128x128 .f32) : FVec F S128x128 .f32 :=
  select (broadcastTo S128x128 (shapeCast S1x128 k0_pay4 shapeCasts_S1x128_S1x128) broadcasts_S1x128_S128x128) (exp s)
    (broadcast S128x128 (Scalar.ofBits .f32 0x00000000#32))
/-- The attention weights of one head. -/
def probOf (s : FVec F S128x128 .f32) : FVec F S128x128 .bf16 :=
  truncf .bf16
    (divf (expMask s)
      (broadcastTo S128x128
        (shapeCast S128x1 (multiReduction .add [1] S128 (expMask s) 0x00000000#32 reduces_S128x128_S128 (.inl rfl) rfl) shapeCasts_S128_S128x1)
        broadcasts_S128x1_S128x128))
    bitsLt_bf16_f32
/-- The weighted values of one head: its values start at column `ov`. -/
def headAt (ov : Nat) (hv : S128x2304.Slices ![0, ov] S128x64) (z : FVec F S128x2304 .f32) (p : FVec F S128x128 .bf16) : FVec F S128x64 .f32 :=
  matmul dot_S128x128_S128x64_S128x64_1_0_0_1_n_n none p
    (truncf .bf16 (extractStridedSlice S128x64 ![0, ov] z hv) bitsLt_bf16_f32) (constant S128x64 .f32 0x00000000#32)

/-- A block of 64 columns starting at `64 (h + 12 k)`, `k < 3`, lies inside the 2304. -/
theorem slice_ok (k : Fin 3) (h : Fin 12) : S128x2304.Slices ![0, 768 * k.val + 64 * h.val] S128x64 := by
  revert k h; decide
/-- Head `h`, from the queries, keys and values of all heads. -/
def headOf (z : FVec F S128x2304 .f32) (h : Fin 12) : FVec F S128x64 .f32 :=
  headAt (768 * 2 + 64 * h.val) (slice_ok 2 h) z
    (probOf (scoreAt (768 * 0 + 64 * h.val) (768 * 1 + 64 * h.val) (slice_ok 0 h) (slice_ok 1 h) z))
/-- The twelve heads side by side, rounded. -/
def attn (z : FVec F S128x2304 .f32) : FVec F S128x768 .bf16 :=
  truncf .bf16
    (concatenate S128x768 1
      [⟨S128x64, headOf z 0⟩, ⟨S128x64, headOf z 1⟩, ⟨S128x64, headOf z 2⟩, ⟨S128x64, headOf z 3⟩, ⟨S128x64, headOf z 4⟩, ⟨S128x64, headOf z 5⟩,
        ⟨S128x64, headOf z 6⟩, ⟨S128x64, headOf z 7⟩, ⟨S128x64, headOf z 8⟩, ⟨S128x64, headOf z 9⟩, ⟨S128x64, headOf z 10⟩, ⟨S128x64, headOf z 11⟩]
      concatenates_S128x64_S128x64_S128x64_S128x64_S128x64_S128x64_S128x64_S128x64_S128x64_S128x64_S128x64_S128x64_S128x768_d1)
    bitsLt_bf16_f32
/-- The block after the attention's projection, its residual and its bias. -/
def projOf (t : FVec F S128x768 .f32) (o : FVec F S128x768 .bf16) (w : Vec F S1x768x768 .bf16) (b : Vec F S1x1x768 .f32) : FVec F S128x768 .f32 :=
  addf (addf t (matmul dot_S128x768_S768x768_S128x768_1_0_0_1_n_n none o (shapeCast S768x768 w shapeCasts_S1x768x768_S768x768)
      (constant S128x768 .f32 0x00000000#32)))
    (broadcastTo S128x768 (shapeCast S1x768 b shapeCasts_S1x1x768_S1x768) broadcasts_S1x768_S128x768)
/-- The first feed-forward product with its bias. -/
def fc1Of (y : FVec F S128x768 .bf16) (w : Vec F S1x768x3072 .bf16) (b : Vec F S1x1x3072 .f32) : FVec F S128x3072 .f32 :=
  addf (matmul dot_S128x768_S768x3072_S128x3072_1_0_0_1_n_n none y (shapeCast S768x3072 w shapeCasts_S1x768x3072_S768x3072)
      (constant S128x3072 .f32 0x00000000#32))
    (broadcastTo S128x3072 (shapeCast S1x3072 b shapeCasts_S1x1x3072_S1x3072) broadcasts_S1x3072_S128x3072)
/-- The feed-forward activation, rounded. -/
def geluOf (a : FVec F S128x3072 .f32) : FVec F S128x3072 .bf16 :=
  truncf .bf16
    (mulf (mulf a (broadcast S128x3072 (Scalar.ofBits .f32 0x3F000000#32)))
      (addf (broadcast S128x3072 (Scalar.ofBits .f32 0x3F800000#32))
        (erf (mulf a (broadcast S128x3072 (Scalar.ofBits .f32 0x3F3504F3#32))))))
    bitsLt_bf16_f32
/-- The block plus the second feed-forward product. -/
def fc2Of (t : FVec F S128x768 .f32) (a : FVec F S128x3072 .bf16) (w : Vec F S1x3072x768 .bf16) : FVec F S128x768 .f32 :=
  addf t (matmul dot_S128x3072_S3072x768_S128x768_1_0_0_1_n_n none a (shapeCast S3072x768 w shapeCasts_S1x3072x768_S3072x768)
      (constant S128x768 .f32 0x00000000#32))
/-- The bias of the second product. -/
def biasOf (t : FVec F S128x768 .f32) (b : Vec F S1x1x768 .f32) : FVec F S128x768 .f32 :=
  addf t (broadcastTo S128x768 (shapeCast S1x768 b shapeCasts_S1x1x768_S1x768) broadcasts_S1x768_S128x768)
/-- The block after the attention half of the layer. -/
def midOf (t : FVec F S128x768 .f32) (x1 x2 : Vec F S1x1x768 .f32) (x3 : Vec F S1x768x2304 .bf16) (x4 : Vec F S1x768x768 .bf16)
    (x5 : Vec F S1x1x768 .f32) : FVec F S128x768 .f32 :=
  projOf t (attn (qkvOf (lnorm t x1 x2) x3)) x4 x5
/-- The feed-forward half. -/
def ffnOf (t : FVec F S128x768 .f32) (x6 x7 : Vec F S1x1x768 .f32) (x8 : Vec F S1x768x3072 .bf16)
    (x9 : Vec F S1x1x3072 .f32) (x10 : Vec F S1x3072x768 .bf16) (x11 : Vec F S1x1x768 .f32) : FVec F S128x768 .f32 :=
  biasOf (fc2Of t (geluOf (fc1Of (lnorm t x6 x7) x8 x9)) x10) x11
/-- The whole layer on one batch row. -/
def layerOf (t : FVec F S128x768 .f32) (x1 x2 : Vec F S1x1x768 .f32) (x3 : Vec F S1x768x2304 .bf16) (x4 : Vec F S1x768x768 .bf16)
    (x5 x6 x7 : Vec F S1x1x768 .f32) (x8 : Vec F S1x768x3072 .bf16)
    (x9 : Vec F S1x1x3072 .f32) (x10 : Vec F S1x3072x768 .bf16) (x11 : Vec F S1x1x768 .f32) : FVec F S128x768 .f32 :=
  ffnOf (midOf t x1 x2 x3 x4 x5) x6 x7 x8 x9 x10 x11

/-- One row of the two-row block, the unit axis dropped. -/
def dropRow (v : Vec F S1x128x768 .f32) : FVec F S128x768 .f32 := shapeCast S128x768 v shapeCasts_S1x128x768_S128x768
/-- Two rows stacked into a block. -/
def pairUp (a b : FVec F S128x768 .f32) : FVec F S2x128x768 .f32 :=
  concatenate S2x128x768 0
    [⟨S1x128x768, shapeCast S1x128x768 a shapeCasts_S128x768_S1x128x768⟩, ⟨S1x128x768, shapeCast S1x128x768 b shapeCasts_S128x768_S1x128x768⟩]
    concatenates_S1x128x768_S1x128x768_S2x128x768_d0

/-! ### The kernel's named values are these -/

section Pay
variable (v9 v14 : Vec F S1x128x768 .f32) (x1 x2 : Vec F S1x1x768 .f32) (x3 : Vec F S1x768x2304 .bf16) (x4 : Vec F S1x768x768 .bf16)
    (x5 x6 x7 : Vec F S1x1x768 .f32) (x8 : Vec F S1x768x3072 .bf16)
    (x9 : Vec F S1x1x3072 .f32) (x10 : Vec F S1x3072x768 .bf16) (x11 : Vec F S1x1x768 .f32)
    (z : FVec F S128x2304 .f32) (s : FVec F S128x128 .f32)

theorem pay11_eq : k0_pay11 (k0_pay7 x1) (k0_pay8 x2) (k0_pay9 v9) (k0_pay10 v9) x3 = qkvOf (lnorm (dropRow v9) x1 x2) x3 := rfl
theorem pay12_eq : k0_pay12 (k0_pay6 v14) x1 x2 x3 = qkvOf (lnorm (dropRow v14) x1 x2) x3 := rfl
end Pay
end Cert.KernelIdeal.Vit
end
-- ==== Proof.BodyI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.LayerI
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit
public import Idealize.ShloMosaic.Lib.Pipeline.ReadBack

@[expose] public section

-- membership in a rectangle of production extents (`View.cover_of_tiled`): the elaborator's structural look
-- recurses once per coordinate of the long axes
set_option maxRecDepth 16384

noncomputable section

namespace Cert.KernelIdeal.Vit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of grid coordinate `b`'s two rows in the carried buffer lie inside it. -/
theorem rows_inb (b : Fin 8) : ∀ a, (![2 * b.val, 0, 0] : Fin 3 → ℕ) a + S2x128x768.size a ≤ S16x128x768.size a := by
  revert b; decide +kernel
/-- Row `g` of a two-row block lies inside the block. -/
theorem row_inb (g : Fin 2) : ∀ a, (![g.val, 0, 0] : Fin 3 → ℕ) a + S1x128x768.size a ≤ S2x128x768.size a := by
  revert g; decide +kernel
/-- The two rows of the carried buffer that a point with third coordinate `b` works on. -/
def rowsOf (b : Fin 8) (xs : Vec F S16x128x768 .f32) : Vec F S2x128x768 .f32 :=
  VecWindow.window xs ![2 * b.val, 0, 0] S2x128x768.size (rows_inb b)
/-- The carried buffer with those two rows replaced. -/
def putRows (b : Fin 8) (xs : Vec F S16x128x768 .f32) (w : Vec F S2x128x768 .f32) : Vec F S16x128x768 .f32 :=
  VecWindow.put xs ![2 * b.val, 0, 0] S2x128x768.size w
/-- One row of a two-row block. -/
def rowOf (g : Fin 2) (x : Vec F S2x128x768 .f32) : FVec F S128x768 .f32 :=
  dropRow (VecWindow.window x ![g.val, 0, 0] S1x128x768.size (row_inb g))
/-- The layer applied to both rows of a block. -/
def layer2 (x : Vec F S2x128x768 .f32) (x1 x2 : Vec F S1x1x768 .f32) (x3 : Vec F S1x768x2304 .bf16) (x4 : Vec F S1x768x768 .bf16)
    (x5 x6 x7 : Vec F S1x1x768 .f32) (x8 : Vec F S1x768x3072 .bf16)
    (x9 : Vec F S1x1x3072 .f32) (x10 : Vec F S1x3072x768 .bf16) (x11 : Vec F S1x1x768 .f32) : Vec F S2x128x768 .f32 :=
  pairUp (layerOf (rowOf 0 x) x1 x2 x3 x4 x5 x6 x7 x8 x9 x10 x11) (layerOf (rowOf 1 x) x1 x2 x3 x4 x5 x6 x7 x8 x9 x10 x11)

/-- A row of the two rows a point works on, read straight out of the carried buffer. -/
theorem rowOf_rowsOf (b : Fin 8) (g : Fin 2) (xs : Vec F S16x128x768 .f32)
    (h : ∀ a, (![2 * b.val + g.val, 0, 0] : Fin 3 → ℕ) a + S1x128x768.size a ≤ S16x128x768.size a) :
    dropRow (VecWindow.window xs ![2 * b.val + g.val, 0, 0] S1x128x768.size h) = rowOf g (rowsOf b xs) := by
  unfold rowOf rowsOf
  congr 1
  funext y
  unfold VecWindow.window
  congr 1
  funext a
  apply Fin.ext
  fin_cases a
  · show 2 * b.val + g.val + 1 * (y 0).val = 2 * b.val + 1 * (g.val + 1 * (y 0).val); omega
  · show 0 + 1 * (y 1).val = 0 + 1 * (0 + 1 * (y 1).val); omega
  · show 0 + 1 * (y 2).val = 0 + 1 * (0 + 1 * (y 2).val); omega

/-- The scores of head `h`. -/
def scoreH (z : FVec F S128x2304 .f32) (h : Fin 12) : FVec F S128x128 .f32 :=
  scoreAt (768 * 0 + 64 * h.val) (768 * 1 + 64 * h.val) (slice_ok 0 h) (slice_ok 1 h) z
section PayEq
variable (v9 v14 : Vec F S1x128x768 .f32) (x1 x2 : Vec F S1x1x768 .f32) (x3 : Vec F S1x768x2304 .bf16) (x4 : Vec F S1x768x768 .bf16)
    (x5 x6 x7 : Vec F S1x1x768 .f32) (x8 : Vec F S1x768x3072 .bf16)
    (x9 : Vec F S1x1x3072 .f32) (x10 : Vec F S1x3072x768 .bf16) (x11 : Vec F S1x1x768 .f32)
    (z : FVec F S128x2304 .f32) (s : FVec F S128x128 .f32) (t t2 : FVec F S128x768 .f32) (o y : FVec F S128x768 .bf16) (f : FVec F S128x3072 .f32)
/-- A named value of the body is the scores of head 0. -/
theorem pay15_eq : k0_pay15 (qkvOf (lnorm (dropRow v9) x1 x2) x3) (k0_pay13 (k0_pay7 x1) (k0_pay8 x2) (k0_pay9 v9) (k0_pay10 v9) x3) k0_pay14 = scoreH (qkvOf (lnorm (dropRow v9) x1 x2) x3) 0 := rfl
/-- A named value of the body is the scores of head 1. -/
theorem pay16_eq : k0_pay16 z = scoreH z 1 := rfl
/-- A named value of the body is the scores of head 2. -/
theorem pay17_eq : k0_pay17 z = scoreH z 2 := rfl
/-- A named value of the body is the scores of head 3. -/
theorem pay18_eq : k0_pay18 z = scoreH z 3 := rfl
/-- A named value of the body is the scores of head 4. -/
theorem pay19_eq : k0_pay19 z = scoreH z 4 := rfl
/-- A named value of the body is the scores of head 5. -/
theorem pay20_eq : k0_pay20 z = scoreH z 5 := rfl
/-- A named value of the body is the scores of head 6. -/
theorem pay21_eq : k0_pay21 z = scoreH z 6 := rfl
/-- A named value of the body is the scores of head 7. -/
theorem pay22_eq : k0_pay22 z = scoreH z 7 := rfl
/-- A named value of the body is the scores of head 8. -/
theorem pay23_eq : k0_pay23 z = scoreH z 8 := rfl
/-- A named value of the body is the scores of head 9. -/
theorem pay24_eq : k0_pay24 z = scoreH z 9 := rfl
/-- A named value of the body is the scores of head 10. -/
theorem pay25_eq : k0_pay25 z = scoreH z 10 := rfl
/-- A named value of the body is the scores of head 11. -/
theorem pay26_eq : k0_pay26 z = scoreH z 11 := rfl
/-- A named value of the body is the scores of head 0. -/
theorem pay27_eq : k0_pay27 z = scoreH z 0 := rfl
/-- A named value of the body is the scores of head 1. -/
theorem pay30_eq : k0_pay30 (k0_pay28 z) (k0_pay29 z) = scoreH z 1 := rfl
/-- A named value of the body is the scores of head 2. -/
theorem pay31_eq : k0_pay31 z = scoreH z 2 := rfl
/-- A named value of the body is the scores of head 3. -/
theorem pay32_eq : k0_pay32 z = scoreH z 3 := rfl
/-- A named value of the body is the scores of head 4. -/
theorem pay33_eq : k0_pay33 z = scoreH z 4 := rfl
/-- A named value of the body is the scores of head 5. -/
theorem pay34_eq : k0_pay34 z = scoreH z 5 := rfl
/-- A named value of the body is the scores of head 6. -/
theorem pay35_eq : k0_pay35 z = scoreH z 6 := rfl
/-- A named value of the body is the scores of head 7. -/
theorem pay36_eq : k0_pay36 z = scoreH z 7 := rfl
/-- A named value of the body is the scores of head 8. -/
theorem pay39_eq : k0_pay39 z (k0_pay37 z) k0_pay38 = scoreH z 8 := rfl
/-- A named value of the body is the scores of head 9. -/
theorem pay40_eq : k0_pay40 z = scoreH z 9 := rfl
/-- A named value of the body is the scores of head 10. -/
theorem pay41_eq : k0_pay41 z = scoreH z 10 := rfl
/-- A named value of the body is the scores of head 11. -/
theorem pay42_eq : k0_pay42 z = scoreH z 11 := rfl
/-- A named value of the body is the weights of the scores it is given. -/
theorem pay43_eq : k0_pay43 k0_pay4 s = probOf s := rfl
/-- A named value of the body is the weights of the scores it is given. -/
theorem pay44_eq : k0_pay44 k0_pay4 s = probOf s := rfl
/-- A named value of the body is the weights of the scores it is given. -/
theorem pay47_eq : k0_pay47 (k0_pay45 s) (FloatOps.ofBits .f32 0#32) (k0_pay46 k0_pay4) = probOf s := rfl
/-- A named value of the body is the weights of the scores it is given. -/
theorem pay48_eq : k0_pay48 k0_pay4 s = probOf s := rfl
/-- A named value of the body is the weights of the scores it is given. -/
theorem pay49_eq : k0_pay49 k0_pay4 s = probOf s := rfl
/-- A named value of the body is the weights of the scores it is given. -/
theorem pay50_eq : k0_pay50 k0_pay4 s = probOf s := rfl
/-- A named value of the body is the weights of the scores it is given. -/
theorem pay51_eq : k0_pay51 k0_pay4 s = probOf s := rfl
/-- A named value of the body is the weights of the scores it is given. -/
theorem pay54_eq : k0_pay54 (k0_pay52 s) (FloatOps.ofBits .f32 0#32) (k0_pay53 k0_pay4) = probOf s := rfl
/-- A named value of the body is the weights of the scores it is given. -/
theorem pay55_eq : k0_pay55 k0_pay4 s = probOf s := rfl
/-- A named value of the body is the weights of the scores it is given. -/
theorem pay56_eq : k0_pay56 k0_pay4 s = probOf s := rfl
/-- A named value of the body is the weights of the scores it is given. -/
theorem pay57_eq : k0_pay57 k0_pay4 s = probOf s := rfl
/-- A named value of the body is the weights of the scores it is given. -/
theorem pay58_eq : k0_pay58 k0_pay4 s = probOf s := rfl
/-- A named value of the body is the weights of the scores it is given. -/
theorem pay61_eq : k0_pay61 (k0_pay59 s) (FloatOps.ofBits .f32 0#32) (k0_pay60 k0_pay4) = probOf s := rfl
/-- A named value of the body is the weights of the scores it is given. -/
theorem pay62_eq : k0_pay62 k0_pay4 s = probOf s := rfl
/-- A named value of the body is the weights of the scores it is given. -/
theorem pay63_eq : k0_pay63 k0_pay4 s = probOf s := rfl
/-- A named value of the body is the weights of the scores it is given. -/
theorem pay64_eq : k0_pay64 k0_pay4 s = probOf s := rfl
/-- A named value of the body is the weights of the scores it is given. -/
theorem pay65_eq : k0_pay65 k0_pay4 s = probOf s := rfl
/-- A named value of the body is the weights of the scores it is given. -/
theorem pay68_eq : k0_pay68 (k0_pay66 s) (FloatOps.ofBits .f32 0#32) (k0_pay67 k0_pay4) = probOf s := rfl
/-- A named value of the body is the weights of the scores it is given. -/
theorem pay69_eq : k0_pay69 k0_pay4 s = probOf s := rfl
/-- A named value of the body is the weights of the scores it is given. -/
theorem pay70_eq : k0_pay70 k0_pay4 s = probOf s := rfl
/-- A named value of the body is the weights of the scores it is given. -/
theorem pay71_eq : k0_pay71 k0_pay4 s = probOf s := rfl
/-- A named value of the body is the weights of the scores it is given. -/
theorem pay72_eq : k0_pay72 k0_pay4 s = probOf s := rfl
/-- A named value of the body is the weights of the scores it is given. -/
theorem pay75_eq : k0_pay75 (k0_pay73 s) (FloatOps.ofBits .f32 0#32) (k0_pay74 k0_pay4) = probOf s := rfl
/-- A named value of the body is the weights of the scores it is given. -/
theorem pay76_eq : k0_pay76 k0_pay4 s = probOf s := rfl
/-- A named value of the body is the output of head 0. -/
theorem pay77_eq : k0_pay77 z (probOf (scoreH z 0)) = headOf z 0 := rfl
/-- A named value of the body is the output of head 1. -/
theorem pay78_eq : k0_pay78 z (probOf (scoreH z 1)) = headOf z 1 := rfl
/-- A named value of the body is the output of head 2. -/
theorem pay79_eq : k0_pay79 z (probOf (scoreH z 2)) = headOf z 2 := rfl
/-- A named value of the body is the output of head 3. -/
theorem pay80_eq : k0_pay80 z (probOf (scoreH z 3)) = headOf z 3 := rfl
/-- A named value of the body is the output of head 4. -/
theorem pay81_eq : k0_pay81 z (probOf (scoreH z 4)) = headOf z 4 := rfl
/-- A named value of the body is the output of head 5. -/
theorem pay82_eq : k0_pay82 z (probOf (scoreH z 5)) = headOf z 5 := rfl
/-- A named value of the body is the output of head 6. -/
theorem pay83_eq : k0_pay83 z (probOf (scoreH z 6)) = headOf z 6 := rfl
/-- A named value of the body is the output of head 7. -/
theorem pay84_eq : k0_pay84 z (probOf (scoreH z 7)) = headOf z 7 := rfl
/-- A named value of the body is the output of head 8. -/
theorem pay85_eq : k0_pay85 z (probOf (scoreH z 8)) = headOf z 8 := rfl
/-- The twelve heads of the first row. -/
theorem pay87_eq : k0_pay87 z (probOf (scoreH z 9)) (probOf (scoreH z 10)) (probOf (scoreH z 11)) (headOf z 0) (headOf z 1) (headOf z 2) (headOf z 3) (headOf z 4) (headOf z 5) (headOf z 6) (headOf z 7) (headOf z 8) (k0_pay86 z) (constant S128x64 .f32 0#32) = attn z := rfl
/-- The attention half of the second row. -/
theorem pay90_eq : k0_pay90 t (k0_pay88 z (probOf (scoreH z 0)) (probOf (scoreH z 1)) (probOf (scoreH z 2)) (probOf (scoreH z 3)) (probOf (scoreH z 4)) (probOf (scoreH z 5)) (probOf (scoreH z 6)) (probOf (scoreH z 7)) (probOf (scoreH z 8)) (probOf (scoreH z 9)) (probOf (scoreH z 10)) (probOf (scoreH z 11))) x4 x5 = projOf t (attn z) x4 x5 := rfl
/-- The attention half of the first row. -/
theorem pay89_eq : k0_pay89 t o x4 x5 = projOf t o x4 x5 := rfl
/-- The first row read. -/
theorem pay5_eq : k0_pay5 v9 = dropRow v9 := rfl
/-- The second row read. -/
theorem pay6_eq : k0_pay6 v9 = dropRow v9 := rfl
/-- The first feed-forward product of the first row. -/
theorem pay96_eq : k0_pay96 (k0_pay91 x6) (k0_pay92 x7) (k0_pay93 t o x4 x5) (k0_pay94 t o x4 x5) x8 x9 = fc1Of (lnorm (projOf t o x4 x5) x6 x7) x8 x9 := rfl
/-- The second feed-forward product of the first row. -/
theorem pay97_eq : k0_pay97 t f x10 x11 = biasOf (fc2Of t (geluOf f) x10) x11 := rfl
/-- The second normalisation of the second row. -/
theorem pay95_eq : k0_pay95 t x6 x7 = lnorm t x6 x7 := rfl
/-- The feed-forward half of the second row. -/
theorem pay98_eq : k0_pay98 t y x8 x9 x10 = fc2Of t (geluOf (fc1Of y x8 x9)) x10 := rfl
/-- The two rows stored. -/
theorem pay1_eq : k0_pay1 t t2 x11 = pairUp t (biasOf t2 x11) := rfl
/-- The queries, keys and values of the second row. -/
theorem pay12b_eq : k0_pay12 (dropRow v9) x1 x2 x3 = qkvOf (lnorm (dropRow v9) x1 x2) x3 := rfl
end PayEq
/-- The offsets of row `g` of a point's rows lie inside the carried buffer. -/
theorem row2_inb (b : Fin 8) (g : Fin 2) : ∀ a, (![2 * b.val + g.val, 0, 0] : Fin 3 → ℕ) a + S1x128x768.size a ≤ S16x128x768.size a := by
  revert b g; decide +kernel
/-- A row loaded at the body's own offsets out of the carried buffer. -/
theorem ld_row (i : (⟨3, ![2, 12, 8]⟩ : Shape).Idx) (xs : Vec F S16x128x768 .f32) (g : Fin 2)
    (h : ∀ a, k0_off2 i (BitVec.ofNat 32 g.val) a + S1x128x768.size a ≤ S16x128x768.size a) :
    dropRow (View.ld xs (Rect.unit (k0_off2 i (BitVec.ofNat 32 g.val)) S1x128x768.size h)) = rowOf g (rowsOf (i 2) xs) := by
  rw [← rowOf_rowsOf (i 2) g xs (row2_inb (i 2) g)]
  congr 1
  rw [← VecWindow.window_eq_ld]
  have hk := k0_off2_eq i g
  revert h
  generalize k0_off2 i (BitVec.ofNat 32 g.val) = o at hk
  subst hk
  intro h; rfl
/-- A row loaded at the body's own offsets right after the block was stored there: the block's row. -/
theorem ld_row_put (i : (⟨3, ![2, 12, 8]⟩ : Shape).Idx) {κ : Kind} {sp : Space} (v : View sig κ sp S16x128x768 .f32) (w : Vec F S2x128x768 .f32) (g : Fin 2)
    (h : ∀ a, k0_off2 i (BitVec.ofNat 32 g.val) a + S1x128x768.size a ≤ S16x128x768.size a)
    (h1 : ∀ a, k0_off1 i a + S2x128x768.size a ≤ S16x128x768.size a) :
    dropRow (v.readCov [⟨Rect.unit (k0_off1 i) S2x128x768.size h1, w⟩]
      (Rect.unit (s := S16x128x768) (k0_off2 i (BitVec.ofNat 32 g.val)) S1x128x768.size h).toLoadRect) = rowOf g w := by
  unfold rowOf
  congr 1
  show v.readAt (Elt F) _ (v.writes (Elt F) v.junk _) = _
  rw [View.readAt_unit v _ h (k0_off2_eq i g) (row2_inb (i 2) g), View.read_writes_cons_put v _ h1 w [] (k0_off1_eq i),
    VecWindow.window_put_of_inside _ _ _ _ _ _ _ (by
      intro a; have := g.isLt; fin_cases a
      · show 2 * (i 2).val ≤ 2 * (i 2).val + g.val ∧ 2 * (i 2).val + g.val + 1 ≤ 2 * (i 2).val + 2; omega
      · show 0 ≤ 0 ∧ 0 + 128 ≤ 0 + 128; omega
      · show 0 ≤ 0 ∧ 0 + 768 ≤ 0 + 768; omega)]
  funext y
  unfold VecWindow.window
  congr 1
  funext a
  apply Fin.ext
  fin_cases a
  · show 2 * (i 2).val + g.val - 2 * (i 2).val + 1 * (y 0).val = g.val + 1 * (y 0).val; omega
  · show 0 - 0 + 1 * (y 1).val = 0 + 1 * (y 1).val; omega
  · show 0 - 0 + 1 * (y 2).val = 0 + 1 * (y 2).val; omega
set_option maxHeartbeats 4000000 in
/-- The body at a point past the first layer: the block written back and the rows kept are the layer of the rows kept before. -/
theorem run_rest (c : Dev nD) (i : grid0.Coords) (arg3 : Memref sig .tc .vmem S2x128x768 .f32) (harg3 : arg3.IsWhole) (arg4 : Memref sig .tc .vmem S1x1x768 .f32) (harg4 : arg4.IsWhole) (arg5 : Memref sig .tc .vmem S1x1x768 .f32) (harg5 : arg5.IsWhole) (arg6 : Memref sig .tc .vmem S1x768x2304 .bf16) (harg6 : arg6.IsWhole) (arg7 : Memref sig .tc .vmem S1x768x768 .bf16) (harg7 : arg7.IsWhole) (arg8 : Memref sig .tc .vmem S1x1x768 .f32) (harg8 : arg8.IsWhole) (arg9 : Memref sig .tc .vmem S1x1x768 .f32) (harg9 : arg9.IsWhole) (arg10 : Memref sig .tc .vmem S1x1x768 .f32) (harg10 : arg10.IsWhole) (arg11 : Memref sig .tc .vmem S1x768x3072 .bf16) (harg11 : arg11.IsWhole) (arg12 : Memref sig .tc .vmem S1x1x3072 .f32) (harg12 : arg12.IsWhole) (arg13 : Memref sig .tc .vmem S1x3072x768 .bf16) (harg13 : arg13.IsWhole) (arg14 : Memref sig .tc .vmem S1x1x768 .f32) (harg14 : arg14.IsWhole) (arg15 : Memref sig .tc .vmem S2x128x768 .f32) (harg15 : arg15.IsWhole) (arg16 : Memref sig .tc .vmem S16x128x768 .f32) (harg16 : arg16.IsWhole)
    (x0 : Vec F S2x128x768 .f32) (x1 : Vec F S1x1x768 .f32) (x2 : Vec F S1x1x768 .f32) (x3 : Vec F S1x768x2304 .bf16) (x4 : Vec F S1x768x768 .bf16) (x5 : Vec F S1x1x768 .f32) (x6 : Vec F S1x1x768 .f32) (x7 : Vec F S1x1x768 .f32) (x8 : Vec F S1x768x3072 .bf16) (x9 : Vec F S1x1x3072 .f32) (x10 : Vec F S1x3072x768 .bf16) (x11 : Vec F S1x1x768 .f32) (xs : Vec F S16x128x768 .f32) (hc : ¬ k0_cond1 i = 1#1) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ owns (c : Thread nD τ) arg16 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (layer2 (rowsOf (i 2) xs) x1 x2 x3 x4 x5 x6 x7 x8 x9 x10 x11) ∗ owns (c : Thread nD τ) arg16 fullShare (putRows (i 2) xs (layer2 (rowsOf (i 2) xs) x1 x2 x3 x4 x5 x6 x7 x8 x9 x10 x11))) -∗ K ⟨⟩))
          ⊢ wp frame (wpE (defs₀ (F := F)) Variants.none c none) E (cc0_vit_stack i arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_vit_stack_eq_skeleton]; unfold cc0_vit_stack_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg16.eq_unread hfs0
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro
      clear hf0 hf1 hf2 hf3 hf4 hf5 hf6 hf7 hf8 hf9 hf10 hf11 hfs0
      rw [View.read_writes_full]
      sl_unfold_run_names
      simp (disch := decide) only [View.ld_unit_lit', View.readAt_eq_ld, Memref.IsWhole.read_unread]
      simp only [pay11_eq, pay15_eq, pay16_eq, pay17_eq, pay18_eq, pay19_eq, pay20_eq, pay21_eq, pay22_eq, pay23_eq, pay24_eq, pay25_eq, pay26_eq, pay27_eq, pay30_eq, pay31_eq, pay32_eq, pay33_eq, pay34_eq, pay35_eq, pay36_eq, pay39_eq, pay40_eq, pay41_eq, pay42_eq, pay43_eq, pay44_eq, pay47_eq, pay48_eq, pay49_eq, pay50_eq, pay51_eq, pay54_eq, pay55_eq, pay56_eq, pay57_eq, pay58_eq, pay61_eq, pay62_eq, pay63_eq, pay64_eq, pay65_eq, pay68_eq, pay69_eq, pay70_eq, pay71_eq, pay72_eq, pay75_eq, pay76_eq, pay77_eq, pay78_eq, pay79_eq, pay80_eq, pay81_eq, pay82_eq, pay83_eq, pay84_eq, pay85_eq, pay87_eq, pay90_eq, pay89_eq, pay5_eq, pay6_eq, pay96_eq, pay97_eq, pay95_eq, pay98_eq, pay12b_eq]
      rw [pay1_eq]
      exact congrArg₂ pairUp (congrArg (fun r => layerOf r x1 x2 x3 x4 x5 x6 x7 x8 x9 x10 x11) (ld_row i xs 0 _)) (congrArg (fun r => layerOf r x1 x2 x3 x4 x5 x6 x7 x8 x9 x10 x11) (ld_row i xs 1 _))

    · iexists _; isplitr; swap; · iexact HS0
      ipureintro
      clear hf0 hf1 hf2 hf3 hf4 hf5 hf6 hf7 hf8 hf9 hf10 hf11 hfs0
      rw [View.read_writes_cons_put arg16.view _ _ _ _ (k0_off3_eq i), View.writes_nil, harg16.read_unread]
      unfold putRows
      congr 1
      unfold k0_pay2
      rw [shapeCast_id]
      sl_unfold_run_names
      simp (disch := decide) only [View.ld_unit_lit', View.readAt_eq_ld, Memref.IsWhole.read_unread]
      simp only [pay11_eq, pay15_eq, pay16_eq, pay17_eq, pay18_eq, pay19_eq, pay20_eq, pay21_eq, pay22_eq, pay23_eq, pay24_eq, pay25_eq, pay26_eq, pay27_eq, pay30_eq, pay31_eq, pay32_eq, pay33_eq, pay34_eq, pay35_eq, pay36_eq, pay39_eq, pay40_eq, pay41_eq, pay42_eq, pay43_eq, pay44_eq, pay47_eq, pay48_eq, pay49_eq, pay50_eq, pay51_eq, pay54_eq, pay55_eq, pay56_eq, pay57_eq, pay58_eq, pay61_eq, pay62_eq, pay63_eq, pay64_eq, pay65_eq, pay68_eq, pay69_eq, pay70_eq, pay71_eq, pay72_eq, pay75_eq, pay76_eq, pay77_eq, pay78_eq, pay79_eq, pay80_eq, pay81_eq, pay82_eq, pay83_eq, pay84_eq, pay85_eq, pay87_eq, pay90_eq, pay89_eq, pay5_eq, pay6_eq, pay96_eq, pay97_eq, pay95_eq, pay98_eq, pay12b_eq]
      rw [pay1_eq]
      exact congrArg₂ pairUp (congrArg (fun r => layerOf r x1 x2 x3 x4 x5 x6 x7 x8 x9 x10 x11) (ld_row i xs 0 _)) (congrArg (fun r => layerOf r x1 x2 x3 x4 x5 x6 x7 x8 x9 x10 x11) (ld_row i xs 1 _))

set_option maxHeartbeats 4000000 in
/-- The body at a point of the first layer: the block written back and the rows kept are the layer of the input block. -/
theorem run_first (c : Dev nD) (i : grid0.Coords) (arg3 : Memref sig .tc .vmem S2x128x768 .f32) (harg3 : arg3.IsWhole) (arg4 : Memref sig .tc .vmem S1x1x768 .f32) (harg4 : arg4.IsWhole) (arg5 : Memref sig .tc .vmem S1x1x768 .f32) (harg5 : arg5.IsWhole) (arg6 : Memref sig .tc .vmem S1x768x2304 .bf16) (harg6 : arg6.IsWhole) (arg7 : Memref sig .tc .vmem S1x768x768 .bf16) (harg7 : arg7.IsWhole) (arg8 : Memref sig .tc .vmem S1x1x768 .f32) (harg8 : arg8.IsWhole) (arg9 : Memref sig .tc .vmem S1x1x768 .f32) (harg9 : arg9.IsWhole) (arg10 : Memref sig .tc .vmem S1x1x768 .f32) (harg10 : arg10.IsWhole) (arg11 : Memref sig .tc .vmem S1x768x3072 .bf16) (harg11 : arg11.IsWhole) (arg12 : Memref sig .tc .vmem S1x1x3072 .f32) (harg12 : arg12.IsWhole) (arg13 : Memref sig .tc .vmem S1x3072x768 .bf16) (harg13 : arg13.IsWhole) (arg14 : Memref sig .tc .vmem S1x1x768 .f32) (harg14 : arg14.IsWhole) (arg15 : Memref sig .tc .vmem S2x128x768 .f32) (harg15 : arg15.IsWhole) (arg16 : Memref sig .tc .vmem S16x128x768 .f32) (harg16 : arg16.IsWhole)
    (x0 : Vec F S2x128x768 .f32) (x1 : Vec F S1x1x768 .f32) (x2 : Vec F S1x1x768 .f32) (x3 : Vec F S1x768x2304 .bf16) (x4 : Vec F S1x768x768 .bf16) (x5 : Vec F S1x1x768 .f32) (x6 : Vec F S1x1x768 .f32) (x7 : Vec F S1x1x768 .f32) (x8 : Vec F S1x768x3072 .bf16) (x9 : Vec F S1x1x3072 .f32) (x10 : Vec F S1x3072x768 .bf16) (x11 : Vec F S1x1x768 .f32) (xs : Vec F S16x128x768 .f32) (hc : k0_cond1 i = 1#1) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ owns (c : Thread nD τ) arg16 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (layer2 x0 x1 x2 x3 x4 x5 x6 x7 x8 x9 x10 x11) ∗ owns (c : Thread nD τ) arg16 fullShare (putRows (i 2) xs (layer2 x0 x1 x2 x3 x4 x5 x6 x7 x8 x9 x10 x11))) -∗ K ⟨⟩))
          ⊢ wp frame (wpE (defs₀ (F := F)) Variants.none c none) E (cc0_vit_stack i arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_vit_stack_eq_skeleton]; unfold cc0_vit_stack_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg16.eq_unread hfs0
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro
      clear hf0 hf1 hf2 hf3 hf4 hf5 hf6 hf7 hf8 hf9 hf10 hf11 hfs0
      rw [View.read_writes_full]
      sl_unfold_run_names
      simp (disch := decide) only [View.ld_unit_lit', View.readAt_eq_ld, Memref.IsWhole.read_unread]
      simp only [pay11_eq, pay15_eq, pay16_eq, pay17_eq, pay18_eq, pay19_eq, pay20_eq, pay21_eq, pay22_eq, pay23_eq, pay24_eq, pay25_eq, pay26_eq, pay27_eq, pay30_eq, pay31_eq, pay32_eq, pay33_eq, pay34_eq, pay35_eq, pay36_eq, pay39_eq, pay40_eq, pay41_eq, pay42_eq, pay43_eq, pay44_eq, pay47_eq, pay48_eq, pay49_eq, pay50_eq, pay51_eq, pay54_eq, pay55_eq, pay56_eq, pay57_eq, pay58_eq, pay61_eq, pay62_eq, pay63_eq, pay64_eq, pay65_eq, pay68_eq, pay69_eq, pay70_eq, pay71_eq, pay72_eq, pay75_eq, pay76_eq, pay77_eq, pay78_eq, pay79_eq, pay80_eq, pay81_eq, pay82_eq, pay83_eq, pay84_eq, pay85_eq, pay87_eq, pay90_eq, pay89_eq, pay5_eq, pay6_eq, pay96_eq, pay97_eq, pay95_eq, pay98_eq, pay12b_eq]
      rw [pay1_eq]
      unfold k0_pay3
      simp only [shapeCast_id]
      exact congrArg₂ pairUp (congrArg (fun r => layerOf r x1 x2 x3 x4 x5 x6 x7 x8 x9 x10 x11) (ld_row_put i arg16.view x0 0 _ _)) (congrArg (fun r => layerOf r x1 x2 x3 x4 x5 x6 x7 x8 x9 x10 x11) (ld_row_put i arg16.view x0 1 _ _))

    · iexists _; isplitr; swap; · iexact HS0
      ipureintro
      clear hf0 hf1 hf2 hf3 hf4 hf5 hf6 hf7 hf8 hf9 hf10 hf11 hfs0
      sl_unfold_run_names
      rw [View.read_writes_cons_put arg16.view _ _ _ _ (k0_off3_eq i), View.read_writes_cons_put arg16.view _ _ _ _ (k0_off1_eq i), View.writes_nil, harg16.read_unread, VecWindow.put_put_same]
      unfold putRows
      congr 1
      unfold k0_pay2
      rw [shapeCast_id]
      simp (disch := decide) only [View.ld_unit_lit', View.readAt_eq_ld, Memref.IsWhole.read_unread]
      simp only [pay11_eq, pay15_eq, pay16_eq, pay17_eq, pay18_eq, pay19_eq, pay20_eq, pay21_eq, pay22_eq, pay23_eq, pay24_eq, pay25_eq, pay26_eq, pay27_eq, pay30_eq, pay31_eq, pay32_eq, pay33_eq, pay34_eq, pay35_eq, pay36_eq, pay39_eq, pay40_eq, pay41_eq, pay42_eq, pay43_eq, pay44_eq, pay47_eq, pay48_eq, pay49_eq, pay50_eq, pay51_eq, pay54_eq, pay55_eq, pay56_eq, pay57_eq, pay58_eq, pay61_eq, pay62_eq, pay63_eq, pay64_eq, pay65_eq, pay68_eq, pay69_eq, pay70_eq, pay71_eq, pay72_eq, pay75_eq, pay76_eq, pay77_eq, pay78_eq, pay79_eq, pay80_eq, pay81_eq, pay82_eq, pay83_eq, pay84_eq, pay85_eq, pay87_eq, pay90_eq, pay89_eq, pay5_eq, pay6_eq, pay96_eq, pay97_eq, pay95_eq, pay98_eq, pay12b_eq]
      rw [pay1_eq]
      unfold k0_pay3
      simp only [shapeCast_id]
      exact congrArg₂ pairUp (congrArg (fun r => layerOf r x1 x2 x3 x4 x5 x6 x7 x8 x9 x10 x11) (ld_row_put i arg16.view x0 0 _ _)) (congrArg (fun r => layerOf r x1 x2 x3 x4 x5 x6 x7 x8 x9 x10 x11) (ld_row_put i arg16.view x0 1 _ _))

end Cert.KernelIdeal.Vit
end
-- ==== Proof.FrameI.lean ====
/-
  The launch of the program around its two kernels: the contents of every buffer at each boundary of the host program, the
  invariant of the transformer kernel's carried buffer, both kernels' obligations, and the run that reads every argument and
  the result at the end.
-/
module

public import proofs.«01_k».proof.Proof.BodyI
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Vit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # The transformer's call, from the buffer contents `V` it is entered with -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, whether it was fetched at that point or an earlier one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, whether it was fetched at that point or an earlier one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point, whether it was fetched at that point or an earlier one. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's buffer holds its block at every point, whether it was fetched at that point or an earlier one. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's buffer holds its block at every point, whether it was fetched at that point or an earlier one. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's buffer holds its block at every point, whether it was fetched at that point or an earlier one. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's buffer holds its block at every point, whether it was fetched at that point or an earlier one. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's buffer holds its block at every point, whether it was fetched at that point or an earlier one. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's buffer holds its block at every point, whether it was fetched at that point or an earlier one. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's buffer holds its block at every point, whether it was fetched at that point or an earlier one. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's buffer holds its block at every point, whether it was fetched at that point or an earlier one. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's buffer holds its block at every point, whether it was fetched at that point or an earlier one. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 12, through which its contents are stated (`View.read_writes_of_cover`: the
    choice does not matter). -/
abbrev VO0_12 : View sig .tc .vmem S2x128x768 .f32 := (Memref.whole cc0_stg12_0 : Memref sig .tc .vmem S2x128x768 .f32).view
/-- Each window's current staging memref at point `t`, spelled as the pipeline passes it (`bodyAt0`), and its wholeness. -/
abbrev ms0_0 (t : Fin cfg0.N) : Memref sig .tc .vmem S2x128x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x768x2304 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x768x3072 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3072x768 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x768 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x128x768 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S16x128x768 .f32 := Memref.whole cc0_scratch0

/-- The invariant with the carried buffer named. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f)) ∗ (∃ r, prngReg c r)) := by
  unfold Pipeline.ΦA; rw [scopedRest0_eq]; simp only [scM0_0, owns_whole]; try rfl

/-! ## What the transformer kernel computes, point by point -/

/-- The first grid coordinate counts blocks of 96 points, the second the layers, the third the row pairs. -/
theorem coords_1 : ∀ t : Fin cfg0.N, (grid0.coords t 1).val = t.val / 8 % 12 := by decide +kernel
theorem coords_2 : ∀ t : Fin cfg0.N, (grid0.coords t 2).val = t.val % 8 := by decide +kernel
/-- The kernel loads the tokens exactly at the first layer. -/
theorem cond_iff : ∀ t : Fin cfg0.N, k0_cond1 (grid0.coords t) = 1#1 ↔ t.val / 8 % 12 = 0 := by decide +kernel

/-- The point eight before. -/
def prev8 (t : Fin cfg0.N) : Fin cfg0.N := ⟨t.val - 8, lt_of_le_of_lt (Nat.sub_le _ _) t.isLt⟩
/-- The block of two rows after `l + 1` layers, `t` the point of the last of them. -/
def outF (c : Dev nD) : ℕ → Fin cfg0.N → Vec F S2x128x768 .f32
  | 0, t => layer2 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  | l + 1, t => layer2 (outF c l (prev8 t)) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
/-- What the body leaves in the output block at point `t`. -/
def outsAt0 (c : Dev nD) (t : Fin cfg0.N) : Vec F S2x128x768 .f32 := outF V c (t.val / 8 % 12) t
theorem outsAt0_first (c : Dev nD) (t : Fin cfg0.N) (h : t.val / 8 % 12 = 0) :
    outsAt0 V c t = layer2 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by
  unfold outsAt0; rw [h]; rfl
theorem outsAt0_rest (c : Dev nD) (t : Fin cfg0.N) (h : ¬ t.val / 8 % 12 = 0) :
    outsAt0 V c t = layer2 (outsAt0 V c (prev8 t)) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by
  have e : t.val / 8 % 12 = (prev8 t).val / 8 % 12 + 1 := by
    show t.val / 8 % 12 = (t.val - 8) / 8 % 12 + 1; omega
  unfold outsAt0; rw [e]; rfl

/-- The carried buffer holds what each of the last eight points left. -/
def Inv (c : Dev nD) (n : ℕ) (X : Vec F S16x128x768 .f32) : Prop :=
  ∀ s : Fin cfg0.N, s.val < n → n ≤ s.val + 8 → rowsOf (grid0.coords s 2) X = outsAt0 V c s
theorem rowsOf_put_same (b : Fin 8) (X : Vec F S16x128x768 .f32) (w : Vec F S2x128x768 .f32) : rowsOf b (putRows b X w) = w :=
  VecWindow.window_put_same X _ _ _ w
theorem rowsOf_put_ne (b b' : Fin 8) (h : b'.val ≠ b.val) (X : Vec F S16x128x768 .f32) (w : Vec F S2x128x768 .f32) :
    rowsOf b' (putRows b X w) = rowsOf b' X :=
  VecWindow.window_put_of_disjoint X _ _ _ _ _ w 0 (by
    show 2 * b'.val + 2 ≤ 2 * b.val ∨ 2 * b.val + 2 ≤ 2 * b'.val; omega)
theorem Inv_zero (c : Dev nD) (X : Vec F S16x128x768 .f32) : Inv V c 0 X := fun s h => absurd h (Nat.not_lt_zero _)
/-- One point keeps the invariant. -/
theorem Inv_succ (c : Dev nD) (t : Fin cfg0.N) (X : Vec F S16x128x768 .f32) (h : Inv V c t.val X) :
    Inv V c (t.val + 1) (putRows (grid0.coords t 2) X (outsAt0 V c t)) := by
  intro s h1 h2
  by_cases e : s = t
  · subst e; exact rowsOf_put_same _ _ _
  · have hne : s.val ≠ t.val := fun h => e (Fin.ext h)
    have hc : (grid0.coords s 2).val ≠ (grid0.coords t 2).val := by rw [coords_2, coords_2]; omega
    exact (rowsOf_put_ne _ _ hc _ _).trans (h s (by omega) (by omega))
/-- Past the first layer, the rows the point reads are what the point eight before left. -/
theorem Inv_read (c : Dev nD) (t : Fin cfg0.N) (X : Vec F S16x128x768 .f32) (h : Inv V c t.val X) (h0 : ¬ t.val / 8 % 12 = 0) :
    rowsOf (grid0.coords t 2) X = outsAt0 V c (prev8 t) := by
  have h8 : 8 ≤ t.val := by omega
  rw [← h (prev8 t) (by show t.val - 8 < t.val; omega) (by show t.val ≤ t.val - 8 + 8; omega)]
  have : grid0.coords t 2 = grid0.coords (prev8 t) 2 := Fin.ext (by
    rw [coords_2, coords_2]; show t.val % 8 = (t.val - 8) % 8; omega)
  rw [this]

/-- The invariant: the carried buffer as described, everything else at anything. -/
def PhiV (c : Dev nD) (n : ℕ) : sProp 𝕄 :=
  iprop(iprop((∃ X, ⌜Inv V c n X⌝ ∗ owns (c : Thread nD τ) scM0_0 fullShare X) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f)) ∗ (∃ r, prngReg c r))
theorem PhiV_in (c : Dev nD) : (Pipeline.ΦA spec0 c : sProp 𝕄) ⊢ PhiV V c 0 := by
  rw [PhiA0_eq]; unfold PhiV
  iintro ⟨⟨⟨%X, HX⟩, Hr⟩, Hp⟩
  isplitr [Hp]; swap; · iexact Hp
  isplitr [Hr]; swap; · iexact Hr
  iexists X
  isplitr; · ipureintro; exact Inv_zero V c X
  iexact HX
theorem PhiV_out (c : Dev nD) (n : ℕ) : PhiV V c n ⊢ (Pipeline.ΦA spec0 c : sProp 𝕄) := by
  rw [PhiA0_eq]; unfold PhiV
  iintro ⟨⟨⟨%X, -, HX⟩, Hr⟩, Hp⟩
  isplitr [Hp]; swap; · iexact Hp
  isplitr [Hr]; swap; · iexact Hr
  iexists X
  iexact HX

/-! ## The pipeline's proof data -/

/-- The transformer's call on core `c`: it finds the arrays at `V`; after the body at point `t` each input's buffer still
    holds its block and the output's holds `outsAt0`; between points the carried buffer holds the rows `PhiV` says. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => (outsAt0 V c t)
  Φ t := PhiV V c t.val
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t))

set_option maxHeartbeats 1200000 in
/-- The body at any point: the inputs' memrefs hold their blocks; the carried buffer's invariant gives the rows the point reads and is kept. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).owesAt () t.succ = (dat0 V c).owesAt () t.castSucc from rfl,
    after0_0, after0_1, after0_2, after0_3, after0_4, after0_5, after0_6, after0_7, after0_8, after0_9, after0_10, after0_11, after0_12]
  rw [show (dat0 V c).Φ t.castSucc = PhiV V c t.val from rfl, show (dat0 V c).Φ t.succ = PhiV V c (t.val + 1) from rfl]
  unfold PhiV
  iintro ⟨⟨⟨⟨%X, %hX, HS0⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases h0 : t.val / 8 % 12 = 0
  · have hc : k0_cond1 (grid0.coords t) = 1#1 := (cond_iff t).mpr h0
    have ho := outsAt0_first V c t h0
    iapply (run_first c (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) X hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    iintro ⟨H0, H1, H2, H3, H4, H5, H6, H7, H8, H9, H10, H11, H12, HS0⟩
    isplitl [HS0 Hr Hg]
    · isplitr [Hg]; swap; · iexact Hg
      isplitr [Hr]; swap; · iexact Hr
      iexists (putRows (grid0.coords t 2) X (outsAt0 V c t))
      isplitr; · ipureintro; exact Inv_succ V c t X hX
      rw [ho]
      iexact HS0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    rw [ho]
    iexact H12
  · have hc : ¬ k0_cond1 (grid0.coords t) = 1#1 := fun h => h0 ((cond_iff t).mp h)
    have ho := outsAt0_rest V c t h0
    rw [← Inv_read V c t X hX h0] at ho
    iapply (run_rest c (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) X hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    iintro ⟨H0, H1, H2, H3, H4, H5, H6, H7, H8, H9, H10, H11, H12, HS0⟩
    isplitl [HS0 Hr Hg]
    · isplitr [Hg]; swap; · iexact Hg
      isplitr [Hr]; swap; · iexact Hr
      iexists (putRows (grid0.coords t 2) X (outsAt0 V c t))
      isplitr; · ipureintro; exact Inv_succ V c t X hX
      rw [ho]
      iexact HS0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    rw [ho]
    iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body does what the call asks of it, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # The head's call, from the buffer contents `V` it is entered with -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, whether it was fetched at that point or an earlier one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at every point, whether it was fetched at that point or an earlier one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at every point, whether it was fetched at that point or an earlier one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's buffer holds its block at every point, whether it was fetched at that point or an earlier one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's buffer holds its block at every point, whether it was fetched at that point or an earlier one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S16x768 := Rect.unit (s := S16x768) ![0, 0] S16x768.size inb_S16x768_S16x768_0_0
abbrev r1_1 : Rect S1x768 := Rect.unit (s := S1x768) ![0, 0] S1x768.size inb_S1x768_S1x768_0_0
abbrev r1_2 : Rect S768x40 := Rect.unit (s := S768x40) ![0, 0] S768x40.size inb_S768x40_S768x40_0_0
abbrev r1_3 : Rect S1x40 := Rect.unit (s := S1x40) ![0, 0] S1x40.size inb_S1x40_S1x40_0_0
abbrev r1_4 : Rect S16x40 := Rect.unit (s := S16x40) ![0, 0] S16x40.size inb_S16x40_S16x40_0_0

/-! ## What the body leaves in each output window's buffer -/

/-- What the head's body stores in its output's buffer, from the input blocks. -/
def out1_5 (x0 : Vec F S16x768 .f32) (x1 : Vec F S1x768 .f32) (x2 : Vec F S1x768 .f32) (x3 : Vec F S768x40 .f32) (x4 : Vec F S1x40 .f32) : Vec F S16x40 .f32 :=
  View.canon [⟨r1_4, k1_pay1 (View.ld x0 r1_0) (View.ld x1 r1_1) (View.ld x2 r1_1) (View.ld x3 r1_2) (View.ld x4 r1_3)⟩]

/-- Its stores tile the buffer (checked by evaluation), so they cover it. -/
theorem cover1_5 (p0 : Vec F S16x40 .f32) (y : S16x40.Idx) :
    ∃ pc ∈ ([⟨r1_4, p0⟩] : List (View.Piece (Elt F) S16x40 .f32)), y ∈ pc.1.set :=
  View.cover_of_tiled [⟨r1_4, p0⟩] S16x40.size (by rfl) y

/-! ## The body's triple -/

set_option maxHeartbeats 1000000 in
/-- The head's body runs, leaves its inputs' buffers as they were and stores `out1_5` of them in its output's. -/
theorem sound_kernel1 (c : Dev nD) (E : Set ℕ) (i : grid1.Coords) (arg1 : Memref sig .tc .vmem S16x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S768x40 .f32) (harg4 : arg4.IsWhole) (arg5 : Memref sig .tc .vmem S1x40 .f32) (harg5 : arg5.IsWhole) (arg6 : Memref sig .tc .vmem S16x40 .f32) (harg6 : arg6.IsWhole)
    (x0 : Vec F S16x768 .f32) (x1 : Vec F S1x768 .f32) (x2 : Vec F S1x768 .f32) (x3 : Vec F S768x40 .f32) (x4 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_cls_head i arg1 harg1 arg2 harg2 arg3 harg3 arg4 harg4 arg5 harg5 arg6 harg6) K := by
  simp only [cc1_cls_head_eq_skeleton]; unfold cc1_cls_head_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The head's call on core `c`: it finds the arrays at `V`; after the body at point `t` each input's buffer still holds its
    block and the output's holds `out1_5` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body does what the call asks of it, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # The run of the whole program -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15]

/-! ## The host's operations between the calls, and the buffers that they leave alone -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v12, main_v13, main_v14, main_v15, main_v16]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)
theorem W4_main_arg14 (c : Dev nD) : W4 m ρ c (Proc.devRef .tc main_arg14) = m ((c : Thread nD τ).loc main_arg14) :=
  W4_args m ρ c main_arg14 (by decide)
theorem W4_main_arg15 (c : Dev nD) : W4 m ρ c (Proc.devRef .tc main_arg15) = m ((c : Thread nD τ).loc main_arg15) :=
  W4_args m ρ c main_arg15 (by decide)

/-! ## The proof data family and the thread state -/

/-- The prefetched tables' admissible contents: no pipeline has a table. -/
abbrev adm : (p : Fin 2) → (pcfgs (F := F) p).Adm := fun p => (cfgs p).toPCfg_adm
/-- Each call's data, at the contents that it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and that
    the core owes nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- The transformer's call over the thread state: entered from every unscoped buffer at `W1`, left at `W2`
    (what the next segment is entered from). Its arrays split out of the unscoped buffers
    and are put back at the exit contents; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiV (V1 m ρ) c 0 from rfl]
    refine BIBase.Entails.trans ?_ (PhiV_in (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = PhiV (V1 m ρ) c cfg0.N from rfl]
    refine BIBase.Entails.trans (PhiV_out (V1 m ρ) c _) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- The head's call over the thread state: entered from every unscoped buffer at `W3`, left at `W4`
    (what the launch reads at the end). Its arrays split out of the unscoped buffers
    and are put back at the exit contents; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: every weakly fair execution ends with nothing faulting, the arguments as launched, the result at its last
    boundary contents and every semaphore counter at zero. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_v17) = W4 m ρ c (Proc.devRef .tc main_v17))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       h c _ (mem_uc main_v17 (by decide))⟩), funext fun g => hz g (.inr (no_unscoped g.2))⟩)

end Cert.KernelIdeal.Vit

end
-- ==== Proof.Math.lean ====
/-
  One encoder layer as arithmetic on extended reals: the reference's form and the kernel's form, and that the two agree
  on numbers.
-/
module

public import Idealize.ShloMosaic.Lib.Pointwise
public import Idealize.ShloMosaic.Lib.IdealHost

@[expose] public section

set_option maxRecDepth 16384

noncomputable section

namespace Cert.Encoder

open Idealize.ShloMosaic

/-- The number 768 as the programs write it. -/
abbrev c768 : EReal := Ideal.ofBits .f32 0x44400000#32
/-- The small constant under the root. -/
abbrev cEps : EReal := Ideal.ofBits .f32 0x3727C5AC#32
/-- One eighth, the scale of the scores. -/
abbrev cScale : EReal := Ideal.ofBits .f32 0x3E000000#32
/-- One half. -/
abbrev cHalf : EReal := Ideal.ofBits .f32 0x3F000000#32
/-- The root of one half. -/
abbrev cRoot : EReal := Ideal.ofBits .f32 0x3F3504F3#32

/-- The mean of a row. -/
def mean (x : Fin 768 → EReal) : EReal := Ideal.div (∑ k, x k) c768
/-- The variance of a row plus the small constant. -/
def spread (x : Fin 768 → EReal) : EReal := Ideal.div (∑ k, (x k - mean x) * (x k - mean x)) c768 + cEps
/-- Layer normalisation of a row. -/
def lnRow (x g b : Fin 768 → EReal) (d : Fin 768) : EReal := (x d - mean x) * Ideal.rsqrt (spread x) * g d + b d

/-- The parameters of one layer. -/
structure Params where
  /-- first scale -/
  g1 : Fin 768 → EReal
  /-- first shift -/
  b1 : Fin 768 → EReal
  /-- query, key and value weights -/
  qw : Fin 768 → Fin 2304 → EReal
  /-- projection weights -/
  pw : Fin 768 → Fin 768 → EReal
  /-- projection bias -/
  pb : Fin 768 → EReal
  /-- second scale -/
  g2 : Fin 768 → EReal
  /-- second shift -/
  b2 : Fin 768 → EReal
  /-- first feed-forward weights -/
  w1 : Fin 768 → Fin 3072 → EReal
  /-- first feed-forward bias -/
  c1 : Fin 3072 → EReal
  /-- second feed-forward weights -/
  w2 : Fin 3072 → Fin 768 → EReal
  /-- second feed-forward bias -/
  c2 : Fin 768 → EReal

/-- Queries, keys and values of one row. -/
def qkv (P : Params) (x : Fin 768 → EReal) (e : Fin 2304) : EReal := ∑ k, lnRow x P.g1 P.b1 k * P.qw k e
/-- Column `j` of head `h` of the queries. -/
def qCol (h : Fin 12) (j : Fin 64) : Fin 2304 := ⟨64 * h.val + j.val, by omega⟩
/-- Column `j` of head `h` of the keys. -/
def kCol (h : Fin 12) (j : Fin 64) : Fin 2304 := ⟨768 + 64 * h.val + j.val, by omega⟩
/-- Column `j` of head `h` of the values. -/
def vCol (h : Fin 12) (j : Fin 64) : Fin 2304 := ⟨1536 + 64 * h.val + j.val, by omega⟩
/-- The score of a query row against a key row. -/
def score (h : Fin 12) (x y : Fin 2304 → EReal) : EReal := (∑ j, x (qCol h j) * y (kCol h j)) * cScale
/-- The greatest of a row of scores. -/
def top {n : ℕ} (s : Fin n → EReal) : EReal := Finset.univ.fold max ⊥ s
/-- Softmax as the reference takes it. -/
def soft {n : ℕ} (s : Fin n → EReal) (q : Fin n) : EReal :=
  Ideal.div (Ideal.exp (s q - top s)) (∑ k, Ideal.exp (s k - top s))
/-- Softmax without the shift. -/
def plain {n : ℕ} (s : Fin n → EReal) (q : Fin n) : EReal := Ideal.div (Ideal.exp (s q)) (∑ k, Ideal.exp (s k))
/-- The head a column belongs to. -/
def headOfCol (d : Fin 768) : Fin 12 := ⟨d.val / 64, by omega⟩
/-- The column inside its head. -/
def inHead (d : Fin 768) : Fin 64 := ⟨d.val % 64, by omega⟩
/-- Attention as the reference computes it. -/
def attend {n : ℕ} (z : Fin n → Fin 2304 → EReal) (p : Fin n) (d : Fin 768) : EReal :=
  ∑ q, z q (vCol (headOfCol d) (inHead d)) * soft (fun q => score (headOfCol d) (z p) (z q)) q
/-- The kernel's exponential of a score: the scale goes on the query, columns from 101 on count nothing. -/
def maskedExp (h : Fin 12) (z : Fin 128 → Fin 2304 → EReal) (p q : Fin 128) : EReal :=
  if q.val < 101 then Ideal.exp (∑ j, z p (qCol h j) * cScale * z q (kCol h j)) else 0
/-- Attention as the kernel computes it, over 128 rows. -/
def attendMasked (z : Fin 128 → Fin 2304 → EReal) (p : Fin 128) (d : Fin 768) : EReal :=
  ∑ q, Ideal.div (maskedExp (headOfCol d) z p q) (∑ k, maskedExp (headOfCol d) z p k) * z q (vCol (headOfCol d) (inHead d))
/-- A row after the attention half. -/
def mid (P : Params) (x o : Fin 768 → EReal) (d : Fin 768) : EReal := x d + ∑ k, o k * P.pw k d + P.pb d
/-- The first feed-forward product of a row. -/
def hidden (P : Params) (x : Fin 768 → EReal) (e : Fin 3072) : EReal := ∑ k, lnRow x P.g2 P.b2 k * P.w1 k e + P.c1 e
/-- The activation. -/
def gelu (a : EReal) : EReal := cHalf * a * (1 + Ideal.erf (a * cRoot))
/-- A row after the feed-forward half. -/
def ffn (P : Params) (x : Fin 768 → EReal) (d : Fin 768) : EReal := x d + ∑ k, gelu (hidden P x k) * P.w2 k d + P.c2 d
/-- One layer, the reference's form. -/
def layer (P : Params) (t : Fin 101 → Fin 768 → EReal) (p : Fin 101) : Fin 768 → EReal :=
  ffn P (mid P (t p) (attend (fun q => qkv P (t q)) p))
/-- One layer, the kernel's form. -/
def layerMasked (P : Params) (t : Fin 128 → Fin 768 → EReal) (p : Fin 128) : Fin 768 → EReal :=
  ffn P (mid P (t p) (attendMasked (fun q => qkv P (t q)) p))

/-! ### Numbers -/

/-- An extended real that is a number. -/
def Num (x : EReal) : Prop := ∃ r : ℝ, x = r

theorem Num.add {x y : EReal} (hx : Num x) (hy : Num y) : Num (x + y) := by
  obtain ⟨r, rfl⟩ := hx; obtain ⟨s, rfl⟩ := hy; exact ⟨r + s, by push_cast; rfl⟩
theorem Num.sub {x y : EReal} (hx : Num x) (hy : Num y) : Num (x - y) := by
  obtain ⟨r, rfl⟩ := hx; obtain ⟨s, rfl⟩ := hy; exact ⟨r - s, by push_cast; rfl⟩
theorem Num.mul {x y : EReal} (hx : Num x) (hy : Num y) : Num (x * y) := by
  obtain ⟨r, rfl⟩ := hx; obtain ⟨s, rfl⟩ := hy; exact ⟨r * s, by push_cast; rfl⟩
theorem Num.sum {n : ℕ} {f : Fin n → EReal} (h : ∀ k, Num (f k)) : Num (∑ k, f k) := by
  choose r hr using h
  exact ⟨∑ k, r k, by simp only [hr]; exact (map_sum (⟨⟨Real.toEReal, rfl⟩, EReal.coe_add⟩ : ℝ →+ EReal) r Finset.univ).symm⟩
theorem num_real (r : ℝ) : Num (r : EReal) := ⟨r, rfl⟩
/-- A sum of numbers is the sum as reals. -/
theorem sum_real {n : ℕ} (r : Fin n → ℝ) : (∑ k, (r k : EReal)) = ((∑ k, r k : ℝ) : EReal) :=
  (map_sum (⟨⟨Real.toEReal, rfl⟩, EReal.coe_add⟩ : ℝ →+ EReal) r Finset.univ).symm

/-- 768 as the programs write it is the number. -/
theorem c768_val : c768 = ((768 : ℝ) : EReal) := by
  unfold c768; simp [Ideal.ofBits, Ideal.ieee]; rw [← EReal.coe_mul]; norm_num
/-- The scale is one eighth. -/
theorem cScale_val : cScale = ((1 / 8 : ℝ) : EReal) := by
  unfold cScale; simp [Ideal.ofBits, Ideal.ieee]; rw [← EReal.coe_mul]; norm_num
/-- The small constant is a positive number. -/
theorem cEps_val : ∃ r : ℝ, 0 < r ∧ cEps = (r : EReal) := by
  refine ⟨10995116 * (2 ^ 40 : ℝ)⁻¹, by positivity, ?_⟩
  unfold cEps; simp [Ideal.ofBits, Ideal.ieee]
theorem cHalf_num : Num cHalf := by
  refine ⟨1 / 2, ?_⟩
  unfold cHalf; simp [Ideal.ofBits, Ideal.ieee]; rw [← EReal.coe_mul]; norm_num
theorem cRoot_num : Num cRoot := by
  refine ⟨11863283 * (2 ^ 24 : ℝ)⁻¹, ?_⟩
  unfold cRoot; simp [Ideal.ofBits, Ideal.ieee]
theorem num_one : Num 1 := ⟨1, by simp⟩
/-- A quotient of numbers by a number other than zero. -/
theorem div_real (a : ℝ) {b : ℝ} (hb : b ≠ 0) : Ideal.div (a : EReal) (b : EReal) = ((a / b : ℝ) : EReal) := by
  rw [Ideal.div_coe hb, ← EReal.coe_mul]; congr 1; ring
theorem Num.div768 {x : EReal} (hx : Num x) : Num (Ideal.div x c768) := by
  obtain ⟨r, rfl⟩ := hx; rw [c768_val, div_real r (by norm_num)]; exact num_real _
theorem Num.mean {x : Fin 768 → EReal} (hx : ∀ k, Num (x k)) : Num (mean x) := (Num.sum hx).div768
/-- The variance of numbers plus the small constant is a positive number. -/
theorem spread_pos {x : Fin 768 → EReal} (hx : ∀ k, Num (x k)) : ∃ r : ℝ, 0 < r ∧ spread x = (r : EReal) := by
  obtain ⟨m, hm⟩ := Num.mean hx
  choose r hr using hx
  obtain ⟨e, he, hE⟩ := cEps_val
  refine ⟨(∑ k, (r k - m) * (r k - m)) / 768 + e, ?_, ?_⟩
  · have : 0 ≤ ∑ k, (r k - m) * (r k - m) := Finset.sum_nonneg fun k _ => mul_self_nonneg _
    positivity
  · unfold spread
    rw [hm, hE, c768_val]
    simp only [hr, ← EReal.coe_sub, ← EReal.coe_mul]
    rw [sum_real, div_real _ (by norm_num), ← EReal.coe_add]
theorem Num.lnRow {x g b : Fin 768 → EReal} (hx : ∀ k, Num (x k)) (hg : ∀ k, Num (g k)) (hb : ∀ k, Num (b k)) (d : Fin 768) :
    Num (lnRow x g b d) := by
  obtain ⟨r, h0, hr⟩ := spread_pos hx
  have : Num (Ideal.rsqrt (spread x)) := ⟨(Real.sqrt r)⁻¹, by
    rw [hr]
    show (if r < 0 then ⊥ else if r = 0 then ⊤ else (((Real.sqrt r)⁻¹ : ℝ) : EReal)) = _
    rw [if_neg (not_lt.2 h0.le), if_neg h0.ne']⟩
  exact ((((hx d).sub (Num.mean hx)).mul this).mul (hg d)).add (hb d)
theorem Num.erf {x : EReal} (hx : Num x) : Num (Ideal.erf x) := by
  obtain ⟨r, rfl⟩ := hx; exact ⟨_, Ideal.erf_coe r⟩
theorem Num.gelu {x : EReal} (hx : Num x) : Num (gelu x) :=
  (cHalf_num.mul hx).mul (num_one.add (hx.mul cRoot_num).erf)

/-- All parameters of a layer are numbers. -/
structure Params.Finite (P : Params) : Prop where
  g1 : ∀ k, Num (P.g1 k)
  b1 : ∀ k, Num (P.b1 k)
  qw : ∀ k e, Num (P.qw k e)
  pw : ∀ k e, Num (P.pw k e)
  pb : ∀ k, Num (P.pb k)
  g2 : ∀ k, Num (P.g2 k)
  b2 : ∀ k, Num (P.b2 k)
  w1 : ∀ k e, Num (P.w1 k e)
  c1 : ∀ k, Num (P.c1 k)
  w2 : ∀ k e, Num (P.w2 k e)
  c2 : ∀ k, Num (P.c2 k)

theorem Num.qkv {P : Params} (hP : P.Finite) {x : Fin 768 → EReal} (hx : ∀ k, Num (x k)) (e : Fin 2304) : Num (qkv P x e) :=
  Num.sum fun k => (Num.lnRow hx hP.g1 hP.b1 k).mul (hP.qw k e)
theorem Num.score (h : Fin 12) {x y : Fin 2304 → EReal} (hx : ∀ k, Num (x k)) (hy : ∀ k, Num (y k)) : Num (score h x y) :=
  (Num.sum fun j => (hx _).mul (hy _)).mul ⟨_, cScale_val⟩
/-- The greatest of some numbers is one of them. -/
theorem top_mem {n : ℕ} (hn : 0 < n) (s : Fin n → EReal) : ∃ i, top s = s i := by
  haveI : Nonempty (Fin n) := ⟨⟨0, hn⟩⟩
  obtain ⟨i, -, hi⟩ := Finset.exists_mem_eq_sup Finset.univ Finset.univ_nonempty s
  exact ⟨i, hi⟩
/-- The sum of the exponentials of numbers is a positive number. -/
theorem sum_exp_pos {n : ℕ} (hn : 0 < n) (r : Fin n → ℝ) : 0 < ∑ k, Real.exp (r k) := by
  haveI : Nonempty (Fin n) := ⟨⟨0, hn⟩⟩
  exact Finset.sum_pos (fun k _ => Real.exp_pos _) Finset.univ_nonempty
/-- On numbers the shift of softmax changes nothing, and the weights are numbers. -/
theorem soft_eq {n : ℕ} (hn : 0 < n) {s : Fin n → EReal} (hs : ∀ k, Num (s k)) (q : Fin n) :
    soft s q = plain s q ∧ Num (plain s q) := by
  obtain ⟨i, hi⟩ := top_mem hn s
  choose r hr using hs
  have h1 : ∀ k, Ideal.exp (s k - top s) = ((Real.exp (r k - r i) : ℝ) : EReal) := fun k => by
    rw [hi, hr, hr, ← EReal.coe_sub, Ideal.exp_coe]
  have h2 : ∀ k, Ideal.exp (s k) = ((Real.exp (r k) : ℝ) : EReal) := fun k => by rw [hr, Ideal.exp_coe]
  unfold soft plain
  simp only [h1, h2]
  rw [sum_real, sum_real, div_real _ (sum_exp_pos hn fun k => r k - r i).ne', div_real _ (sum_exp_pos hn r).ne']
  refine ⟨?_, num_real _⟩
  congr 1
  simp only [Real.exp_sub]
  rw [← Finset.sum_div, div_div_div_cancel_right₀ (Real.exp_pos _).ne']
theorem Num.attend {n : ℕ} (hn : 0 < n) {z : Fin n → Fin 2304 → EReal} (hz : ∀ q e, Num (z q e)) (p : Fin n) (d : Fin 768) :
    Num (attend z p d) := Num.sum fun q => (hz _ _).mul (by
  rw [(soft_eq hn (fun k => Num.score _ (hz p) (hz k)) q).1]
  exact (soft_eq hn (fun k => Num.score _ (hz p) (hz k)) q).2)
theorem Num.mid {P : Params} (hP : P.Finite) {x o : Fin 768 → EReal} (hx : ∀ k, Num (x k)) (ho : ∀ k, Num (o k)) (d : Fin 768) :
    Num (mid P x o d) := ((hx d).add (Num.sum fun k => (ho k).mul (hP.pw k d))).add (hP.pb d)
theorem Num.hidden {P : Params} (hP : P.Finite) {x : Fin 768 → EReal} (hx : ∀ k, Num (x k)) (e : Fin 3072) : Num (hidden P x e) :=
  (Num.sum fun k => (Num.lnRow hx hP.g2 hP.b2 k).mul (hP.w1 k e)).add (hP.c1 e)
theorem Num.ffn {P : Params} (hP : P.Finite) {x : Fin 768 → EReal} (hx : ∀ k, Num (x k)) (d : Fin 768) : Num (ffn P x d) :=
  ((hx d).add (Num.sum fun k => (Num.hidden hP hx k).gelu.mul (hP.w2 k d))).add (hP.c2 d)
/-- A layer keeps numbers numbers. -/
theorem Num.layer {P : Params} (hP : P.Finite) {t : Fin 101 → Fin 768 → EReal} (ht : ∀ p d, Num (t p d)) (p : Fin 101) (d : Fin 768) :
    Num (layer P t p d) :=
  Num.ffn hP (Num.mid hP (ht p) (Num.attend (by norm_num) (fun q => Num.qkv hP (ht q)) p)) d

/-! ### The kernel's layer is the reference's on the rows below 101 -/

/-- A row number below 101 among the 128. -/
def row (p : Fin 101) : Fin 128 := ⟨p.val, by omega⟩
/-- A sum over the 128 rows whose terms vanish from 101 on. -/
theorem sum_rows (f : Fin 128 → EReal) (h : ∀ q : Fin 128, 101 ≤ q.val → f q = 0) : ∑ q, f q = ∑ q, f (row q) := by
  have e := Fin.sum_univ_add (a := 101) (b := 27) f
  refine e.trans ?_
  rw [Finset.sum_eq_zero (s := Finset.univ) (f := fun i : Fin 27 => f (Fin.natAdd 101 i)) fun i _ => h _ (by simp), add_zero]
  rfl
/-- The scale on the query is the scale on the score. -/
theorem scaled (h : Fin 12) {x y : Fin 2304 → EReal} (hx : ∀ k, Num (x k)) (hy : ∀ k, Num (y k)) :
    ∑ j, x (qCol h j) * cScale * y (kCol h j) = score h x y := by
  choose a ha using hx
  choose b hb using hy
  unfold score
  rw [cScale_val]
  simp only [ha, hb, ← EReal.coe_mul]
  rw [sum_real, sum_real, ← EReal.coe_mul, Finset.sum_mul]
  congr 1
  exact Finset.sum_congr rfl fun j _ => by ring
/-- The kernel's attention is the reference's, on the rows that count. -/
theorem attendMasked_eq {z : Fin 128 → Fin 2304 → EReal} (hz : ∀ q e, Num (z (row q) e)) (p : Fin 101) (d : Fin 768) :
    attendMasked z (row p) d = attend (fun q => z (row q)) p d := by
  set h := headOfCol d with hh
  have hm : ∀ q : Fin 128, 101 ≤ q.val → maskedExp h z (row p) q = 0 := fun q hq => if_neg (by omega)
  have he : ∀ q : Fin 101, maskedExp h z (row p) (row q) = Ideal.exp (score h (z (row p)) (z (row q))) := fun q => by
    unfold maskedExp
    rw [if_pos (show (row q).val < 101 from q.isLt), scaled h (hz p) (hz q)]
  have hs : ∑ k, maskedExp h z (row p) k = ∑ k, Ideal.exp (score h (z (row p)) (z (row k))) := by
    rw [sum_rows _ hm]; exact Finset.sum_congr rfl fun k _ => he k
  have hn : ∀ k : Fin 101, Num (score h (z (row p)) (z (row k))) := fun k => Num.score h (hz p) (hz k)
  have h0 : ∑ k, Ideal.exp (score h (z (row p)) (z (row k))) ≠ 0 := by
    choose r hr using hn
    simp only [hr, Ideal.exp_coe]
    rw [sum_real]
    exact_mod_cast (sum_exp_pos (by norm_num) r).ne'
  unfold attendMasked attend
  rw [← hh, hs, sum_rows _ fun q hq => by rw [hm q hq, Ideal.zero_div h0, zero_mul]]
  refine Finset.sum_congr rfl fun q _ => ?_
  rw [he q, (soft_eq (by norm_num) hn q).1, mul_comm]
  rfl
/-- One layer of the kernel is the reference's, on the rows that count. -/
theorem layerMasked_eq {P : Params} (hP : P.Finite) {t : Fin 128 → Fin 768 → EReal} (ht : ∀ q e, Num (t (row q) e)) (p : Fin 101) :
    layerMasked P t (row p) = layer P (fun q => t (row q)) p := by
  unfold layerMasked layer
  exact congrArg (fun o => ffn P (mid P (t (row p)) o)) (funext fun d => attendMasked_eq (fun q => Num.qkv hP (ht q)) p d)

/-! ### The encoder and its head -/

/-- The arrays a run starts from: tokens, the layers' parameters, the last normalisation and the head. -/
structure Net where
  /-- the 101 token rows of every batch row -/
  tok : Fin 32 → Fin 101 → Fin 768 → EReal
  /-- the layers -/
  lay : Fin 12 → Params
  /-- last scale -/
  ng : Fin 768 → EReal
  /-- last shift -/
  nb : Fin 768 → EReal
  /-- head weights -/
  hw : Fin 768 → Fin 40 → EReal
  /-- head bias -/
  hb : Fin 40 → EReal
/-- A count as a layer's number. -/
def lay12 (l : ℕ) : Fin 12 := ⟨l % 12, Nat.mod_lt _ (by norm_num)⟩
theorem lay12_val (l : Fin 12) : lay12 l.val = l := Fin.ext (Nat.mod_eq_of_lt l.isLt)
/-- The token rows of a batch row after some layers. -/
def Net.rows (N : Net) (n : Fin 32) : ℕ → Fin 101 → Fin 768 → EReal
  | 0 => N.tok n
  | l + 1 => layer (N.lay (lay12 l)) (N.rows n l)
/-- The result: the head on the normalised first row. -/
def Net.out (N : Net) (n : Fin 32) (c : Fin 40) : EReal := ∑ k, lnRow (N.rows n 12 0) N.ng N.nb k * N.hw k c + N.hb c
/-- The tokens and the layers' parameters are numbers. -/
structure Net.Finite (N : Net) : Prop where
  tok : ∀ n p d, Num (N.tok n p d)
  lay : ∀ l, (N.lay l).Finite
theorem Net.Finite.rows {N : Net} (h : N.Finite) (n : Fin 32) : ∀ l p d, Num (N.rows n l p d)
  | 0, p, d => h.tok n p d
  | l + 1, p, d => Num.layer (h.lay _) (fun p d => Net.Finite.rows h n l p d) p d

/-- An array of numbers over one, two or three axes. -/
abbrev A1 (a : ℕ) : Type := (⟨1, ![a]⟩ : Shape).Idx → EReal
/-- Two axes. -/
abbrev A2 (a b : ℕ) : Type := (⟨2, ![a, b]⟩ : Shape).Idx → EReal
/-- Three axes. -/
abbrev A3 (a b c : ℕ) : Type := (⟨3, ![a, b, c]⟩ : Shape).Idx → EReal
/-- A layer's parameters out of the stacked arrays. -/
def paramsAt (a1 a2 : A2 12 768) (a3 : A3 12 768 2304) (a4 : A3 12 768 768) (a5 a6 a7 : A2 12 768) (a8 : A3 12 768 3072)
    (a9 : A2 12 3072) (a10 : A3 12 3072 768) (a11 : A2 12 768) (l : Fin 12) : Params where
  g1 k := a1 (ix2 l k)
  b1 k := a2 (ix2 l k)
  qw k e := a3 (ix3 l k e)
  pw k e := a4 (ix3 l k e)
  pb k := a5 (ix2 l k)
  g2 k := a6 (ix2 l k)
  b2 k := a7 (ix2 l k)
  w1 k e := a8 (ix3 l k e)
  c1 k := a9 (ix2 l k)
  w2 k e := a10 (ix3 l k e)
  c2 k := a11 (ix2 l k)
/-- The encoder the sixteen argument arrays describe. -/
def netOf (a0 : A3 32 128 768) (a1 a2 : A2 12 768) (a3 : A3 12 768 2304) (a4 : A3 12 768 768) (a5 a6 a7 : A2 12 768) (a8 : A3 12 768 3072)
    (a9 : A2 12 3072) (a10 : A3 12 3072 768) (a11 : A2 12 768) (a12 a13 : A1 768) (a14 : A2 768 40) (a15 : A1 40) : Net where
  tok n p d := a0 (ix3 n (row p) d)
  lay := paramsAt a1 a2 a3 a4 a5 a6 a7 a8 a9 a10 a11
  ng k := a12 (ix1 k)
  nb k := a13 (ix1 k)
  hw k c := a14 (ix2 k c)
  hb c := a15 (ix1 c)
end Cert.Encoder
end
-- ==== Proof.KerLayer.lean ====
/-
  One layer of the kernel on one batch row, read as arithmetic.
-/
module

public import proofs.«01_k».proof.Proof.LayerI
public import proofs.«01_k».proof.Proof.Math

@[expose] public section

set_option maxRecDepth 16384

noncomputable section

namespace Cert.KernelIdeal.Vit

open Idealize.ShloMosaic Idealize.SL.Sem
open Cert.KernelIdeal.Gen
open Cert.Encoder

section Read
variable (t : FVec Ideal S128x768 .f32) (g b : Vec Ideal S1x1x768 .f32) (p : Fin 128) (d : Fin 768)

theorem rowMean_at : rowMean t (ix2 p 0) = mean (fun k => t (ix2 p k)) := by
  pointwise [rowMean, mean]
theorem lnorm_at : lnorm t g b (ix2 p d) = lnRow (fun k => t (ix2 p k)) (fun k => g (ix3 0 0 k)) (fun k => b (ix3 0 0 k)) d := by
  pointwise [lnorm, centred, invStd, rowMean, lnRow, spread, mean]
theorem qkvOf_at (y : FVec Ideal S128x768 .bf16) (w : Vec Ideal S1x768x2304 .bf16) (e : Fin 2304) :
    qkvOf y w (ix2 p e) = ∑ k, y (ix2 p k) * w (ix3 0 k e) := by
  pointwise [qkvOf]
theorem scoreAt_at (oq ok : Nat) (hq : S128x2304.Slices ![0, oq] S128x64) (hk : S128x2304.Slices ![0, ok] S128x64)
    (hq' : oq + 64 ≤ 2304) (hk' : ok + 64 ≤ 2304) (z : FVec Ideal S128x2304 .f32) (q : Fin 128) :
    scoreAt oq ok hq hk z (ix2 p q) = ∑ j : Fin 64, z (ix2 p ⟨oq + j.val, by omega⟩) * cScale * z (ix2 q ⟨ok + j.val, by omega⟩) := by
  pointwise [scoreAt]
/-- The comparison of a column's number with 101. -/
theorem lt_word (q : Fin 128) : IntOp.cmpi CmpIPredicate.slt (BitVec.ofNat 32 q.val) 101#32 = if q.val < 101 then 1#1 else 0#1 := by
  revert q; decide
theorem expMask_at (s : FVec Ideal S128x128 .f32) (q : Fin 128) :
    expMask s (ix2 p q) = if q.val < 101 then Ideal.exp (s (ix2 p q)) else 0 := by
  have h : expMask s (ix2 p q) = Scalar.select (IntOp.cmpi CmpIPredicate.slt (BitVec.ofNat 32 q.val) 101#32) (Ideal.exp (s (ix2 p q))) 0 := by
    pointwise [expMask, k0_pay4]
  rw [h, lt_word]
  by_cases hq : q.val < 101
  · rw [if_pos hq, if_pos hq]; rfl
  · rw [if_neg hq, if_neg hq]; rfl
theorem probOf_at (s : FVec Ideal S128x128 .f32) (q : Fin 128) :
    probOf s (ix2 p q) = Ideal.div (expMask s (ix2 p q)) (∑ k, expMask s (ix2 p k)) := by
  unfold probOf
  generalize expMask s = e
  pointwise
theorem headAt_at (ov : Nat) (hv : S128x2304.Slices ![0, ov] S128x64) (hv' : ov + 64 ≤ 2304) (z : FVec Ideal S128x2304 .f32)
    (a : FVec Ideal S128x128 .bf16) (j : Fin 64) :
    headAt ov hv z a (ix2 p j) = ∑ q, a (ix2 p q) * z (ix2 q ⟨ov + j.val, by omega⟩) := by
  pointwise [headAt]
theorem projOf_at (o : FVec Ideal S128x768 .bf16) (w : Vec Ideal S1x768x768 .bf16) :
    projOf t o w b (ix2 p d) = t (ix2 p d) + ∑ k, o (ix2 p k) * w (ix3 0 k d) + b (ix3 0 0 d) := by
  pointwise [projOf]
theorem fc1Of_at (y : FVec Ideal S128x768 .bf16) (w : Vec Ideal S1x768x3072 .bf16) (c : Vec Ideal S1x1x3072 .f32) (e : Fin 3072) :
    fc1Of y w c (ix2 p e) = ∑ k, y (ix2 p k) * w (ix3 0 k e) + c (ix3 0 0 e) := by
  pointwise [fc1Of]
theorem geluOf_at (a : FVec Ideal S128x3072 .f32) (e : Fin 3072) : geluOf a (ix2 p e) = gelu (a (ix2 p e)) := by
  unfold gelu
  rw [mul_comm cHalf]
  pointwise [geluOf]
  rfl
theorem fc2Of_at (a : FVec Ideal S128x3072 .bf16) (w : Vec Ideal S1x3072x768 .bf16) :
    fc2Of t a w (ix2 p d) = t (ix2 p d) + ∑ k, a (ix2 p k) * w (ix3 0 k d) := by
  pointwise [fc2Of]
theorem biasOf_at : biasOf t b (ix2 p d) = t (ix2 p d) + b (ix3 0 0 d) := by
  pointwise [biasOf]
theorem headOf_at (z : FVec Ideal S128x2304 .f32) (h : Fin 12) (j : Fin 64) :
    headOf z h (ix2 p j) = ∑ q, Ideal.div (maskedExp h (fun p e => z (ix2 p e)) p q) (∑ k, maskedExp h (fun p e => z (ix2 p e)) p k)
      * z (ix2 q (vCol h j)) := by
  have e : ∀ q, expMask (scoreAt (768 * 0 + 64 * h.val) (768 * 1 + 64 * h.val) (slice_ok 0 h) (slice_ok 1 h) z) (ix2 p q)
      = maskedExp h (fun p e => z (ix2 p e)) p q := fun q => by
    rw [expMask_at, scoreAt_at p _ _ _ _ (by omega) (by omega)]
    unfold maskedExp
    refine if_congr Iff.rfl (congrArg Ideal.exp (Finset.sum_congr rfl fun j _ => ?_)) rfl
    have e1 : (⟨768 * 0 + 64 * h.val + j.val, by omega⟩ : Fin 2304) = qCol h j :=
      Fin.ext (show 768 * 0 + 64 * h.val + j.val = 64 * h.val + j.val by omega)
    have e2 : (⟨768 * 1 + 64 * h.val + j.val, by omega⟩ : Fin 2304) = kCol h j :=
      Fin.ext (show 768 * 1 + 64 * h.val + j.val = 768 + 64 * h.val + j.val by omega)
    rw [e1, e2]
  unfold headOf
  rw [headAt_at p _ _ (by omega)]
  refine Finset.sum_congr rfl fun q _ => ?_
  rw [probOf_at, e q, Finset.sum_congr rfl fun k _ => e k]
  rfl
/-- Two readings of a family agree at equal places. -/
theorem pick_congr {α : Type} (G : Fin 12 → Fin 64 → α) {h h' : Fin 12} {j j' : Fin 64} (e : h.val = h'.val) (e' : j.val = j'.val) :
    G h j = G h' j' := by
  rw [Fin.ext e, Fin.ext e']
theorem attn_at (z : FVec Ideal S128x2304 .f32) : attn z (ix2 p d) = attendMasked (fun p e => z (ix2 p e)) p d := by
  have h : attn z (ix2 p d) = headOf z (headOfCol d) (ix2 p (inHead d)) := by
    pointwise [attn]
    by_cases h0 : d.val < 64
    · rw [dif_pos h0]
      exact pick_congr (fun h j => headOf z h (ix2 p j)) (show 0 = d.val / 64 by omega) (show d.val = d.val % 64 by omega)
    rw [dif_neg h0]
    by_cases h1 : d.val - 64 < 64
    · rw [dif_pos h1]
      exact pick_congr (fun h j => headOf z h (ix2 p j)) (show 1 = d.val / 64 by omega) (show d.val - 64 = d.val % 64 by omega)
    rw [dif_neg h1]
    by_cases h2 : d.val - 64 - 64 < 64
    · rw [dif_pos h2]
      exact pick_congr (fun h j => headOf z h (ix2 p j)) (show 2 = d.val / 64 by omega) (show d.val - 64 - 64 = d.val % 64 by omega)
    rw [dif_neg h2]
    by_cases h3 : d.val - 64 - 64 - 64 < 64
    · rw [dif_pos h3]
      exact pick_congr (fun h j => headOf z h (ix2 p j)) (show 3 = d.val / 64 by omega) (show d.val - 64 - 64 - 64 = d.val % 64 by omega)
    rw [dif_neg h3]
    by_cases h4 : d.val - 64 - 64 - 64 - 64 < 64
    · rw [dif_pos h4]
      exact pick_congr (fun h j => headOf z h (ix2 p j)) (show 4 = d.val / 64 by omega) (show d.val - 64 - 64 - 64 - 64 = d.val % 64 by omega)
    rw [dif_neg h4]
    by_cases h5 : d.val - 64 - 64 - 64 - 64 - 64 < 64
    · rw [dif_pos h5]
      exact pick_congr (fun h j => headOf z h (ix2 p j)) (show 5 = d.val / 64 by omega) (show d.val - 64 - 64 - 64 - 64 - 64 = d.val % 64 by omega)
    rw [dif_neg h5]
    by_cases h6 : d.val - 64 - 64 - 64 - 64 - 64 - 64 < 64
    · rw [dif_pos h6]
      exact pick_congr (fun h j => headOf z h (ix2 p j)) (show 6 = d.val / 64 by omega) (show d.val - 64 - 64 - 64 - 64 - 64 - 64 = d.val % 64 by omega)
    rw [dif_neg h6]
    by_cases h7 : d.val - 64 - 64 - 64 - 64 - 64 - 64 - 64 < 64
    · rw [dif_pos h7]
      exact pick_congr (fun h j => headOf z h (ix2 p j)) (show 7 = d.val / 64 by omega) (show d.val - 64 - 64 - 64 - 64 - 64 - 64 - 64 = d.val % 64 by omega)
    rw [dif_neg h7]
    by_cases h8 : d.val - 64 - 64 - 64 - 64 - 64 - 64 - 64 - 64 < 64
    · rw [dif_pos h8]
      exact pick_congr (fun h j => headOf z h (ix2 p j)) (show 8 = d.val / 64 by omega) (show d.val - 64 - 64 - 64 - 64 - 64 - 64 - 64 - 64 = d.val % 64 by omega)
    rw [dif_neg h8]
    by_cases h9 : d.val - 64 - 64 - 64 - 64 - 64 - 64 - 64 - 64 - 64 < 64
    · rw [dif_pos h9]
      exact pick_congr (fun h j => headOf z h (ix2 p j)) (show 9 = d.val / 64 by omega) (show d.val - 64 - 64 - 64 - 64 - 64 - 64 - 64 - 64 - 64 = d.val % 64 by omega)
    rw [dif_neg h9]
    by_cases h10 : d.val - 64 - 64 - 64 - 64 - 64 - 64 - 64 - 64 - 64 - 64 < 64
    · rw [dif_pos h10]
      exact pick_congr (fun h j => headOf z h (ix2 p j)) (show 10 = d.val / 64 by omega) (show d.val - 64 - 64 - 64 - 64 - 64 - 64 - 64 - 64 - 64 - 64 = d.val % 64 by omega)
    rw [dif_neg h10]
    have h11 := d.isLt
    exact pick_congr (fun h j => headOf z h (ix2 p j)) (show 11 = d.val / 64 by omega) (show d.val - 64 - 64 - 64 - 64 - 64 - 64 - 64 - 64 - 64 - 64 - 64 = d.val % 64 by omega)
  rw [h, headOf_at]; rfl

variable (x1 x2 x5 x6 x7 x11 : Vec Ideal S1x1x768 .f32) (x3 : Vec Ideal S1x768x2304 .bf16) (x4 : Vec Ideal S1x768x768 .bf16)
  (x8 : Vec Ideal S1x768x3072 .bf16) (x9 : Vec Ideal S1x1x3072 .f32) (x10 : Vec Ideal S1x3072x768 .bf16)
/-- The parameters of a layer as the kernel's blocks hold them. -/
def paramsOf : Params where
  g1 k := x1 (ix3 0 0 k)
  b1 k := x2 (ix3 0 0 k)
  qw k e := x3 (ix3 0 k e)
  pw k e := x4 (ix3 0 k e)
  pb k := x5 (ix3 0 0 k)
  g2 k := x6 (ix3 0 0 k)
  b2 k := x7 (ix3 0 0 k)
  w1 k e := x8 (ix3 0 k e)
  c1 k := x9 (ix3 0 0 k)
  w2 k e := x10 (ix3 0 k e)
  c2 k := x11 (ix3 0 0 k)
/-- The attention half at an index. -/
theorem midOf_at : midOf t x1 x2 x3 x4 x5 (ix2 p d)
    = mid (paramsOf x1 x2 x5 x6 x7 x11 x3 x4 x8 x9 x10) (fun k => t (ix2 p k))
      (attendMasked (fun q => qkv (paramsOf x1 x2 x5 x6 x7 x11 x3 x4 x8 x9 x10) (fun k => t (ix2 q k))) p) d := by
  have hz : (fun p e => qkvOf (lnorm t x1 x2) x3 (ix2 p e))
      = fun q => qkv (paramsOf x1 x2 x5 x6 x7 x11 x3 x4 x8 x9 x10) (fun k => t (ix2 q k)) := funext fun q => funext fun e => by
    rw [qkvOf_at]; exact Finset.sum_congr rfl fun k _ => by rw [lnorm_at]; rfl
  unfold midOf
  rw [projOf_at]
  simp only [attn_at]
  rw [hz]; rfl
/-- The feed-forward half at an index. -/
theorem ffnOf_at : ffnOf t x6 x7 x8 x9 x10 x11 (ix2 p d)
    = ffn (paramsOf x1 x2 x5 x6 x7 x11 x3 x4 x8 x9 x10) (fun k => t (ix2 p k)) d := by
  unfold ffnOf
  rw [biasOf_at, fc2Of_at]
  simp only [geluOf_at, fc1Of_at, lnorm_at]
  rfl
/-- A layer of the kernel on one batch row is the layer over 128 rows with the padding masked. -/
theorem layerOf_at : layerOf t x1 x2 x3 x4 x5 x6 x7 x8 x9 x10 x11 (ix2 p d)
    = layerMasked (paramsOf x1 x2 x5 x6 x7 x11 x3 x4 x8 x9 x10) (fun p k => t (ix2 p k)) p d := by
  unfold layerOf
  rw [ffnOf_at (midOf t x1 x2 x3 x4 x5) p d x1 x2 x5]
  simp only [midOf_at t p _ x1 x2 x5 x6 x7 x11 x3 x4 x8 x9 x10]
  rfl
end Read
end Cert.KernelIdeal.Vit
end
-- ==== Proof.KerVal.lean ====
/-
  What the kernel's two calls leave in their result arrays, over the argument arrays.
-/
module

public import proofs.«01_k».proof.Proof.FrameI
public import proofs.«01_k».proof.Proof.KerLayer
public import Idealize.ShloMosaic.Lib.Pipeline.ValueKit

@[expose] public section

set_option maxRecDepth 16384

noncomputable section

namespace Cert.KernelIdeal.Vit

open Cert.KernelIdeal Cert.KernelIdeal.Gen
open Idealize.ShloMosaic Idealize.ShloMosaic.TcCoe Idealize.SL.Sem
open Idealize.ShloMosaic.Pipeline (Dat Cfg)
open Cert.Encoder

/-! ### The stacked rows of one block -/

section Block
/-- Row `g` of a block at an index. -/
theorem rowOf_at (g : Fin 2) (x : Vec Ideal S2x128x768 .f32) (p : Fin 128) (d : Fin 768) :
    rowOf g x (ix2 p d) = x (ix3 g p d) := by
  pointwise [rowOf, dropRow, VecWindow.window]
  blk_ext
/-- The first stacked row. -/
theorem pairUp_0 (a b : FVec Ideal S128x768 .f32) (p : Fin 128) (d : Fin 768) : pairUp a b (ix3 0 p d) = a (ix2 p d) := by
  pointwise [pairUp]
/-- The second stacked row. -/
theorem pairUp_1 (a b : FVec Ideal S128x768 .f32) (p : Fin 128) (d : Fin 768) : pairUp a b (ix3 1 p d) = b (ix2 p d) := by
  pointwise [pairUp]
variable (x : Vec Ideal S2x128x768 .f32) (x1 x2 : Vec Ideal S1x1x768 .f32) (x3 : Vec Ideal S1x768x2304 .bf16) (x4 : Vec Ideal S1x768x768 .bf16)
    (x5 x6 x7 : Vec Ideal S1x1x768 .f32) (x8 : Vec Ideal S1x768x3072 .bf16) (x9 : Vec Ideal S1x1x3072 .f32) (x10 : Vec Ideal S1x3072x768 .bf16)
    (x11 : Vec Ideal S1x1x768 .f32)
/-- One grid point's two rows at an index. -/
theorem layer2_at (g : Fin 2) (p : Fin 128) (d : Fin 768) : layer2 x x1 x2 x3 x4 x5 x6 x7 x8 x9 x10 x11 (ix3 g p d)
    = layerMasked (paramsOf x1 x2 x5 x6 x7 x11 x3 x4 x8 x9 x10) (fun p k => x (ix3 g p k)) p d := by
  have key : ∀ g : Fin 2, layerOf (rowOf g x) x1 x2 x3 x4 x5 x6 x7 x8 x9 x10 x11 (ix2 p d)
      = layerMasked (paramsOf x1 x2 x5 x6 x7 x11 x3 x4 x8 x9 x10) (fun p k => x (ix3 g p k)) p d := fun g => by
    rw [layerOf_at]; simp only [rowOf_at]
  unfold layer2
  fin_cases g
  · exact (pairUp_0 _ _ p d).trans (key 0)
  · exact (pairUp_1 _ _ p d).trans (key 1)
end Block

/-! ### The blocks' places -/

/-- The block each window of the encoder reads or writes at a grid point. -/
theorem idx0 : ∀ t : Fin cfg0.N, win0_0.index t = ![t.val / 96 * 8 + t.val % 8, 0, 0] ∧ win0_1.index t = ![t.val / 8 % 12, 0, 0]
    ∧ win0_2.index t = ![t.val / 8 % 12, 0, 0] ∧ win0_3.index t = ![t.val / 8 % 12, 0, 0] ∧ win0_4.index t = ![t.val / 8 % 12, 0, 0]
    ∧ win0_5.index t = ![t.val / 8 % 12, 0, 0] ∧ win0_6.index t = ![t.val / 8 % 12, 0, 0] ∧ win0_7.index t = ![t.val / 8 % 12, 0, 0]
    ∧ win0_8.index t = ![t.val / 8 % 12, 0, 0] ∧ win0_9.index t = ![t.val / 8 % 12, 0, 0] ∧ win0_10.index t = ![t.val / 8 % 12, 0, 0]
    ∧ win0_11.index t = ![t.val / 8 % 12, 0, 0] ∧ win0_12.index t = ![t.val / 96 * 8 + t.val % 8, 0, 0] :=
  (by decide +kernel : ∀ t : Fin grid0.N, _)
/-- The block each window of the head reads or writes at a grid point. -/
theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![t.val, 0] :=
  (by decide +kernel : ∀ t : Fin grid1.N, _)
theorem lt192 (t : Fin cfg0.N) : t.val < 192 := t.isLt
theorem lt2 (t : Fin cfg1.N) : t.val < 2 := t.isLt
/-- The batch row of a grid point's row `g`. -/
def batch (t : Fin cfg0.N) (g : Fin 2) : Fin 32 := ⟨2 * (t.val / 96 * 8 + t.val % 8) + g.val, by have := lt192 t; have := g.isLt; omega⟩
theorem batch_prev (t : Fin cfg0.N) (h : t.val / 8 % 12 ≠ 0) (g : Fin 2) : batch (prev8 t) g = batch t g := by
  refine Fin.ext ?_
  show 2 * ((t.val - 8) / 96 * 8 + (t.val - 8) % 8) + g.val = 2 * (t.val / 96 * 8 + t.val % 8) + g.val
  have := lt192 t
  omega
/-- The layer of a grid point. -/
def layAt (t : Fin cfg0.N) : Fin 12 := ⟨t.val / 8 % 12, Nat.mod_lt _ (by decide)⟩

section Run
variable (m : (ℓ : Loc nD τ sig) → Buf (Elt Ideal) ℓ) (ρ : Dev nD → PrngReg)

/-- The encoder over the kernel's argument arrays. -/
def net (c : Dev nD) : Net :=
  netOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))

/-! ### The operands the host prepares -/

theorem V1_main_v0 (c : Dev nD) : V1 m ρ c main_v0 = shapeCast S12x1x768 (m ((c : Thread nD τ).loc main_arg1)) shapeCasts_S12x768_S12x1x768 := by
  show StableHlo.after hostOps0 (W0 m ρ c) (Proc.devRef .tc main_v0) = _
  after_results; try rfl

theorem V1_main_v1 (c : Dev nD) : V1 m ρ c main_v1 = shapeCast S12x1x768 (m ((c : Thread nD τ).loc main_arg2)) shapeCasts_S12x768_S12x1x768 := by
  show StableHlo.after hostOps0 (W0 m ρ c) (Proc.devRef .tc main_v1) = _
  after_results; try rfl

theorem V1_main_v4 (c : Dev nD) : V1 m ρ c main_v4 = shapeCast S12x1x768 (m ((c : Thread nD τ).loc main_arg5)) shapeCasts_S12x768_S12x1x768 := by
  show StableHlo.after hostOps0 (W0 m ρ c) (Proc.devRef .tc main_v4) = _
  after_results; try rfl

theorem V1_main_v5 (c : Dev nD) : V1 m ρ c main_v5 = shapeCast S12x1x768 (m ((c : Thread nD τ).loc main_arg6)) shapeCasts_S12x768_S12x1x768 := by
  show StableHlo.after hostOps0 (W0 m ρ c) (Proc.devRef .tc main_v5) = _
  after_results; try rfl

theorem V1_main_v6 (c : Dev nD) : V1 m ρ c main_v6 = shapeCast S12x1x768 (m ((c : Thread nD τ).loc main_arg7)) shapeCasts_S12x768_S12x1x768 := by
  show StableHlo.after hostOps0 (W0 m ρ c) (Proc.devRef .tc main_v6) = _
  after_results; try rfl

theorem V1_main_v8 (c : Dev nD) : V1 m ρ c main_v8 = shapeCast S12x1x3072 (m ((c : Thread nD τ).loc main_arg9)) shapeCasts_S12x3072_S12x1x3072 := by
  show StableHlo.after hostOps0 (W0 m ρ c) (Proc.devRef .tc main_v8) = _
  after_results; try rfl

theorem V1_main_v10 (c : Dev nD) : V1 m ρ c main_v10 = shapeCast S12x1x768 (m ((c : Thread nD τ).loc main_arg11)) shapeCasts_S12x768_S12x1x768 := by
  show StableHlo.after hostOps0 (W0 m ρ c) (Proc.devRef .tc main_v10) = _
  after_results; try rfl

theorem V1_main_v2 (c : Dev nD) : V1 m ρ c main_v2 = truncf (F := Ideal) .bf16 (m ((c : Thread nD τ).loc main_arg3)) bitsLt_bf16_f32 := by
  show StableHlo.after hostOps0 (W0 m ρ c) (Proc.devRef .tc main_v2) = _
  after_results; try rfl

theorem V1_main_v3 (c : Dev nD) : V1 m ρ c main_v3 = truncf (F := Ideal) .bf16 (m ((c : Thread nD τ).loc main_arg4)) bitsLt_bf16_f32 := by
  show StableHlo.after hostOps0 (W0 m ρ c) (Proc.devRef .tc main_v3) = _
  after_results; try rfl

theorem V1_main_v7 (c : Dev nD) : V1 m ρ c main_v7 = truncf (F := Ideal) .bf16 (m ((c : Thread nD τ).loc main_arg8)) bitsLt_bf16_f32 := by
  show StableHlo.after hostOps0 (W0 m ρ c) (Proc.devRef .tc main_v7) = _
  after_results; try rfl

theorem V1_main_v9 (c : Dev nD) : V1 m ρ c main_v9 = truncf (F := Ideal) .bf16 (m ((c : Thread nD τ).loc main_arg10)) bitsLt_bf16_f32 := by
  show StableHlo.after hostOps0 (W0 m ρ c) (Proc.devRef .tc main_v9) = _
  after_results; try rfl

/-! ### The blocks the encoder's body reads -/

theorem truncf_at {S : Shape} (x : FVec Ideal S .f32) (h : FTy.bits .bf16 < FTy.bits .f32) (i : S.Idx) : truncf .bf16 x h i = x i := rfl

theorem wide_at (x : FVec Ideal S12x3072 .f32) (l : Fin 12) (k : Fin 3072) :
    shapeCast S12x1x3072 x shapeCasts_S12x3072_S12x1x3072 (ix3 l 0 k) = x (ix2 l k) := by
  pointwise
/-- The tokens' block. -/
theorem blk_0 (c : Dev nD) (t : Fin cfg0.N) (g : Fin 2) (p : Fin 128) (d : Fin 768) :
    (iblk0 (V1 m ρ) c 0 t : FVec Ideal S2x128x768 .f32) (ix3 g p d) = (m ((c : Thread nD τ).loc main_arg0) : FVec Ideal S32x128x768 .f32) (ix3 (batch t g) p d) := by
  blk_simp [iblk0]
  rw [show V1 m ρ c main_arg0 = m ((c : Thread nD τ).loc main_arg0) from W1_args m ρ c main_arg0 (by decide)]
  blk_ext [idx0 t, batch]

/-- The block of window 1. -/
theorem blk_1 (c : Dev nD) (t : Fin cfg0.N) (k : Fin 768) :
    (iblk0 (V1 m ρ) c 1 t : FVec Ideal S1x1x768 .f32) (ix3 0 0 k) = (m ((c : Thread nD τ).loc main_arg1) : FVec Ideal S12x768 .f32) (ix2 (layAt t) k) := by
  blk_simp [iblk0]
  rw [show (win0_1.blk t).view.emb (ix3 0 0 k) = ix3 (layAt t) 0 k by blk_ext [idx0 t, layAt], V1_main_v0]
  pointwise

/-- The block of window 2. -/
theorem blk_2 (c : Dev nD) (t : Fin cfg0.N) (k : Fin 768) :
    (iblk0 (V1 m ρ) c 2 t : FVec Ideal S1x1x768 .f32) (ix3 0 0 k) = (m ((c : Thread nD τ).loc main_arg2) : FVec Ideal S12x768 .f32) (ix2 (layAt t) k) := by
  blk_simp [iblk0]
  rw [show (win0_2.blk t).view.emb (ix3 0 0 k) = ix3 (layAt t) 0 k by blk_ext [idx0 t, layAt], V1_main_v1]
  pointwise

/-- The block of window 5. -/
theorem blk_5 (c : Dev nD) (t : Fin cfg0.N) (k : Fin 768) :
    (iblk0 (V1 m ρ) c 5 t : FVec Ideal S1x1x768 .f32) (ix3 0 0 k) = (m ((c : Thread nD τ).loc main_arg5) : FVec Ideal S12x768 .f32) (ix2 (layAt t) k) := by
  blk_simp [iblk0]
  rw [show (win0_5.blk t).view.emb (ix3 0 0 k) = ix3 (layAt t) 0 k by blk_ext [idx0 t, layAt], V1_main_v4]
  pointwise

/-- The block of window 6. -/
theorem blk_6 (c : Dev nD) (t : Fin cfg0.N) (k : Fin 768) :
    (iblk0 (V1 m ρ) c 6 t : FVec Ideal S1x1x768 .f32) (ix3 0 0 k) = (m ((c : Thread nD τ).loc main_arg6) : FVec Ideal S12x768 .f32) (ix2 (layAt t) k) := by
  blk_simp [iblk0]
  rw [show (win0_6.blk t).view.emb (ix3 0 0 k) = ix3 (layAt t) 0 k by blk_ext [idx0 t, layAt], V1_main_v5]
  pointwise

/-- The block of window 7. -/
theorem blk_7 (c : Dev nD) (t : Fin cfg0.N) (k : Fin 768) :
    (iblk0 (V1 m ρ) c 7 t : FVec Ideal S1x1x768 .f32) (ix3 0 0 k) = (m ((c : Thread nD τ).loc main_arg7) : FVec Ideal S12x768 .f32) (ix2 (layAt t) k) := by
  blk_simp [iblk0]
  rw [show (win0_7.blk t).view.emb (ix3 0 0 k) = ix3 (layAt t) 0 k by blk_ext [idx0 t, layAt], V1_main_v6]
  pointwise

/-- The block of window 9. -/
theorem blk_9 (c : Dev nD) (t : Fin cfg0.N) (k : Fin 3072) :
    (iblk0 (V1 m ρ) c 9 t : FVec Ideal S1x1x3072 .f32) (ix3 0 0 k) = (m ((c : Thread nD τ).loc main_arg9) : FVec Ideal S12x3072 .f32) (ix2 (layAt t) k) := by
  blk_simp [iblk0]
  rw [show (win0_9.blk t).view.emb (ix3 0 0 k) = ix3 (layAt t) 0 k by blk_ext [idx0 t, layAt], V1_main_v8]
  exact wide_at _ _ _

/-- The block of window 11. -/
theorem blk_11 (c : Dev nD) (t : Fin cfg0.N) (k : Fin 768) :
    (iblk0 (V1 m ρ) c 11 t : FVec Ideal S1x1x768 .f32) (ix3 0 0 k) = (m ((c : Thread nD τ).loc main_arg11) : FVec Ideal S12x768 .f32) (ix2 (layAt t) k) := by
  blk_simp [iblk0]
  rw [show (win0_11.blk t).view.emb (ix3 0 0 k) = ix3 (layAt t) 0 k by blk_ext [idx0 t, layAt], V1_main_v10]
  pointwise

/-- The block of window 3. -/
theorem blk_3 (c : Dev nD) (t : Fin cfg0.N) (k : Fin 768) (e : Fin 2304) :
    (iblk0 (V1 m ρ) c 3 t : FVec Ideal S1x768x2304 .bf16) (ix3 0 k e) = (m ((c : Thread nD τ).loc main_arg3) : FVec Ideal S12x768x2304 .f32) (ix3 (layAt t) k e) := by
  blk_simp [iblk0]
  rw [show (win0_3.blk t).view.emb (ix3 0 k e) = ix3 (layAt t) k e by blk_ext [idx0 t, layAt], V1_main_v2]
  exact truncf_at _ _ _

/-- The block of window 4. -/
theorem blk_4 (c : Dev nD) (t : Fin cfg0.N) (k : Fin 768) (e : Fin 768) :
    (iblk0 (V1 m ρ) c 4 t : FVec Ideal S1x768x768 .bf16) (ix3 0 k e) = (m ((c : Thread nD τ).loc main_arg4) : FVec Ideal S12x768x768 .f32) (ix3 (layAt t) k e) := by
  blk_simp [iblk0]
  rw [show (win0_4.blk t).view.emb (ix3 0 k e) = ix3 (layAt t) k e by blk_ext [idx0 t, layAt], V1_main_v3]
  exact truncf_at _ _ _

/-- The block of window 8. -/
theorem blk_8 (c : Dev nD) (t : Fin cfg0.N) (k : Fin 768) (e : Fin 3072) :
    (iblk0 (V1 m ρ) c 8 t : FVec Ideal S1x768x3072 .bf16) (ix3 0 k e) = (m ((c : Thread nD τ).loc main_arg8) : FVec Ideal S12x768x3072 .f32) (ix3 (layAt t) k e) := by
  blk_simp [iblk0]
  rw [show (win0_8.blk t).view.emb (ix3 0 k e) = ix3 (layAt t) k e by blk_ext [idx0 t, layAt], V1_main_v7]
  exact truncf_at _ _ _

/-- The block of window 10. -/
theorem blk_10 (c : Dev nD) (t : Fin cfg0.N) (k : Fin 3072) (e : Fin 768) :
    (iblk0 (V1 m ρ) c 10 t : FVec Ideal S1x3072x768 .bf16) (ix3 0 k e) = (m ((c : Thread nD τ).loc main_arg10) : FVec Ideal S12x3072x768 .f32) (ix3 (layAt t) k e) := by
  blk_simp [iblk0]
  rw [show (win0_10.blk t).view.emb (ix3 0 k e) = ix3 (layAt t) k e by blk_ext [idx0 t, layAt], V1_main_v9]
  exact truncf_at _ _ _

/-- The parameters a grid point reads are its layer's. -/
theorem params_at (c : Dev nD) (t : Fin cfg0.N) :
    paramsOf (iblk0 (V1 m ρ) c 1 t) (iblk0 (V1 m ρ) c 2 t) (iblk0 (V1 m ρ) c 5 t) (iblk0 (V1 m ρ) c 6 t) (iblk0 (V1 m ρ) c 7 t)
      (iblk0 (V1 m ρ) c 11 t) (iblk0 (V1 m ρ) c 3 t) (iblk0 (V1 m ρ) c 4 t) (iblk0 (V1 m ρ) c 8 t) (iblk0 (V1 m ρ) c 9 t)
      (iblk0 (V1 m ρ) c 10 t) = (net m c).lay (layAt t) := by
  show _ = paramsAt _ _ _ _ _ _ _ _ _ _ _ _
  unfold paramsOf paramsAt
  simp only [blk_1, blk_2, blk_3, blk_4, blk_5, blk_6, blk_7, blk_8, blk_9, blk_10, blk_11]

/-- After layer `l`, a grid point's block holds its two batch rows' tokens. -/
theorem outF_at (c : Dev nD) (hN : (net m c).Finite) : ∀ (l : ℕ) (t : Fin cfg0.N), t.val / 8 % 12 = l → ∀ (g : Fin 2) (p : Fin 101) (d : Fin 768),
    outF (V1 m ρ) c l t (ix3 g (row p) d) = (net m c).rows (batch t g) (l + 1) p d
  | 0, t, ht, g, p, d => by
    refine (layer2_at _ _ _ _ _ _ _ _ _ _ _ _ g (row p) d).trans ?_
    rw [params_at, show layAt t = lay12 0 from Fin.ext ht]
    refine (congrFun (layerMasked_eq (hN.lay _) (fun q e => ?_) p) d).trans ?_
    · rw [blk_0]; exact hN.tok _ _ _
    · exact congrArg (fun r => layer ((net m c).lay (lay12 0)) r p d) (funext fun q => funext fun e => blk_0 m ρ c t g (row q) e)
  | l + 1, t, ht, g, p, d => by
    have h0 : t.val / 8 % 12 ≠ 0 := by omega
    have hp : (prev8 t).val / 8 % 12 = l := by show (t.val - 8) / 8 % 12 = l; omega
    have ih := fun q e => (outF_at c hN l (prev8 t) hp g q e).trans (by rw [batch_prev t h0 g])
    refine (layer2_at (outF (V1 m ρ) c l (prev8 t)) _ _ _ _ _ _ _ _ _ _ _ g (row p) d).trans ?_
    rw [params_at, show layAt t = lay12 (l + 1) from Fin.ext (by show t.val / 8 % 12 = (l + 1) % 12; omega)]
    refine (congrFun (layerMasked_eq (hN.lay _) (fun q e => ?_) p) d).trans ?_
    · rw [ih q e]; exact hN.rows _ _ _ _
    · exact congrArg (fun r => layer ((net m c).lay (lay12 (l + 1))) r p d) (funext fun q => funext fun e => ih q e)

/-! ### The encoder's result array: what a batch row's last grid point wrote -/

/-- The point that writes batch row `n` for the last time. -/
def lastPt (n : Fin 32) : Fin cfg0.N := ⟨96 * (n.val / 16) + 88 + n.val % 16 / 2, by have := n.isLt; show _ < 192; omega⟩
/-- Which of that point's two rows it is. -/
def rowIn (n : Fin 32) : Fin 2 := ⟨n.val % 2, Nat.mod_lt _ (by decide)⟩
theorem batch_last (n : Fin 32) : batch (lastPt n) (rowIn n) = n := by
  revert n; decide +kernel
theorem lay_last (n : Fin 32) : (lastPt n).val / 8 % 12 = 11 := by
  revert n; decide +kernel
/-- No later point's block meets it. -/
theorem later_ne (n : Fin 32) (s : Fin cfg0.N) (h : (lastPt n).val < s.val) : s.val / 96 * 8 + s.val % 8 ≠ n.val / 2 := by
  have h' : 96 * (n.val / 16) + 88 + n.val % 16 / 2 < s.val := h
  have := lt192 s; have := n.isLt
  omega
theorem arrAt_last (c : Dev nD) (n : Fin 32) (p : Fin 128) (d : Fin 768) : ∀ k : ℕ, (lastPt n).val < k →
    ((dat0 (V1 m ρ) c).arrAt 12 k : FVec Ideal S32x128x768 .f32) (ix3 n p d) = outsAt0 (V1 m ρ) c (lastPt n) (ix3 (rowIn n) p d)
  | 0, h => absurd h (Nat.not_lt_zero _)
  | k + 1, h => by
    refine ((dat0 (V1 m ρ) c).arrAt_succ_apply 12 k (ix3 n p d)).trans ?_
    by_cases hk : k < cfg0.N
    swap
    · rw [dif_neg hk]; exact arrAt_last c n p d k (by have := (lastPt n).isLt; omega)
    rw [dif_pos hk, if_pos (flush0_12 ⟨k, hk⟩)]
    by_cases e : (lastPt n).val = k
    · have e' : (⟨k, hk⟩ : Fin cfg0.N) = lastPt n := Fin.ext e.symm
      rw [e']
      have he : (win0_12.blk (lastPt n)).view.emb (ix3 (rowIn n) p d) = ix3 n p d := by
        refine Eq.trans (b := ix3 (batch (lastPt n) (rowIn n)) p d) ?_ (by rw [batch_last])
        blk_ext [idx0 (lastPt n), batch]
      have hw := congrFun (View.read_write_univ (v := ((cfg0.win 12).blk (lastPt n)).view) ((dat0 (V1 m ρ) c).arrAt 12 k)
        ((dat0 (V1 m ρ) c).flushed 12 (lastPt n))) (ix3 (rowIn n) p d)
      refine Eq.trans ?_ (hw.trans ?_)
      · rw [View.read_apply]
        refine Eq.trans ?_ (cast_eq _ _).symm
        exact congrArg _ he.symm
      · exact congrFun (after0_12 (V1 m ρ) c (lastPt n)) (ix3 (rowIn n) p d)
    · refine (View.write_of_not_mem _ _ _ ?_).trans (arrAt_last c n p d k (by omega))
      rw [View.setOn_univ]
      have hne : k / 96 * 8 + k % 8 ≠ n.val / 2 := later_ne n ⟨k, hk⟩ (by show _ < k; omega)
      mem_blk [idx0 ⟨k, hk⟩]
      rintro ⟨⟨h1, h2⟩, _⟩
      change (k / 96 * 8 + k % 8) * 2 ≤ n.val at h1
      change n.val < (k / 96 * 8 + k % 8) * 2 + 2 at h2
      omega

/-- The encoder's result array at a batch row's token. -/
theorem enc_at (c : Dev nD) (hN : (net m c).Finite) (n : Fin 32) (p : Fin 101) (d : Fin 768) :
    (W2 m ρ c (Proc.devRef .tc main_v11) : FVec Ideal S32x128x768 .f32) (ix3 n (row p) d) = (net m c).rows n 12 p d := by
  refine (congrFun (W2_arr m ρ c 12) (ix3 n (row p) d)).trans ?_
  refine (arrAt_last m ρ c n (row p) d cfg0.N (lastPt n).isLt).trans ?_
  unfold outsAt0
  rw [lay_last, outF_at m ρ c hN 11 (lastPt n) (lay_last n), batch_last]

/-! ### The head -/

theorem W3_main_v13 (c : Dev nD) : V3 m ρ c main_v13 = shapeCast S32x768
    (extractStridedSlice S32x1x768 ![0, 0, 0] (W2 m ρ c (Proc.devRef .tc main_v11)) slices_S32x128x768_S32x1x768_0_0_0) shapeCasts_S32x1x768_S32x768 := by
  show StableHlo.after hostOps1 (W2 m ρ c) (Proc.devRef .tc main_v13) = _
  after_results; try rfl
theorem W3_main_v14 (c : Dev nD) : V3 m ρ c main_v14 = shapeCast S1x768 (m ((c : Thread nD τ).loc main_arg12)) shapeCasts_S768_S1x768 := by
  rw [← W2_args m ρ c main_arg12 (by decide)]
  show StableHlo.after hostOps1 (W2 m ρ c) (Proc.devRef .tc main_v14) = _
  after_results; try rfl
theorem W3_main_v15 (c : Dev nD) : V3 m ρ c main_v15 = shapeCast S1x768 (m ((c : Thread nD τ).loc main_arg13)) shapeCasts_S768_S1x768 := by
  rw [← W2_args m ρ c main_arg13 (by decide)]
  show StableHlo.after hostOps1 (W2 m ρ c) (Proc.devRef .tc main_v15) = _
  after_results; try rfl
theorem W3_main_v16 (c : Dev nD) : V3 m ρ c main_v16 = shapeCast S1x40 (m ((c : Thread nD τ).loc main_arg15)) shapeCasts_S40_S1x40 := by
  rw [← W2_args m ρ c main_arg15 (by decide)]
  show StableHlo.after hostOps1 (W2 m ρ c) (Proc.devRef .tc main_v16) = _
  after_results; try rfl

/-- The head's body at an index. -/
theorem headBody_at (x : Vec Ideal S16x768 .f32) (g b : Vec Ideal S1x768 .f32) (w : Vec Ideal S768x40 .f32) (h : Vec Ideal S1x40 .f32)
    (r : Fin 16) (o : Fin 40) : k1_pay1 x g b w h (ix2 r o)
      = (∑ k : Fin 768, lnRow (fun k => x (ix2 r k)) (fun k => g (ix2 0 k)) (fun k => b (ix2 0 k)) k * w (ix2 k o)) + h (ix2 0 o) := by
  pointwise [k1_pay1, lnRow, spread, mean]

/-- The class token's rows. -/
theorem hblk_0 (c : Dev nD) (hN : (net m c).Finite) (t : Fin cfg1.N) (r : Fin 16) (d : Fin 768) :
    (iblk1 (V3 m ρ) c 0 t : FVec Ideal S16x768 .f32) (ix2 r d)
      = (net m c).rows ⟨t.val * 16 + r.val, by have := lt2 t; have := r.isLt; omega⟩ 12 0 d := by
  blk_simp [iblk1]
  rw [show (win1_0.blk t).view.emb (ix2 r d) = ix2 ⟨t.val * 16 + r.val, by have := lt2 t; have := r.isLt; omega⟩ d by blk_ext [idx1 t], W3_main_v13]
  refine Eq.trans ?_ (enc_at m ρ c hN _ 0 d)
  pointwise
  rfl
theorem hblk_1 (c : Dev nD) (t : Fin cfg1.N) (d : Fin 768) :
    (iblk1 (V3 m ρ) c 1 t : FVec Ideal S1x768 .f32) (ix2 0 d) = (m ((c : Thread nD τ).loc main_arg12) : FVec Ideal S768 .f32) (ix1 d) := by
  blk_simp [iblk1]
  rw [show (win1_1.blk t).view.emb (ix2 0 d) = ix2 0 d by blk_ext [idx1 t], W3_main_v14]
  pointwise
theorem hblk_2 (c : Dev nD) (t : Fin cfg1.N) (d : Fin 768) :
    (iblk1 (V3 m ρ) c 2 t : FVec Ideal S1x768 .f32) (ix2 0 d) = (m ((c : Thread nD τ).loc main_arg13) : FVec Ideal S768 .f32) (ix1 d) := by
  blk_simp [iblk1]
  rw [show (win1_2.blk t).view.emb (ix2 0 d) = ix2 0 d by blk_ext [idx1 t], W3_main_v15]
  pointwise
theorem hblk_3 (c : Dev nD) (t : Fin cfg1.N) (d : Fin 768) (o : Fin 40) :
    (iblk1 (V3 m ρ) c 3 t : FVec Ideal S768x40 .f32) (ix2 d o) = (m ((c : Thread nD τ).loc main_arg14) : FVec Ideal S768x40 .f32) (ix2 d o) := by
  blk_simp [iblk1]
  rw [show (win1_3.blk t).view.emb (ix2 d o) = ix2 d o by blk_ext [idx1 t], show V3 m ρ c main_arg14 = m ((c : Thread nD τ).loc main_arg14) from W3_args m ρ c main_arg14 (by decide)]
theorem hblk_4 (c : Dev nD) (t : Fin cfg1.N) (o : Fin 40) :
    (iblk1 (V3 m ρ) c 4 t : FVec Ideal S1x40 .f32) (ix2 0 o) = (m ((c : Thread nD τ).loc main_arg15) : FVec Ideal S40 .f32) (ix1 o) := by
  blk_simp [iblk1]
  rw [show (win1_4.blk t).view.emb (ix2 0 o) = ix2 0 o by blk_ext [idx1 t], W3_main_v16]
  pointwise

/-- The result array over the kernel's arguments. -/
def result (c : Dev nD) : FVec Ideal S32x40 .f32 := fun i => (net m c).out (i 0) (i 1)
/-- The kernel's result array after the run. -/
theorem final (c : Dev nD) (hN : (net m c).Finite) : W4 m ρ c (Proc.devRef .tc main_v17) = result m c := by
  refine (W4_arr m ρ c 5).trans ?_
  refine (dat1 (V3 m ρ) c).arrAt_eq_of_covers 5 _ (by decide +kernel) fun t _ y => ?_
  blk_simp
  rw [after1_5]
  unfold out1_5
  rw [View.canon_unit_zero (by decide), View.ld_unit_zero (by decide), View.ld_unit_zero (by decide), View.ld_unit_zero (by decide),
    View.ld_unit_zero (by decide), View.ld_unit_zero (by decide)]
  obtain ⟨r, o, rfl⟩ : ∃ (r : Fin 16) (o : Fin 40), y = ix2 r o := ⟨y 0, y 1, by blk_ext⟩
  refine (headBody_at _ _ _ _ _ r o).trans ?_
  simp only [hblk_0 m ρ c hN, hblk_1, hblk_2, hblk_3, hblk_4]
  rw [show (win1_5.blk t).view.emb (ix2 r o) = ix2 ⟨t.val * 16 + r.val, by have := lt2 t; have := r.isLt; omega⟩ o by blk_ext [idx1 t]]
  rfl
end Run
end Cert.KernelIdeal.Vit
end
-- ==== Proof.Finite.lean ====
/-
  The precondition read: every entry it speaks of is a number.
-/
module

public import proofs.«01_k».proof.Defs
public import proofs.«01_k».proof.Proof.KerVal

@[expose] public section

set_option maxRecDepth 16384

noncomputable section

namespace Cert.Pre_finite

open Idealize.ShloMosaic

/-- The shapes of the precondition's operations fit. -/
theorem facts : Facts where
  slices_S32x128x768_S32x101x768_0_0_0 := by decide
  bcast_S_S32x101x768 := by decide
  bcast_S_S12x768 := by decide
  bcast_S_S12x768x2304 := by decide
  bcast_S_S12x768x768 := by decide
  bcast_S_S12x768x3072 := by decide
  bcast_S_S12x3072 := by decide
  bcast_S_S12x3072x768 := by decide

end Cert.Pre_finite

namespace Cert.Encoder

open Idealize.ShloMosaic Idealize.SL.Sem

/-- A value whose absolute value is below infinity is a number. -/
theorem num_of_lt {S : Shape} (x : FVec Ideal S .f32) (h : Cert.Pre_finite.S_.BroadcastsInDim S (![] : Fin 0 → Fin S.rank))
    (e : cmpf .olt (Host.absf x) (broadcastInDim S ![] h (constant Cert.Pre_finite.S_ .f32 0x7F800000#32)) = fun _ => 1#1) (i : S.Idx) :
    Num (x i) := by
  have e' := congrFun e i
  pointwise at e'
  have ht : Ideal.ofBits .f32 2139095040#32 = (⊤ : EReal) := by simp [Ideal.ofBits, Ideal.ieee]
  have hlt : max (x i : EReal) (-(x i)) < ⊤ := by
    rw [ht] at e'
    by_contra hn
    have hf : decide (FloatOps.absf (x i) < (⊤ : EReal)) = false := decide_eq_false hn
    rw [hf] at e'
    exact absurd e' (by decide)
  generalize (x i : EReal) = y at hlt
  induction y using EReal.rec with
  | bot => exact absurd hlt (by simp)
  | coe r => exact num_real r
  | top => exact absurd hlt (by simp)
end Cert.Encoder

namespace Cert.KernelIdeal.Vit

open Idealize.ShloMosaic Idealize.ShloMosaic.TcCoe Idealize.SL.Sem
open Cert.KernelIdeal Cert.Encoder

/-- Under the precondition the encoder's tokens and layer parameters are numbers. -/
theorem net_finite (m : (ℓ : Loc nD τ sig) → Buf (Elt Ideal) ℓ) (h : Cert.Pre_KernelIdeal_finite (hPre_finite := Cert.Pre_finite.facts) m)
    (c : Dev nD) : (net m c).Finite := by
  obtain ⟨h0, h1, h2, h3, h4, h5, h6, h7, h8, h9, h10, h11⟩ := h c
  refine ⟨fun n p d => ?_, fun l => ⟨fun k => ?_, fun k => ?_, fun k e => ?_, fun k e => ?_, fun k => ?_, fun k => ?_, fun k => ?_, fun k e => ?_,
    fun k => ?_, fun k e => ?_, fun k => ?_⟩⟩
  · have := num_of_lt _ _ h0 (ix3 n p d)
    pointwise at this
    exact this
  · exact num_of_lt _ _ h1 (ix2 l k)
  · exact num_of_lt _ _ h2 (ix2 l k)
  · exact num_of_lt _ _ h3 (ix3 l k e)
  · exact num_of_lt _ _ h4 (ix3 l k e)
  · exact num_of_lt _ _ h5 (ix2 l k)
  · exact num_of_lt _ _ h6 (ix2 l k)
  · exact num_of_lt _ _ h7 (ix2 l k)
  · exact num_of_lt _ _ h8 (ix3 l k e)
  · exact num_of_lt _ _ h9 (ix2 l k)
  · exact num_of_lt _ _ h10 (ix3 l k e)
  · exact num_of_lt _ _ h11 (ix2 l k)
end Cert.KernelIdeal.Vit
end
-- ==== Proof.RefLayer.lean ====
/-
  One layer of the reference program read as arithmetic: its vector operations over the eleven sliced parameters, each
  read at an index.
-/
module

public import proofs.«01_k».proof.Proof.Gen.ReferenceIdeal.Run
public import proofs.«01_k».proof.Proof.Math

@[expose] public section

set_option maxRecDepth 16384

noncomputable section

namespace Cert.ReferenceIdeal.Enc

open Idealize.ShloMosaic Idealize.SL.Sem
open Cert.ReferenceIdeal Cert.ReferenceIdeal.Gen
open Cert.Encoder

section Terms
/-- The mean of every row. -/
def rMean (t : FVec Ideal S32x101x768 .f32) : FVec Ideal S32x101x1 .f32 :=
  Host.divf (broadcastInDim S32x101x1 ![0, 1] bcast_S32x101_S32x101x1_0_1 (Host.reduceAdd t (constant S_ .f32 0x00000000#32) reducesTo_S32x101x768_S32x101_d2 h_S_)) (broadcastInDim S32x101x1 ![] bcast_S_S32x101x1 (constant S_ .f32 0x44400000#32))
/-- Every row with its mean taken off. -/
def rCent (t : FVec Ideal S32x101x768 .f32) : FVec Ideal S32x101x768 .f32 :=
  subf t (broadcastInDim S32x101x768 ![0, 1, 2] bcast_S32x101x1_S32x101x768_0_1_2 (rMean t))
/-- Layer normalisation of every row. -/
def rNorm (t : FVec Ideal S32x101x768 .f32) (g b : FVec Ideal S768 .f32) : FVec Ideal S32x101x768 .f32 :=
  addf (mulf (mulf (rCent t) (broadcastInDim S32x101x768 ![0, 1, 2] bcast_S32x101x1_S32x101x768_0_1_2 (Host.rsqrt (addf (rMean (mulf (rCent t) (rCent t))) (broadcastInDim S32x101x1 ![] bcast_S_S32x101x1 (constant S_ .f32 0x3727C5AC#32)))))) (broadcastInDim S32x101x768 ![0, 1, 2] bcast_S1x1x768_S32x101x768_0_1_2 (broadcastInDim S1x1x768 ![2] bcast_S768_S1x1x768_2 g))) (broadcastInDim S32x101x768 ![0, 1, 2] bcast_S1x1x768_S32x101x768_0_1_2 (broadcastInDim S1x1x768 ![2] bcast_S768_S1x1x768_2 b))
/-- Queries, keys and values, split by head. -/
def rQkv (y : FVec Ideal S32x101x768 .f32) (w : FVec Ideal S768x2304 .f32) : FVec Ideal S32x101x3x12x64 .f32 :=
  shapeCast S32x101x3x12x64 (Host.dotGeneral dot_S32x101x768_S768x2304_S32x101x2304_2_0_01_1_n_n none y w) shapeCasts_S32x101x2304_S32x101x3x12x64
/-- The scaled scores of every head. -/
def rScore (z : FVec Ideal S32x101x3x12x64 .f32) : FVec Ideal S32x12x101x101 .f32 :=
  mulf (Host.dotGeneral dot_S32x101x12x64_S32x101x12x64_S32x12x101x101_3_3_1_1_02_02 none (shapeCast S32x101x12x64 (extractStridedSlice S32x101x1x12x64 ![0, 0, 0, 0, 0] z slices_S32x101x3x12x64_S32x101x1x12x64_0_0_0_0_0) shapeCasts_S32x101x1x12x64_S32x101x12x64) (shapeCast S32x101x12x64 (extractStridedSlice S32x101x1x12x64 ![0, 0, 1, 0, 0] z slices_S32x101x3x12x64_S32x101x1x12x64_0_0_1_0_0) shapeCasts_S32x101x1x12x64_S32x101x12x64)) (broadcastInDim S32x12x101x101 ![] bcast_S_S32x12x101x101 (constant S_ .f32 0x3E000000#32))
/-- The greatest score of every row. -/
def rTop (s : FVec Ideal S32x12x101x101 .f32) : FVec Ideal S32x12x101 .f32 :=
  maximumf (broadcastInDim S32x12x101 ![] bcast_S_S32x12x101 (constant S_ .f32 0xFF800000#32)) (Host.reduce FloatOps.maximumf s (constant S_ .f32 0xFF800000#32) reducesTo_S32x12x101x101_S32x12x101_d3 h_S_)
/-- The exponentials of the scores less a row's value. -/
def rExpOf (s : FVec Ideal S32x12x101x101 .f32) (m : FVec Ideal S32x12x101 .f32) : FVec Ideal S32x12x101x101 .f32 :=
  Host.exp (subf s (broadcastInDim S32x12x101x101 ![0, 1, 2, 3] bcast_S32x12x101x1_S32x12x101x101_0_1_2_3 (broadcastInDim S32x12x101x1 ![0, 1, 2] bcast_S32x12x101_S32x12x101x1_0_1_2 m)))
/-- The weighted values of every head, side by side. -/
def rAttn (z : FVec Ideal S32x101x3x12x64 .f32) (e : FVec Ideal S32x12x101x101 .f32) : FVec Ideal S32x101x768 .f32 :=
  shapeCast S32x101x768 (transpose S32x101x12x64 [0, 3, 1, 2] (Host.dotGeneral dot_S32x101x12x64_S32x12x101x101_S32x12x64x101_1_3_3_2_02_01 none (shapeCast S32x101x12x64 (extractStridedSlice S32x101x1x12x64 ![0, 0, 2, 0, 0] z slices_S32x101x3x12x64_S32x101x1x12x64_0_0_2_0_0) shapeCasts_S32x101x1x12x64_S32x101x12x64) (Host.divf e (broadcastInDim S32x12x101x101 ![0, 1, 2, 3] bcast_S32x12x101x1_S32x12x101x101_0_1_2_3 (broadcastInDim S32x12x101x1 ![0, 1, 2] bcast_S32x12x101_S32x12x101x1_0_1_2 (Host.reduceAdd e (constant S_ .f32 0x00000000#32) reducesTo_S32x12x101x101_S32x12x101_d3 h_S_))))) transposes_S32x12x64x101_S32x101x12x64_0_3_1_2) shapeCasts_S32x101x12x64_S32x101x768
/-- The rows after the attention half. -/
def rMid (t o : FVec Ideal S32x101x768 .f32) (w : FVec Ideal S768x768 .f32) (b : FVec Ideal S768 .f32) : FVec Ideal S32x101x768 .f32 :=
  addf (addf t (Host.dotGeneral dot_S32x101x768_S768x768_S32x101x768_2_0_01_1_n_n none o w)) (broadcastInDim S32x101x768 ![0, 1, 2] bcast_S1x1x768_S32x101x768_0_1_2 (broadcastInDim S1x1x768 ![2] bcast_S768_S1x1x768_2 b))
/-- The first feed-forward product. -/
def rHidden (y : FVec Ideal S32x101x768 .f32) (w : FVec Ideal S768x3072 .f32) (b : FVec Ideal S3072 .f32) : FVec Ideal S32x101x3072 .f32 :=
  addf (Host.dotGeneral dot_S32x101x768_S768x3072_S32x101x3072_2_0_01_1_n_n none y w) (broadcastInDim S32x101x3072 ![0, 1, 2] bcast_S1x1x3072_S32x101x3072_0_1_2 (broadcastInDim S1x1x3072 ![2] bcast_S3072_S1x1x3072_2 b))
/-- The rows after the feed-forward half. -/
def rFfn (t : FVec Ideal S32x101x768 .f32) (a : FVec Ideal S32x101x3072 .f32) (w : FVec Ideal S3072x768 .f32) (b : FVec Ideal S768 .f32) : FVec Ideal S32x101x768 .f32 :=
  addf (addf t (Host.dotGeneral dot_S32x101x3072_S3072x768_S32x101x768_2_0_01_1_n_n none (mulf (mulf (broadcastInDim S32x101x3072 ![] bcast_S_S32x101x3072 (constant S_ .f32 0x3F000000#32)) a) (addf (broadcastInDim S32x101x3072 ![] bcast_S_S32x101x3072 (constant S_ .f32 0x3F800000#32)) (Host.erf (mulf a (broadcastInDim S32x101x3072 ![] bcast_S_S32x101x3072 (constant S_ .f32 0x3F3504F3#32)))))) w)) (broadcastInDim S32x101x768 ![0, 1, 2] bcast_S1x1x768_S32x101x768_0_1_2 (broadcastInDim S1x1x768 ![2] bcast_S768_S1x1x768_2 b))
end Terms

section Read
variable (t : FVec Ideal S32x101x768 .f32) (g b : FVec Ideal S768 .f32) (n : Fin 32) (p : Fin 101) (d : Fin 768)

theorem rMean_at : rMean t (ix3 n p 0) = mean (fun k => t (ix3 n p k)) := by
  pointwise [rMean, mean]
theorem rCent_at : rCent t (ix3 n p d) = t (ix3 n p d) - mean (fun k => t (ix3 n p k)) := by
  pointwise [rCent, rMean, mean]
theorem rNorm_at : rNorm t g b (ix3 n p d) = lnRow (fun k => t (ix3 n p k)) (fun k => g (ix1 k)) (fun k => b (ix1 k)) d := by
  pointwise [rNorm, rCent, rMean, lnRow, spread, mean]
theorem rQkv_at (w : FVec Ideal S768x2304 .f32) (s : Fin 3) (h : Fin 12) (j : Fin 64) :
    rQkv t w (ix5 n p s h j) = ∑ k, t (ix3 n p k) * w (ix2 k ⟨768 * s.val + 64 * h.val + j.val, by omega⟩) := by
  pointwise [rQkv]
  refine Finset.sum_congr rfl fun k _ => congrArg (fun e => t (ix3 n p k) * w (ix2 k e)) (Fin.ext ?_)
  show s.val * 768 + h.val * 64 + j.val = 768 * s.val + 64 * h.val + j.val
  omega
theorem rScore_at (z : FVec Ideal S32x101x3x12x64 .f32) (h : Fin 12) (q : Fin 101) :
    rScore z (ix4 n h p q) = (∑ j : Fin 64, z (ix5 n p 0 h j) * z (ix5 n q 1 h j)) * cScale := by
  pointwise [rScore]
/-- The word of minus infinity. -/
theorem negInf : Ideal.ofBits .f32 0xFF800000#32 = (⊥ : EReal) := by
  simp [Ideal.ofBits, Ideal.ieee]
theorem rFold_at (s : FVec Ideal S32x12x101x101 .f32) (h : Fin 12) :
    Host.reduce FloatOps.maximumf s (constant S_ .f32 0xFF800000#32) reducesTo_S32x12x101x101_S32x12x101_d3 h_S_ (ix3 n h p)
      = Finset.univ.fold max (Ideal.ofBits .f32 0xFF800000#32) (fun k : Fin 101 => s (ix4 n h p k)) := by
  pointwise
/-- The greater of a constant and an array's element. -/
theorem max_at (r : FVec Ideal S32x12x101 .f32) (h : Fin 12) :
    maximumf (broadcastInDim S32x12x101 ![] bcast_S_S32x12x101 (constant S_ .f32 0xFF800000#32)) r (ix3 n h p)
      = max (Ideal.ofBits .f32 0xFF800000#32) (r (ix3 n h p)) := by
  pointwise
/-- The greatest score of a row. -/
theorem rTop_at (s : FVec Ideal S32x12x101x101 .f32) (h : Fin 12) : rTop s (ix3 n h p) = top (fun k => s (ix4 n h p k)) := by
  unfold rTop top
  rw [max_at, rFold_at, negInf]
  generalize Finset.univ.fold max ⊥ (fun k : Fin 101 => s (ix4 n h p k)) = x
  exact bot_sup_eq x
theorem rExpOf_at (s : FVec Ideal S32x12x101x101 .f32) (m : FVec Ideal S32x12x101 .f32) (h : Fin 12) (q : Fin 101) :
    rExpOf s m (ix4 n h p q) = Ideal.exp (s (ix4 n h p q) - m (ix3 n h p)) := by
  pointwise [rExpOf]
theorem rAttn_at (z : FVec Ideal S32x101x3x12x64 .f32) (e : FVec Ideal S32x12x101x101 .f32) :
    rAttn z e (ix3 n p d) = ∑ q : Fin 101, z (ix5 n q 2 (headOfCol d) (inHead d)) * Ideal.div (e (ix4 n (headOfCol d) p q)) (∑ k, e (ix4 n (headOfCol d) p k)) := by
  pointwise [rAttn, headOfCol, inHead]
theorem rMid_at (o : FVec Ideal S32x101x768 .f32) (w : FVec Ideal S768x768 .f32) :
    rMid t o w b (ix3 n p d) = t (ix3 n p d) + ∑ k, o (ix3 n p k) * w (ix2 k d) + b (ix1 d) := by
  pointwise [rMid]
theorem rHidden_at (w : FVec Ideal S768x3072 .f32) (c : FVec Ideal S3072 .f32) (e : Fin 3072) :
    rHidden t w c (ix3 n p e) = ∑ k, t (ix3 n p k) * w (ix2 k e) + c (ix1 e) := by
  pointwise [rHidden]
theorem rFfn_at (a : FVec Ideal S32x101x3072 .f32) (w : FVec Ideal S3072x768 .f32) :
    rFfn t a w b (ix3 n p d) = t (ix3 n p d) + ∑ k, gelu (a (ix3 n p k)) * w (ix2 k d) + b (ix1 d) := by
  pointwise [rFfn, gelu]
end Read
end Cert.ReferenceIdeal.Enc
end
-- ==== Proof.RefVal.lean ====
/-
  The reference program's result: its loop over the layers and its head, read as arithmetic over the argument arrays.
-/
module

public import proofs.«01_k».proof.Proof.RefLayer
public import Idealize.ShloMosaic.Lib.DynamicIndex

@[expose] public section

set_option maxRecDepth 16384

noncomputable section

namespace Cert.ReferenceIdeal.Enc

open Idealize.ShloMosaic Idealize.SL.Sem
open Idealize.ShloMosaic.StableHlo Idealize.ShloMosaic.TcCoe
open Cert.ReferenceIdeal Cert.ReferenceIdeal.Gen Cert.ReferenceIdeal.Value
open Cert.Encoder

/-- Row `c` of a table of layers of 768 numbers. -/
def pick768 (x : FVec Ideal S12x768 .f32) (c : IVec S_ 32) : FVec Ideal S768 .f32 :=
  shapeCast S768 (Host.dynamicSlice S1x768 x (fun k => (((![c, constantI S_ 32 0#32] : Fin 2 → (⟨S_, .i32⟩ : BufTy).Contents (Elt Ideal))) k (Shape.Idx.first h_S_)).toInt) sliceFits_S12x768_S1x768) shapeCasts_S1x768_S768
/-- Row `c` of a table of layers of 3072 numbers. -/
def pick3072 (x : FVec Ideal S12x3072 .f32) (c : IVec S_ 32) : FVec Ideal S3072 .f32 :=
  shapeCast S3072 (Host.dynamicSlice S1x3072 x (fun k => (((![c, constantI S_ 32 0#32] : Fin 2 → (⟨S_, .i32⟩ : BufTy).Contents (Elt Ideal))) k (Shape.Idx.first h_S_)).toInt) sliceFits_S12x3072_S1x3072) shapeCasts_S1x3072_S3072
/-- Layer `c` of the query, key and value weights. -/
def pickQkv (x : FVec Ideal S12x768x2304 .f32) (c : IVec S_ 32) : FVec Ideal S768x2304 .f32 :=
  shapeCast S768x2304 (Host.dynamicSlice S1x768x2304 x (fun k => (((![c, constantI S_ 32 0#32, constantI S_ 32 0#32] : Fin 3 → (⟨S_, .i32⟩ : BufTy).Contents (Elt Ideal))) k (Shape.Idx.first h_S_)).toInt) sliceFits_S12x768x2304_S1x768x2304) shapeCasts_S1x768x2304_S768x2304
/-- Layer `c` of the projection weights. -/
def pickProj (x : FVec Ideal S12x768x768 .f32) (c : IVec S_ 32) : FVec Ideal S768x768 .f32 :=
  shapeCast S768x768 (Host.dynamicSlice S1x768x768 x (fun k => (((![c, constantI S_ 32 0#32, constantI S_ 32 0#32] : Fin 3 → (⟨S_, .i32⟩ : BufTy).Contents (Elt Ideal))) k (Shape.Idx.first h_S_)).toInt) sliceFits_S12x768x768_S1x768x768) shapeCasts_S1x768x768_S768x768
/-- Layer `c` of the first feed-forward weights. -/
def pickUp (x : FVec Ideal S12x768x3072 .f32) (c : IVec S_ 32) : FVec Ideal S768x3072 .f32 :=
  shapeCast S768x3072 (Host.dynamicSlice S1x768x3072 x (fun k => (((![c, constantI S_ 32 0#32, constantI S_ 32 0#32] : Fin 3 → (⟨S_, .i32⟩ : BufTy).Contents (Elt Ideal))) k (Shape.Idx.first h_S_)).toInt) sliceFits_S12x768x3072_S1x768x3072) shapeCasts_S1x768x3072_S768x3072
/-- Layer `c` of the second feed-forward weights. -/
def pickDown (x : FVec Ideal S12x3072x768 .f32) (c : IVec S_ 32) : FVec Ideal S3072x768 .f32 :=
  shapeCast S3072x768 (Host.dynamicSlice S1x3072x768 x (fun k => (((![c, constantI S_ 32 0#32, constantI S_ 32 0#32] : Fin 3 → (⟨S_, .i32⟩ : BufTy).Contents (Elt Ideal))) k (Shape.Idx.first h_S_)).toInt) sliceFits_S12x3072x768_S1x3072x768) shapeCasts_S1x3072x768_S3072x768

/-- The rows after the attention half, over the carried tokens and the layer's sliced parameters. -/
def rHalf (t : FVec Ideal S32x101x768 .f32) (g1 b1 : FVec Ideal S768 .f32) (qw : FVec Ideal S768x2304 .f32) (pw : FVec Ideal S768x768 .f32)
    (pb : FVec Ideal S768 .f32) : FVec Ideal S32x101x768 .f32 :=
  rMid t (rAttn (rQkv (rNorm t g1 b1) qw) (rExpOf (rScore (rQkv (rNorm t g1 b1) qw)) (rTop (rScore (rQkv (rNorm t g1 b1) qw))))) pw pb
/-- The loop's step on the tokens is the layer's operations over the sliced parameters. -/
theorem step_eq (V : Valuation τ sig (Elt Ideal)) : step_main_v1_12 V =
    rFfn (rHalf (V (Proc.devRef .tc main_v1_12)) (pick768 (V (Proc.devRef .tc main_v1_0)) (V (Proc.devRef .tc main_v1_11)))
        (pick768 (V (Proc.devRef .tc main_v1_1)) (V (Proc.devRef .tc main_v1_11))) (pickQkv (V (Proc.devRef .tc main_v1_2)) (V (Proc.devRef .tc main_v1_11)))
        (pickProj (V (Proc.devRef .tc main_v1_3)) (V (Proc.devRef .tc main_v1_11))) (pick768 (V (Proc.devRef .tc main_v1_4)) (V (Proc.devRef .tc main_v1_11))))
      (rHidden (rNorm (rHalf (V (Proc.devRef .tc main_v1_12)) (pick768 (V (Proc.devRef .tc main_v1_0)) (V (Proc.devRef .tc main_v1_11)))
        (pick768 (V (Proc.devRef .tc main_v1_1)) (V (Proc.devRef .tc main_v1_11))) (pickQkv (V (Proc.devRef .tc main_v1_2)) (V (Proc.devRef .tc main_v1_11)))
        (pickProj (V (Proc.devRef .tc main_v1_3)) (V (Proc.devRef .tc main_v1_11))) (pick768 (V (Proc.devRef .tc main_v1_4)) (V (Proc.devRef .tc main_v1_11))))
          (pick768 (V (Proc.devRef .tc main_v1_5)) (V (Proc.devRef .tc main_v1_11))) (pick768 (V (Proc.devRef .tc main_v1_6)) (V (Proc.devRef .tc main_v1_11))))
        (pickUp (V (Proc.devRef .tc main_v1_7)) (V (Proc.devRef .tc main_v1_11))) (pick3072 (V (Proc.devRef .tc main_v1_8)) (V (Proc.devRef .tc main_v1_11))))
      (pickDown (V (Proc.devRef .tc main_v1_9)) (V (Proc.devRef .tc main_v1_11))) (pick768 (V (Proc.devRef .tc main_v1_10)) (V (Proc.devRef .tc main_v1_11))) := rfl

/-- A layer's number as the loop's counter word. -/
def word (l : ℕ) : IVec S_ 32 := fun _ => Scf.iv 0#32 1#32 l
/-- The counter word read as an integer. -/
theorem word_toInt (l : Fin 12) : (Scf.iv 0#32 1#32 l.val).toInt = (l.val : ℤ) := by revert l; decide
theorem fits768 (l : Fin 12) : S12x768.Slices ![l.val, 0] S1x768 := by revert l; decide
/-- The picked layer at an index. -/
theorem pick768_at (x : FVec Ideal S12x768 .f32) (l : Fin 12) (d : Fin 768) : pick768 x (word l.val) (ix1 d) = x (ix2 l d) := by
  unfold pick768
  rw [Host.dynamicSlice_eq_extractStridedSlice _ x _ ![l.val, 0] _ (fits768 l) (fun a => by
    match a with
    | 0 => exact word_toInt l
    | 1 => rfl)]
  pointwise
theorem fits3072 (l : Fin 12) : S12x3072.Slices ![l.val, 0] S1x3072 := by revert l; decide
/-- The picked layer at an index. -/
theorem pick3072_at (x : FVec Ideal S12x3072 .f32) (l : Fin 12) (d : Fin 3072) : pick3072 x (word l.val) (ix1 d) = x (ix2 l d) := by
  unfold pick3072
  rw [Host.dynamicSlice_eq_extractStridedSlice _ x _ ![l.val, 0] _ (fits3072 l) (fun a => by
    match a with
    | 0 => exact word_toInt l
    | 1 => rfl)]
  pointwise
theorem fitsQkv (l : Fin 12) : S12x768x2304.Slices ![l.val, 0, 0] S1x768x2304 := by revert l; decide
/-- The picked layer at an index. -/
theorem pickQkv_at (x : FVec Ideal S12x768x2304 .f32) (l : Fin 12) (k : Fin 768) (e : Fin 2304) : pickQkv x (word l.val) (ix2 k e) = x (ix3 l k e) := by
  unfold pickQkv
  rw [Host.dynamicSlice_eq_extractStridedSlice _ x _ ![l.val, 0, 0] _ (fitsQkv l) (fun a => by
    match a with
    | 0 => exact word_toInt l
    | 1 => rfl
    | 2 => rfl)]
  pointwise
theorem fitsProj (l : Fin 12) : S12x768x768.Slices ![l.val, 0, 0] S1x768x768 := by revert l; decide
/-- The picked layer at an index. -/
theorem pickProj_at (x : FVec Ideal S12x768x768 .f32) (l : Fin 12) (k : Fin 768) (e : Fin 768) : pickProj x (word l.val) (ix2 k e) = x (ix3 l k e) := by
  unfold pickProj
  rw [Host.dynamicSlice_eq_extractStridedSlice _ x _ ![l.val, 0, 0] _ (fitsProj l) (fun a => by
    match a with
    | 0 => exact word_toInt l
    | 1 => rfl
    | 2 => rfl)]
  pointwise
theorem fitsUp (l : Fin 12) : S12x768x3072.Slices ![l.val, 0, 0] S1x768x3072 := by revert l; decide
/-- The picked layer at an index. -/
theorem pickUp_at (x : FVec Ideal S12x768x3072 .f32) (l : Fin 12) (k : Fin 768) (e : Fin 3072) : pickUp x (word l.val) (ix2 k e) = x (ix3 l k e) := by
  unfold pickUp
  rw [Host.dynamicSlice_eq_extractStridedSlice _ x _ ![l.val, 0, 0] _ (fitsUp l) (fun a => by
    match a with
    | 0 => exact word_toInt l
    | 1 => rfl
    | 2 => rfl)]
  pointwise
theorem fitsDown (l : Fin 12) : S12x3072x768.Slices ![l.val, 0, 0] S1x3072x768 := by revert l; decide
/-- The picked layer at an index. -/
theorem pickDown_at (x : FVec Ideal S12x3072x768 .f32) (l : Fin 12) (k : Fin 3072) (e : Fin 768) : pickDown x (word l.val) (ix2 k e) = x (ix3 l k e) := by
  unfold pickDown
  rw [Host.dynamicSlice_eq_extractStridedSlice _ x _ ![l.val, 0, 0] _ (fitsDown l) (fun a => by
    match a with
    | 0 => exact word_toInt l
    | 1 => rfl
    | 2 => rfl)]
  pointwise

/-- The layer over the carried tokens and its sliced parameters. -/
def rLayer (t : FVec Ideal S32x101x768 .f32) (g1 b1 : FVec Ideal S768 .f32) (qw : FVec Ideal S768x2304 .f32) (pw : FVec Ideal S768x768 .f32)
    (pb g2 b2 : FVec Ideal S768 .f32) (w1 : FVec Ideal S768x3072 .f32) (c1 : FVec Ideal S3072 .f32) (w2 : FVec Ideal S3072x768 .f32)
    (c2 : FVec Ideal S768 .f32) : FVec Ideal S32x101x768 .f32 :=
  rFfn (rHalf t g1 b1 qw pw pb) (rHidden (rNorm (rHalf t g1 b1 qw pw pb) g2 b2) w1 c1) w2 c2
section Layer
variable (t : FVec Ideal S32x101x768 .f32) (g1 b1 : FVec Ideal S768 .f32) (qw : FVec Ideal S768x2304 .f32) (pw : FVec Ideal S768x768 .f32)
    (pb g2 b2 : FVec Ideal S768 .f32) (w1 : FVec Ideal S768x3072 .f32) (c1 : FVec Ideal S3072 .f32) (w2 : FVec Ideal S3072x768 .f32)
    (c2 : FVec Ideal S768 .f32)
/-- The sliced parameters as a layer's. -/
def rParams : Params where
  g1 k := g1 (ix1 k)
  b1 k := b1 (ix1 k)
  qw k e := qw (ix2 k e)
  pw k e := pw (ix2 k e)
  pb k := pb (ix1 k)
  g2 k := g2 (ix1 k)
  b2 k := b2 (ix1 k)
  w1 k e := w1 (ix2 k e)
  c1 k := c1 (ix1 k)
  w2 k e := w2 (ix2 k e)
  c2 k := c2 (ix1 k)
variable (n : Fin 32) (p : Fin 101) (d : Fin 768)
/-- A query, a key or a value column. -/
theorem rQkv_col (s : Fin 3) (h : Fin 12) (j : Fin 64) :
    rQkv (rNorm t g1 b1) qw (ix5 n p s h j)
      = qkv (rParams g1 b1 qw pw pb g2 b2 w1 c1 w2 c2) (fun k => t (ix3 n p k)) ⟨768 * s.val + 64 * h.val + j.val, by omega⟩ := by
  rw [rQkv_at]
  exact Finset.sum_congr rfl fun k _ => by rw [rNorm_at]; rfl
/-- The attention half at an index. -/
theorem rHalf_at : rHalf t g1 b1 qw pw pb (ix3 n p d)
    = mid (rParams g1 b1 qw pw pb g2 b2 w1 c1 w2 c2) (fun k => t (ix3 n p k))
        (attend (fun q => qkv (rParams g1 b1 qw pw pb g2 b2 w1 c1 w2 c2) (fun k => t (ix3 n q k))) p) d := by
  have hq : ∀ (q : Fin 101) (h : Fin 12) (j : Fin 64), rQkv (rNorm t g1 b1) qw (ix5 n q 0 h j)
      = qkv (rParams g1 b1 qw pw pb g2 b2 w1 c1 w2 c2) (fun k => t (ix3 n q k)) (qCol h j) := fun q h j =>
    (rQkv_col t g1 b1 qw pw pb g2 b2 w1 c1 w2 c2 n q 0 h j).trans
      (congrArg _ (Fin.ext (show 768 * 0 + 64 * h.val + j.val = 64 * h.val + j.val by omega)))
  have hk : ∀ (q : Fin 101) (h : Fin 12) (j : Fin 64), rQkv (rNorm t g1 b1) qw (ix5 n q 1 h j)
      = qkv (rParams g1 b1 qw pw pb g2 b2 w1 c1 w2 c2) (fun k => t (ix3 n q k)) (kCol h j) := fun q h j =>
    (rQkv_col t g1 b1 qw pw pb g2 b2 w1 c1 w2 c2 n q 1 h j).trans
      (congrArg _ (Fin.ext (show 768 * 1 + 64 * h.val + j.val = 768 + 64 * h.val + j.val by omega)))
  have hv : ∀ (q : Fin 101) (h : Fin 12) (j : Fin 64), rQkv (rNorm t g1 b1) qw (ix5 n q 2 h j)
      = qkv (rParams g1 b1 qw pw pb g2 b2 w1 c1 w2 c2) (fun k => t (ix3 n q k)) (vCol h j) := fun q h j =>
    (rQkv_col t g1 b1 qw pw pb g2 b2 w1 c1 w2 c2 n q 2 h j).trans
      (congrArg _ (Fin.ext (show 768 * 2 + 64 * h.val + j.val = 1536 + 64 * h.val + j.val by omega)))
  unfold rHalf
  rw [rMid_at]
  simp only [rAttn_at, rExpOf_at, rTop_at, rScore_at, hq, hk, hv]
  rfl
/-- The reference's layer at an index is the layer on the batch row. -/
theorem rLayer_at : rLayer t g1 b1 qw pw pb g2 b2 w1 c1 w2 c2 (ix3 n p d)
    = layer (rParams g1 b1 qw pw pb g2 b2 w1 c1 w2 c2) (fun p d => t (ix3 n p d)) p d := by
  have h : (fun k => rHalf t g1 b1 qw pw pb (ix3 n p k)) = mid (rParams g1 b1 qw pw pb g2 b2 w1 c1 w2 c2) (fun k => t (ix3 n p k))
        (attend (fun q => qkv (rParams g1 b1 qw pw pb g2 b2 w1 c1 w2 c2) (fun k => t (ix3 n q k))) p) :=
    funext fun k => rHalf_at t g1 b1 qw pw pb g2 b2 w1 c1 w2 c2 n p k
  unfold rLayer layer
  rw [← h, rFfn_at]
  simp only [rHidden_at, rNorm_at]
  rfl
end Layer

/-- The head on the first row. -/
def rHead (t : FVec Ideal S32x101x768 .f32) (g b : FVec Ideal S768 .f32) (w : FVec Ideal S768x40 .f32) (o : FVec Ideal S40 .f32) : FVec Ideal S32x40 .f32 :=
  addf (Host.dotGeneral dot_S32x768_S768x40_S32x40_1_0_0_1_n_n none (shapeCast S32x768 (extractStridedSlice S32x1x768 ![0, 0, 0] (rNorm t g b) slices_S32x101x768_S32x1x768_0_0_0) shapeCasts_S32x1x768_S32x768) w)
    (broadcastInDim S32x40 ![0, 1] bcast_S1x40_S32x40_0_1 (broadcastInDim S1x40 ![1] bcast_S40_S1x40_1 o))
theorem out_eq (V : Valuation τ sig (Elt Ideal)) : out_main_v31 V = rHead (V (Proc.devRef .tc main_v1_12)) (V (Proc.devRef .tc main_arg12))
    (V (Proc.devRef .tc main_arg13)) (V (Proc.devRef .tc main_arg14)) (V (Proc.devRef .tc main_arg15)) := rfl
theorem rHead_at (t : FVec Ideal S32x101x768 .f32) (g b : FVec Ideal S768 .f32) (w : FVec Ideal S768x40 .f32) (o : FVec Ideal S40 .f32)
    (n : Fin 32) (c : Fin 40) : rHead t g b w o (ix2 n c)
      = ∑ k, lnRow (fun k => t (ix3 n 0 k)) (fun k => g (ix1 k)) (fun k => b (ix1 k)) k * w (ix2 k c) + o (ix1 c) := by
  have h : rHead t g b w o (ix2 n c) = ∑ k : Fin 768, rNorm t g b (ix3 n 0 k) * w (ix2 k c) + o (ix1 c) := by
    unfold rHead
    generalize rNorm t g b = y
    pointwise
  rw [h]
  simp only [rNorm_at]

section Run
variable (m : (ℓ : Loc nD τ sig) → Buf (Elt Ideal) ℓ)
theorem entry_0 (c : Dev nD) : entryContents preI m c (Proc.devRef .tc main_v1_0) = m ((c.tc : Thread nD τ).loc main_arg1) := by
  simp only [entryContents, afterL_cons, afterL_nil]
  after_reads_simp
  rfl
theorem entry_1 (c : Dev nD) : entryContents preI m c (Proc.devRef .tc main_v1_1) = m ((c.tc : Thread nD τ).loc main_arg2) := by
  simp only [entryContents, afterL_cons, afterL_nil]
  after_reads_simp
  rfl
theorem entry_2 (c : Dev nD) : entryContents preI m c (Proc.devRef .tc main_v1_2) = m ((c.tc : Thread nD τ).loc main_arg3) := by
  simp only [entryContents, afterL_cons, afterL_nil]
  after_reads_simp
  rfl
theorem entry_3 (c : Dev nD) : entryContents preI m c (Proc.devRef .tc main_v1_3) = m ((c.tc : Thread nD τ).loc main_arg4) := by
  simp only [entryContents, afterL_cons, afterL_nil]
  after_reads_simp
  rfl
theorem entry_4 (c : Dev nD) : entryContents preI m c (Proc.devRef .tc main_v1_4) = m ((c.tc : Thread nD τ).loc main_arg5) := by
  simp only [entryContents, afterL_cons, afterL_nil]
  after_reads_simp
  rfl
theorem entry_5 (c : Dev nD) : entryContents preI m c (Proc.devRef .tc main_v1_5) = m ((c.tc : Thread nD τ).loc main_arg6) := by
  simp only [entryContents, afterL_cons, afterL_nil]
  after_reads_simp
  rfl
theorem entry_6 (c : Dev nD) : entryContents preI m c (Proc.devRef .tc main_v1_6) = m ((c.tc : Thread nD τ).loc main_arg7) := by
  simp only [entryContents, afterL_cons, afterL_nil]
  after_reads_simp
  rfl
theorem entry_7 (c : Dev nD) : entryContents preI m c (Proc.devRef .tc main_v1_7) = m ((c.tc : Thread nD τ).loc main_arg8) := by
  simp only [entryContents, afterL_cons, afterL_nil]
  after_reads_simp
  rfl
theorem entry_8 (c : Dev nD) : entryContents preI m c (Proc.devRef .tc main_v1_8) = m ((c.tc : Thread nD τ).loc main_arg9) := by
  simp only [entryContents, afterL_cons, afterL_nil]
  after_reads_simp
  rfl
theorem entry_9 (c : Dev nD) : entryContents preI m c (Proc.devRef .tc main_v1_9) = m ((c.tc : Thread nD τ).loc main_arg10) := by
  simp only [entryContents, afterL_cons, afterL_nil]
  after_reads_simp
  rfl
theorem entry_10 (c : Dev nD) : entryContents preI m c (Proc.devRef .tc main_v1_10) = m ((c.tc : Thread nD τ).loc main_arg11) := by
  simp only [entryContents, afterL_cons, afterL_nil]
  after_reads_simp
  rfl
theorem entry_12 (c : Dev nD) : entryContents preI m c (Proc.devRef .tc main_v1_12)
    = extractStridedSlice S32x101x768 ![0, 0, 0] (m ((c.tc : Thread nD τ).loc main_arg0) : FVec Ideal S32x128x768 .f32) slices_S32x128x768_S32x101x768_0_0_0 := by
  simp only [entryContents, afterL_cons, afterL_nil]
  after_reads_simp
  rfl
/-- The encoder the arguments describe. -/
def net (c : Dev nD) : Net := netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
/-- The carried counter after some trips. -/
theorem iter_ctr (c : Dev nD) : ∀ k, STEP^[k] (entryContents preI m c) (Proc.devRef .tc main_v1_11) = word k
  | 0 => by rw [Function.iterate_zero, id_eq, ctr_entry]; unfold word; rw [Scf.iv_zero]; rfl
  | k + 1 => by
    rw [Function.iterate_succ_apply', STEP_main_v1_11]
    unfold step_main_v1_11
    rw [iter_ctr c k]
    unfold word; rw [Scf.iv_succ]; rfl
theorem iter_0 (c : Dev nD) : ∀ k, STEP^[k] (entryContents preI m c) (Proc.devRef .tc main_v1_0) = m ((c.tc : Thread nD τ).loc main_arg1)
  | 0 => entry_0 m c
  | k + 1 => by rw [Function.iterate_succ_apply', STEP_main_v1_0]; exact iter_0 c k
theorem iter_1 (c : Dev nD) : ∀ k, STEP^[k] (entryContents preI m c) (Proc.devRef .tc main_v1_1) = m ((c.tc : Thread nD τ).loc main_arg2)
  | 0 => entry_1 m c
  | k + 1 => by rw [Function.iterate_succ_apply', STEP_main_v1_1]; exact iter_1 c k
theorem iter_2 (c : Dev nD) : ∀ k, STEP^[k] (entryContents preI m c) (Proc.devRef .tc main_v1_2) = m ((c.tc : Thread nD τ).loc main_arg3)
  | 0 => entry_2 m c
  | k + 1 => by rw [Function.iterate_succ_apply', STEP_main_v1_2]; exact iter_2 c k
theorem iter_3 (c : Dev nD) : ∀ k, STEP^[k] (entryContents preI m c) (Proc.devRef .tc main_v1_3) = m ((c.tc : Thread nD τ).loc main_arg4)
  | 0 => entry_3 m c
  | k + 1 => by rw [Function.iterate_succ_apply', STEP_main_v1_3]; exact iter_3 c k
theorem iter_4 (c : Dev nD) : ∀ k, STEP^[k] (entryContents preI m c) (Proc.devRef .tc main_v1_4) = m ((c.tc : Thread nD τ).loc main_arg5)
  | 0 => entry_4 m c
  | k + 1 => by rw [Function.iterate_succ_apply', STEP_main_v1_4]; exact iter_4 c k
theorem iter_5 (c : Dev nD) : ∀ k, STEP^[k] (entryContents preI m c) (Proc.devRef .tc main_v1_5) = m ((c.tc : Thread nD τ).loc main_arg6)
  | 0 => entry_5 m c
  | k + 1 => by rw [Function.iterate_succ_apply', STEP_main_v1_5]; exact iter_5 c k
theorem iter_6 (c : Dev nD) : ∀ k, STEP^[k] (entryContents preI m c) (Proc.devRef .tc main_v1_6) = m ((c.tc : Thread nD τ).loc main_arg7)
  | 0 => entry_6 m c
  | k + 1 => by rw [Function.iterate_succ_apply', STEP_main_v1_6]; exact iter_6 c k
theorem iter_7 (c : Dev nD) : ∀ k, STEP^[k] (entryContents preI m c) (Proc.devRef .tc main_v1_7) = m ((c.tc : Thread nD τ).loc main_arg8)
  | 0 => entry_7 m c
  | k + 1 => by rw [Function.iterate_succ_apply', STEP_main_v1_7]; exact iter_7 c k
theorem iter_8 (c : Dev nD) : ∀ k, STEP^[k] (entryContents preI m c) (Proc.devRef .tc main_v1_8) = m ((c.tc : Thread nD τ).loc main_arg9)
  | 0 => entry_8 m c
  | k + 1 => by rw [Function.iterate_succ_apply', STEP_main_v1_8]; exact iter_8 c k
theorem iter_9 (c : Dev nD) : ∀ k, STEP^[k] (entryContents preI m c) (Proc.devRef .tc main_v1_9) = m ((c.tc : Thread nD τ).loc main_arg10)
  | 0 => entry_9 m c
  | k + 1 => by rw [Function.iterate_succ_apply', STEP_main_v1_9]; exact iter_9 c k
theorem iter_10 (c : Dev nD) : ∀ k, STEP^[k] (entryContents preI m c) (Proc.devRef .tc main_v1_10) = m ((c.tc : Thread nD τ).loc main_arg11)
  | 0 => entry_10 m c
  | k + 1 => by rw [Function.iterate_succ_apply', STEP_main_v1_10]; exact iter_10 c k
/-- The layer over a layer's picks of the stacked arrays. -/
theorem rLayer_pick (t : FVec Ideal S32x101x768 .f32) (a1 a2 : FVec Ideal S12x768 .f32) (a3 : FVec Ideal S12x768x2304 .f32) (a4 : FVec Ideal S12x768x768 .f32) (a5 a6 a7 : FVec Ideal S12x768 .f32)
    (a8 : FVec Ideal S12x768x3072 .f32) (a9 : FVec Ideal S12x3072 .f32) (a10 : FVec Ideal S12x3072x768 .f32) (a11 : FVec Ideal S12x768 .f32) (l : Fin 12) (n : Fin 32) (p : Fin 101) (d : Fin 768) :
    rLayer t (pick768 a1 (word l.val)) (pick768 a2 (word l.val)) (pickQkv a3 (word l.val)) (pickProj a4 (word l.val)) (pick768 a5 (word l.val)) (pick768 a6 (word l.val)) (pick768 a7 (word l.val)) (pickUp a8 (word l.val)) (pick3072 a9 (word l.val)) (pickDown a10 (word l.val)) (pick768 a11 (word l.val)) (ix3 n p d)
      = layer (paramsAt a1 a2 a3 a4 a5 a6 a7 a8 a9 a10 a11 l) (fun p d => t (ix3 n p d)) p d := by
  refine (rLayer_at _ _ _ _ _ _ _ _ _ _ _ _ n p d).trans ?_
  unfold rParams
  simp only [pick768_at, pick3072_at, pickQkv_at, pickProj_at, pickUp_at, pickDown_at]
  rfl
/-- One step from contents whose counter and parameters are known. -/
theorem step_of (V : Valuation τ sig (Elt Ideal)) (a1 a2 : FVec Ideal S12x768 .f32) (a3 : FVec Ideal S12x768x2304 .f32) (a4 : FVec Ideal S12x768x768 .f32) (a5 a6 a7 : FVec Ideal S12x768 .f32)
    (a8 : FVec Ideal S12x768x3072 .f32) (a9 : FVec Ideal S12x3072 .f32) (a10 : FVec Ideal S12x3072x768 .f32) (a11 : FVec Ideal S12x768 .f32) (l : Fin 12) (hc : V (Proc.devRef .tc main_v1_11) = word l.val)
    (h0 : V (Proc.devRef .tc main_v1_0) = a1) (h1 : V (Proc.devRef .tc main_v1_1) = a2) (h2 : V (Proc.devRef .tc main_v1_2) = a3) (h3 : V (Proc.devRef .tc main_v1_3) = a4) (h4 : V (Proc.devRef .tc main_v1_4) = a5) (h5 : V (Proc.devRef .tc main_v1_5) = a6) (h6 : V (Proc.devRef .tc main_v1_6) = a7) (h7 : V (Proc.devRef .tc main_v1_7) = a8) (h8 : V (Proc.devRef .tc main_v1_8) = a9) (h9 : V (Proc.devRef .tc main_v1_9) = a10) (h10 : V (Proc.devRef .tc main_v1_10) = a11) :
    step_main_v1_12 V = rLayer (V (Proc.devRef .tc main_v1_12)) (pick768 a1 (word l.val)) (pick768 a2 (word l.val)) (pickQkv a3 (word l.val)) (pickProj a4 (word l.val)) (pick768 a5 (word l.val)) (pick768 a6 (word l.val)) (pick768 a7 (word l.val)) (pickUp a8 (word l.val)) (pick3072 a9 (word l.val)) (pickDown a10 (word l.val)) (pick768 a11 (word l.val)) := by
  subst h0 h1 h2 h3 h4 h5 h6 h7 h8 h9 h10
  rw [← hc]
  exact step_eq V
/-- The carried tokens after some trips. -/
theorem iter_tok (c : Dev nD) (n : Fin 32) : ∀ k, k ≤ 12 → ∀ (p : Fin 101) (d : Fin 768),
    (STEP^[k] (entryContents preI m c) (Proc.devRef .tc main_v1_12) : FVec Ideal S32x101x768 .f32) (ix3 n p d) = (net m c).rows n k p d
  | 0, _, p, d => by
    rw [Function.iterate_zero, id_eq, entry_12]
    unfold Net.rows net netOf
    generalize m ((c.tc : Thread nD τ).loc main_arg0) = x
    pointwise [row]
  | k + 1, hk, p, d => by
    have ih := iter_tok c n k (by omega)
    have hw : word k = word (lay12 k).val := congrArg word (Nat.mod_eq_of_lt (by omega : k < 12)).symm
    rw [Function.iterate_succ_apply', STEP_main_v1_12]
    refine (congrFun (step_of _ _ _ _ _ _ _ _ _ _ _ _ (lay12 k) ((iter_ctr m c k).trans hw) (iter_0 m c k) (iter_1 m c k) (iter_2 m c k) (iter_3 m c k) (iter_4 m c k) (iter_5 m c k) (iter_6 m c k) (iter_7 m c k) (iter_8 m c k) (iter_9 m c k) (iter_10 m c k)) (ix3 n p d)).trans ?_
    refine (rLayer_pick _ _ _ _ _ _ _ _ _ _ _ _ (lay12 k) n p d).trans ?_
    exact congrArg (fun r => layer ((net m c).lay (lay12 k)) r p d) (funext fun p => funext fun d => ih p d)
/-- The reference's result at an index. -/
theorem result_at (c : Dev nD) (n : Fin 32) (o : Fin 40) :
    (out_main_v31 (STEP^[12] (entryContents preI m c)) : FVec Ideal S32x40 .f32) (ix2 n o) = (net m c).out n o := by
  rw [out_eq, iter_main_arg12, iter_main_arg13, iter_main_arg14, iter_main_arg15, rHead_at]
  simp only [iter_tok m c n 12 le_rfl]
  rfl
end Run
end Cert.ReferenceIdeal.Enc
end
-- ==== Proof.EncBody.lean ====
/-
  The point encoder's body on one batch entry: what it leaves in the output block, as a term of the
  blocks it reads. The loop fills the scratch array eight rows at a time, one slab per trip.
-/
module

public import proofs.«01_k».proof.Proof.Gen.Kernel2Ideal.Value
public import proofs.«01_k».proof.Proof.Math
public import Idealize.ShloMosaic.Lib.WritesUnit
public import Idealize.ShloMosaic.Lib.VecWindow

@[expose] public section

set_option maxRecDepth 16384

noncomputable section

namespace Cert.Pillar

open Cert.Kernel2Ideal Cert.Kernel2Ideal.Gen Idealize.ShloMosaic Idealize.ShloMosaic.TcCoe Idealize.SL.Sem

variable {F : FTy → Type} [FloatOps F] [Named F]

/-- A pair of zeros. -/
theorem zero2 : (![0, 0] : Fin 2 → Nat) = fun _ => 0 := funext fun a => by fin_cases a <;> rfl
/-- A triple of zeros. -/
theorem zero3 : (![0, 0, 0] : Fin 3 → Nat) = fun _ => 0 := funext fun a => by fin_cases a <;> rfl

/-- The eight rows trip `k` stores: one maximum over the points per cell. -/
def slab (v26 : IVec S2048x1 32) (w : FVec F S2048x896 .bf16) (k : Fin k0_t1_loop.trips) : FVec F S1x8x896 .bf16 :=
  k0_pay16 (k0_pay2 v26 w 0#32 1#32 k) (k0_pay3 v26 w 0#32 1#32 k) (k0_pay4 v26 w 0#32 1#32 k)
    (k0_pay6 (k0_pay5 v26 w 0#32 1#32 k)) (k0_pay7 v26 w (Scf.iv 0#32 1#32 k)) (k0_pay8 v26 w (Scf.iv 0#32 1#32 k))
    (k0_pay9 v26 w (Scf.iv 0#32 1#32 k)) (k0_pay10 v26 w (Scf.iv 0#32 1#32 k))

/-- One trip writes one piece: its slab. -/
theorem trip_piece (𝒱 : Variants) (c : Dev nD) (bd : Option 𝒱.V) (i : grid0.Coords)
    (a1 : Memref sig .tc .vmem S1x2048x3 .f32) (h1 : a1.IsWhole) (a2 : Memref sig .tc .vmem S3x32 .f32) (h2 : a2.IsWhole) (a3 : Memref sig .tc .vmem S3x32 .f32) (h3 : a3.IsWhole) (a4 : Memref sig .tc .vmem S32x64 .f32) (h4 : a4.IsWhole) (a5 : Memref sig .tc .vmem S64x128 .f32) (h5 : a5.IsWhole) (a6 : Memref sig .tc .vmem S128x768 .f32) (h6 : a6.IsWhole) (a7 : Memref sig .tc .vmem S128x768 .f32) (h7 : a7.IsWhole) (a8 : Memref sig .tc .vmem S128x768 .f32) (h8 : a8.IsWhole) (a9 : Memref sig .tc .vmem S128x768 .f32) (h9 : a9.IsWhole) (a10 : Memref sig .tc .vmem S1x768 .f32) (h10 : a10.IsWhole) (a11 : Memref sig .tc .vmem S1x128x768 .f32) (h11 : a11.IsWhole) (a12 : Memref sig .tc .vmem S16x8x896 .bf16) (h12 : a12.IsWhole)
    (v1 : FVec F S2048x3 .f32) (v26 : IVec S2048x1 32) (v40 : FVec F S2048x3 .f32)
    (v41 v44 : Vec F S3x32 .f32) (v50 : Vec F S32x64 .f32) (v54 : Vec F S64x128 .f32) (v58 : Vec F S128x768 .f32) (k : Fin k0_t1_loop.trips) :
    tripL_k0_t1 (F := F) 𝒱 c bd i a1 h1 a2 h2 a3 h3 a4 h4 a5 h5 a6 h6 a7 h7 a8 h8 a9 h9 a10 h10 a11 h11 a12 h12 v1 v26 v40 v41 v44 v50 v54 v58 k
      = [⟨Rect.unit (s := S16x8x896) (k0_off1 k) S1x8x896.size (k0_off1_inb k), slab v26 (k0_pay14 v1 v40 v41 v44 v50 v54 v58) k⟩] := by
  unfold tripL_k0_t1 trip_k0_t1
  rfl

/-- After `n` trips, the rows of the trips run so far hold their slabs, and the others what they held before. -/
theorem read_trips (𝒱 : Variants) (c : Dev nD) (bd : Option 𝒱.V) (i : grid0.Coords)
    (a1 : Memref sig .tc .vmem S1x2048x3 .f32) (h1 : a1.IsWhole) (a2 : Memref sig .tc .vmem S3x32 .f32) (h2 : a2.IsWhole) (a3 : Memref sig .tc .vmem S3x32 .f32) (h3 : a3.IsWhole) (a4 : Memref sig .tc .vmem S32x64 .f32) (h4 : a4.IsWhole) (a5 : Memref sig .tc .vmem S64x128 .f32) (h5 : a5.IsWhole) (a6 : Memref sig .tc .vmem S128x768 .f32) (h6 : a6.IsWhole) (a7 : Memref sig .tc .vmem S128x768 .f32) (h7 : a7.IsWhole) (a8 : Memref sig .tc .vmem S128x768 .f32) (h8 : a8.IsWhole) (a9 : Memref sig .tc .vmem S128x768 .f32) (h9 : a9.IsWhole) (a10 : Memref sig .tc .vmem S1x768 .f32) (h10 : a10.IsWhole) (a11 : Memref sig .tc .vmem S1x128x768 .f32) (h11 : a11.IsWhole) (a12 : Memref sig .tc .vmem S16x8x896 .bf16) (h12 : a12.IsWhole)
    (v1 : FVec F S2048x3 .f32) (v26 : IVec S2048x1 32) (v40 : FVec F S2048x3 .f32)
    (v41 v44 : Vec F S3x32 .f32) (v50 : Vec F S32x64 .f32) (v54 : Vec F S64x128 .f32) (v58 : Vec F S128x768 .f32)
    (f : a12.view.ty.Contents (Elt F)) (r : Fin 16) (s : Fin 8) (e : Fin 896) : ∀ n : ℕ, n ≤ k0_t1_loop.trips →
    a12.view.read (Elt F) (a12.view.writes (Elt F) f
        (pb_k0_t1 (F := F) 𝒱 c bd i a1 h1 a2 h2 a3 h3 a4 h4 a5 h5 a6 h6 a7 h7 a8 h8 a9 h9 a10 h10 a11 h11 a12 h12 v1 v26 v40 v41 v44 v50 v54 v58 n)) (ix3 r s e)
      = if h : r.val < n ∧ r.val < k0_t1_loop.trips then slab v26 (k0_pay14 v1 v40 v41 v44 v50 v54 v58) ⟨r.val, h.2⟩ (ix3 0 s e)
        else a12.view.read (Elt F) f (ix3 r s e)
  | 0, _ => by
    rw [dif_neg (by omega)]
    rfl
  | n + 1, hn => by
    have ih := read_trips 𝒱 c bd i a1 h1 a2 h2 a3 h3 a4 h4 a5 h5 a6 h6 a7 h7 a8 h8 a9 h9 a10 h10 a11 h11 a12 h12 v1 v26 v40 v41 v44 v50 v54 v58 f r s e n (by omega)
    have hs := pb_k0_t1_succ (F := F) 𝒱 c bd i a1 h1 a2 h2 a3 h3 a4 h4 a5 h5 a6 h6 a7 h7 a8 h8 a9 h9 a10 h10 a11 h11 a12 h12 v1 v26 v40 v41 v44 v50 v54 v58 ⟨n, hn⟩
    dsimp only at hs
    rw [hs, trip_piece, List.singleton_append]
    by_cases hr : r.val = n
    · rw [dif_pos ⟨by omega, by omega⟩]
      refine (View.read_writes_cons_unit_of_mem _ _ _ _ _ (ix3 r s e) (ix3 0 s e) (k0_off1_eq _) ?_).trans ?_
      · intro a
        match a with
        | ⟨0, _⟩ => show r.val = n + 0; omega
        | ⟨1, _⟩ => show s.val = 0 + s.val; omega
        | ⟨2, _⟩ => show e.val = 0 + e.val; omega
      · subst hr; rfl
    · rw [View.read_writes_cons_unit_of_not_mem _ _ _ _ _ (ix3 r s e) (k0_off1_eq _) 0
        (by show r.val < n ∨ n + 1 ≤ r.val; omega), ih]
      by_cases h1 : r.val < n ∧ r.val < k0_t1_loop.trips
      · rw [dif_pos h1, dif_pos ⟨by omega, h1.2⟩]
      · rw [dif_neg h1, dif_neg (by omega)]

/-- The scratch array after the loop: slab `r` in rows `8 r` up to `8 r + 7` for the trips, the initial mask after them. -/
def scratch (v26 : IVec S2048x1 32) (w : FVec F S2048x896 .bf16) : Vec F S16x8x896 .bf16 :=
  fun y => if h : (y 0).val < k0_t1_loop.trips then slab v26 w ⟨(y 0).val, h⟩ (ix3 0 (y 1) (y 2)) else k0_pay15 (F := F) y

/-- The body's output block as a function of its input blocks and of the scratch array that the loop fills. -/
theorem out_eq (c : Dev nD) (i : grid0.Coords)
    (a1 : Memref sig .tc .vmem S1x2048x3 .f32) (h1 : a1.IsWhole) (a2 : Memref sig .tc .vmem S3x32 .f32) (h2 : a2.IsWhole) (a3 : Memref sig .tc .vmem S3x32 .f32) (h3 : a3.IsWhole) (a4 : Memref sig .tc .vmem S32x64 .f32) (h4 : a4.IsWhole) (a5 : Memref sig .tc .vmem S64x128 .f32) (h5 : a5.IsWhole) (a6 : Memref sig .tc .vmem S128x768 .f32) (h6 : a6.IsWhole) (a7 : Memref sig .tc .vmem S128x768 .f32) (h7 : a7.IsWhole) (a8 : Memref sig .tc .vmem S128x768 .f32) (h8 : a8.IsWhole) (a9 : Memref sig .tc .vmem S128x768 .f32) (h9 : a9.IsWhole) (a10 : Memref sig .tc .vmem S1x768 .f32) (h10 : a10.IsWhole) (a11 : Memref sig .tc .vmem S1x128x768 .f32) (h11 : a11.IsWhole) (a12 : Memref sig .tc .vmem S16x8x896 .bf16) (h12 : a12.IsWhole)
    (x0 : Vec F S1x2048x3 .f32) (x1 x2 : Vec F S3x32 .f32) (x3 : Vec F S32x64 .f32) (x4 : Vec F S64x128 .f32)
    (x5 x6 x7 x8 : Vec F S128x768 .f32) (x9 : Vec F S1x768 .f32) :
    out0_A_10 (F := F) c i a1 h1 a2 h2 a3 h3 a4 h4 a5 h5 a6 h6 a7 h7 a8 h8 a9 h9 a10 h10 a11 h11 a12 h12 x0 x1 x2 x3 x4 x5 x6 x7 x8 x9
      = k0_pay1 (k0_pay17 (scratch (k0_pay12 x0) (k0_pay14 (k0_pay11 x0) (k0_pay13 x0) x1 x2 x3 x4 x5)))
          (k0_pay18 (scratch (k0_pay12 x0) (k0_pay14 (k0_pay11 x0) (k0_pay13 x0) x1 x2 x3 x4 x5))) x6 x7 x8 x9 := by
  have hsc : ∀ (v1 : FVec F S2048x3 .f32) (v26 : IVec S2048x1 32) (v40 : FVec F S2048x3 .f32)
      (v41 v44 : Vec F S3x32 .f32) (v50 : Vec F S32x64 .f32) (v54 : Vec F S64x128 .f32) (v58 : Vec F S128x768 .f32),
      a12.view.readCov (pb_k0_t1 Variants.none c none i a1 h1 a2 h2 a3 h3 a4 h4 a5 h5 a6 h6 a7 h7 a8 h8 a9 h9 a10 h10 a11 h11 a12 h12 v1 v26 v40 v41 v44 v50 v54 v58
          (Scf.trips k0_t1_loop.lb k0_t1_loop.ub k0_t1_loop.st) ++
            [⟨Rect.unit ![0, 0, 0] S16x8x896.size inb_S16x8x896_S16x8x896_0_0_0, k0_pay15 (F := F)⟩])
          (Rect.unit ![0, 0, 0] S16x8x896.size inb_S16x8x896_S16x8x896_0_0_0).toLoadRect
        = scratch v26 (k0_pay14 v1 v40 v41 v44 v50 v54 v58) := by
    intro v1 v26 v40 v41 v44 v50 v54 v58
    unfold View.readCov
    rw [View.readAt_eq_ld, View.ld_unit_zero (S := S16x8x896) zero3, View.writes_append]
    funext y
    obtain ⟨r, s, e, rfl⟩ : ∃ (r : Fin 16) (s : Fin 8) (e : Fin 896), y = ix3 r s e := by idx_vars y; exact ⟨_, _, _, rfl⟩
    have h13 : k0_t1_loop.trips = Scf.trips k0_t1_loop.lb k0_t1_loop.ub k0_t1_loop.st := rfl
    rw [read_trips _ _ _ _ a1 h1 a2 h2 a3 h3 a4 h4 a5 h5 a6 h6 a7 h7 a8 h8 a9 h9 a10 h10 a11 h11 a12 h12 _ _ _ _ _ _ _ _ _ r s e _ (le_of_eq h13.symm)]
    unfold scratch
    by_cases h : r.val < k0_t1_loop.trips
    · rw [dif_pos ⟨h, h⟩, dif_pos (show ((ix3 r s e : S16x8x896.Idx) 0).val < _ from h)]
      rfl
    · rw [dif_neg (fun h' => h h'.2), dif_neg (show ¬((ix3 r s e : S16x8x896.Idx) 0).val < _ from h)]
      exact congrFun (View.read_writes_full a12.view _ _ _ _) _
  unfold out0_A_10
  rw [View.read_writes_eq_canon _ _ _ (cover0_A_10 c i a1 h1 a2 h2 a3 h3 a4 h4 a5 h5 a6 h6 a7 h7 a8 h8 a9 h9 a10 h10 a11 h11 a12 h12 x0 x1 x2 x3 x4 x5 x6 x7 x8 x9)]
  unfold kernelRun0_A
  dsimp only
  sl_unfold_words
  rw [View.canon_unit_zero (S := S1x128x768) zero3, hsc]
  simp only [View.readAt_eq_ld, h1.read_unread, h2.read_unread, h3.read_unread, h4.read_unread, h5.read_unread, h6.read_unread,
    h7.read_unread, h8.read_unread, h9.read_unread, h10.read_unread, View.ld_unit_zero (S := S1x2048x3) zero3,
    View.ld_unit_zero (S := S3x32) zero2, View.ld_unit_zero (S := S32x64) zero2, View.ld_unit_zero (S := S64x128) zero2,
    View.ld_unit_zero (S := S128x768) zero2, View.ld_unit_zero (S := S1x768) zero2]

end Cert.Pillar
end
-- ==== Proof.EncMath.lean ====
/-
  The point encoder as arithmetic on extended reals: which cell a point falls in, the cells' sums and
  maxima, and that the kernel's form of a cell's features equals the reference's.
-/
module

public import proofs.«01_k».proof.Proof.Math

@[expose] public section

set_option maxRecDepth 16384

noncomputable section

namespace Cert.Pillar

open Idealize.ShloMosaic
open Cert.Encoder

/-- The upper end of the clip. -/
abbrev cClip : EReal := Ideal.ofBits .f32 0x3FFEB852#32
/-- A cell's width. -/
abbrev cWidth : EReal := Ideal.ofBits .f32 0x3E4CCCCD#32

/-- The clip's upper end as a real. -/
theorem cClip_val : cClip = ((16693330 / 8388608 : ℝ) : EReal) := by
  unfold cClip; simp [Ideal.ofBits, Ideal.ieee]; rw [← EReal.coe_mul]; norm_num
/-- The cell's width as a real. -/
theorem cWidth_val : cWidth = ((13421773 / 67108864 : ℝ) : EReal) := by
  unfold cWidth; simp [Ideal.ofBits, Ideal.ieee]; rw [← EReal.coe_mul]; norm_num

/-- The cell along one axis. -/
def bin (a : EReal) : BitVec 32 := Ideal.fptosi 32 (Ideal.liftRound Int.floor (Ideal.div (min cClip (max 0 (a + 1))) cWidth))
/-- A point's cell, from its two coordinates. -/
def cell (a b : EReal) : BitVec 32 := bin a * 10#32 + bin b

/-- There are ten cells along an axis. -/
theorem bin_lt (a : EReal) : (bin a).toNat < 10 := by
  unfold bin
  have h0 : (0 : EReal) ≤ min cClip (max 0 (a + 1)) := le_min (by rw [cClip_val]; exact_mod_cast (by norm_num)) (le_max_left _ _)
  have h1 : min cClip (max 0 (a + 1)) ≤ cClip := min_le_left _ _
  rw [cClip_val] at h0 h1 ⊢
  generalize min ((16693330 / 8388608 : ℝ) : EReal) (max 0 (a + 1)) = t at h0 h1 ⊢
  induction t using EReal.rec with
  | bot => exact absurd h0 (by simp)
  | top => exact absurd h1 (by simp)
  | coe r =>
    have h0' : (0 : ℝ) ≤ r := by exact_mod_cast h0
    have h1' : r ≤ 16693330 / 8388608 := by exact_mod_cast h1
    have hd : Ideal.div (r : EReal) cWidth = ((r * (13421773 / 67108864 : ℝ)⁻¹ : ℝ) : EReal) := by
      unfold Ideal.div
      rw [cWidth_val, if_neg (by exact_mod_cast (by norm_num)), ← EReal.coe_inv, ← EReal.coe_mul]
    rw [hd]
    have hq0 : 0 ≤ r * (13421773 / 67108864 : ℝ)⁻¹ := by positivity
    have hq1 : r * (13421773 / 67108864 : ℝ)⁻¹ < 10 := by
      rw [← div_eq_mul_inv, div_lt_iff₀ (by norm_num)]; linarith
    generalize r * (13421773 / 67108864 : ℝ)⁻¹ = q at hq0 hq1
    have hz0 : 0 ≤ ⌊q⌋ := Int.floor_nonneg.mpr hq0
    have hz1 : ⌊q⌋ < 10 := Int.floor_lt.mpr (by exact_mod_cast hq1)
    show (BitVec.ofInt 32 (max _ (min _ (if (0 : ℝ) ≤ ((⌊q⌋ : ℤ) : ℝ) then ⌊((⌊q⌋ : ℤ) : ℝ)⌋ else _)))).toNat < 10
    rw [if_pos (by exact_mod_cast hz0), Int.floor_intCast]
    generalize ⌊q⌋ = z at hz0 hz1
    have : max (-((2 ^ (32 - 1) : ℕ) : ℤ)) (min (((2 ^ (32 - 1) : ℕ) : ℤ) - 1) z) = z := by
      rw [min_eq_right (by norm_num; omega), max_eq_right (by norm_num; omega)]
    rw [this, BitVec.toNat_ofInt]
    omega

/-- There are a hundred cells. -/
theorem cell_lt (a b : EReal) : (cell a b).toNat < 100 := by
  have := bin_lt a
  have := bin_lt b
  unfold cell
  rw [BitVec.toNat_add, BitVec.toNat_mul]
  show ((bin a).toNat * 10 % 2 ^ 32 + (bin b).toNat) % 2 ^ 32 < 100
  rw [Nat.mod_eq_of_lt (show (bin a).toNat * 10 < 2 ^ 32 by omega), Nat.mod_eq_of_lt (by omega)]
  omega

section Cells
variable (c : Fin 2048 → BitVec 32)

/-- The sum over a cell's points. -/
def sumIn (f : Fin 2048 → EReal) (r : ℕ) : EReal := ∑ n, if c n = BitVec.ofNat 32 r then f n else 0
/-- The maximum over a cell's points, minus infinity for an empty cell. -/
def maxIn (f : Fin 2048 → EReal) (r : ℕ) : EReal := Finset.univ.fold max ⊥ fun n => if c n = BitVec.ofNat 32 r then f n else ⊥
/-- A coordinate of a cell's centroid. -/
def centre (f : Fin 2048 → EReal) (r : ℕ) : EReal := Ideal.div (sumIn c f r) (max (sumIn c (fun _ => 1) r) 1)

variable {c}

/-- The cell's maximum is at most a bound exactly when every point's value is. -/
theorem maxIn_le {f : Fin 2048 → EReal} {r : ℕ} {b : EReal} : maxIn c f r ≤ b ↔ ∀ n, c n = BitVec.ofNat 32 r → f n ≤ b := by
  unfold maxIn
  rw [Finset.fold_max_le]
  refine ⟨fun h n hn => ?_, fun h => ⟨bot_le, fun n _ => ?_⟩⟩
  · have := h.2 n (Finset.mem_univ _)
    rwa [if_pos hn] at this
  · split
    · exact h n ‹_›
    · exact bot_le

/-- A point's value is at most its cell's maximum. -/
theorem le_maxIn {f : Fin 2048 → EReal} {r : ℕ} {n : Fin 2048} (hn : c n = BitVec.ofNat 32 r) : f n ≤ maxIn c f r :=
  maxIn_le.mp le_rfl n hn

/-- A cell with no point has maximum minus infinity. -/
theorem maxIn_empty {f : Fin 2048 → EReal} {r : ℕ} (h : ∀ n, c n ≠ BitVec.ofNat 32 r) : maxIn c f r = ⊥ :=
  le_bot_iff.mp (maxIn_le.mpr fun n hn => absurd hn (h n))

/-- The maximum over a cell with a point is one of its points' values. -/
theorem maxIn_mem {f : Fin 2048 → EReal} {r : ℕ} {m : Fin 2048} (hm : c m = BitVec.ofNat 32 r) :
    ∃ n, c n = BitVec.ofNat 32 r ∧ maxIn c f r = f n := by
  obtain ⟨n, hn, h⟩ := Finset.exists_max_image (Finset.univ.filter fun n => c n = BitVec.ofNat 32 r) f ⟨m, by simp [hm]⟩
  have hn' : c n = BitVec.ofNat 32 r := by simpa using hn
  exact ⟨n, hn', le_antisymm (maxIn_le.mpr fun k hk => h k (by simp [hk])) (le_maxIn hn')⟩

/-- A cell's point count is positive exactly when it has a point. -/
theorem count_pos {r : ℕ} : 0 < sumIn c (fun _ => 1) r ↔ ∃ n, c n = BitVec.ofNat 32 r := by
  unfold sumIn
  constructor
  · intro h
    by_contra hn
    rw [Finset.sum_eq_zero fun n _ => if_neg fun hc => hn ⟨n, hc⟩] at h
    exact lt_irrefl _ h
  · rintro ⟨n, hn⟩
    have h1 : (if c n = BitVec.ofNat 32 r then (1 : EReal) else 0) ≤ ∑ n, if c n = BitVec.ofNat 32 r then (1 : EReal) else 0 :=
      Finset.single_le_sum (f := fun n => if c n = BitVec.ofNat 32 r then (1 : EReal) else 0)
        (fun k _ => by split <;> simp) (Finset.mem_univ n)
    rw [if_pos hn] at h1
    exact lt_of_lt_of_le zero_lt_one h1

/-- The kernel's form of a cell's feature: the maximum before the shared term is added and the negative part dropped. -/
def kernelCell (c : Fin 2048 → BitVec 32) (h : Fin 2048 → Fin 128 → EReal) (u : Fin 2048 → EReal) (w : Fin 128 → EReal) (r : ℕ) : EReal :=
  max (maxIn c u r + ∑ k, max (maxIn c (fun n => h n k) r) 0 * w k) 0
/-- The reference's form: every point's feature with its own cell's maximum, and the maximum of those, zero for an empty cell. -/
def plainCell (c : Fin 2048 → BitVec 32) (h : Fin 2048 → Fin 128 → EReal) (u : Fin 2048 → EReal) (w : Fin 128 → EReal) (r : ℕ) : EReal :=
  if 0 < sumIn c (fun _ => 1) r then
    maxIn c (fun n => max (u n + ∑ k, maxIn c (fun m => h m k) (c n).toNat * w k) 0) r
  else 0

/-- The two forms agree where the features are not negative. -/
theorem kernelCell_eq {h : Fin 2048 → Fin 128 → EReal} {u : Fin 2048 → EReal} {w : Fin 128 → EReal} {r : ℕ} (hr : r < 100)
    (hh : ∀ n k, 0 ≤ h n k) : kernelCell c h u w r = plainCell c h u w r := by
  unfold kernelCell plainCell
  by_cases hc : ∃ n, c n = BitVec.ofNat 32 r
  · rw [if_pos (count_pos.mpr hc)]
    obtain ⟨m, hm⟩ := hc
    have hp : ∀ k, max (maxIn c (fun n => h n k) r) 0 = maxIn c (fun n => h n k) r := fun k =>
      max_eq_left ((hh m k).trans (le_maxIn (f := fun n => h n k) hm))
    simp only [hp]
    have hn : ∀ n, c n = BitVec.ofNat 32 r → (c n).toNat = r := fun n hn => by
      rw [hn, BitVec.toNat_ofNat]; omega
    apply le_antisymm
    · obtain ⟨n, hcn, e⟩ := maxIn_mem (f := u) hm
      rw [e]
      have := le_maxIn (f := fun n => max (u n + ∑ k, maxIn c (fun m => h m k) (c n).toNat * w k) 0) hcn
      rwa [hn n hcn] at this
    · refine maxIn_le.mpr fun n hcn => ?_
      rw [hn n hcn]
      exact max_le_max (add_le_add (le_maxIn hcn) le_rfl) le_rfl
  · rw [if_neg fun h => hc (count_pos.mp h), maxIn_empty fun n hn => hc ⟨n, hn⟩, EReal.bot_add]
    exact max_eq_right bot_le

end Cells

/-- The product with a number and with a number's difference. -/
theorem affine_eq {p m i b e : EReal} (hp : 0 ≤ p) (hm : Num m) (hi : Num i) : (p - m) * i + b + e = p * i + (b - m * i + e) := by
  obtain ⟨m, rfl⟩ := hm
  obtain ⟨i, rfl⟩ := hi
  have h : (p - m) * (i : EReal) = p * i + -((m : EReal) * i) := by
    induction p using EReal.rec with
    | bot => exact absurd hp (by simp)
    | coe p =>
      rw [← EReal.coe_sub, ← EReal.coe_mul, ← EReal.coe_mul, ← EReal.coe_mul, ← EReal.coe_neg, ← EReal.coe_add]
      congr 1; ring
    | top =>
      rw [EReal.top_sub_coe, ← EReal.coe_mul, ← EReal.coe_neg]
      rcases lt_trichotomy i 0 with h | h | h
      · rw [EReal.top_mul_coe_of_neg h, EReal.bot_add]
      · subst h; simp
      · rw [EReal.top_mul_coe_of_pos h, EReal.top_add_coe]
  rw [h, sub_eq_add_neg]
  ac_rfl

/-- The batch norm's scale is a number for a number and a variance that is not negative. -/
theorem scale_num {g v : EReal} (hg : Num g) (hv : 0 ≤ v) : Num (g * Ideal.rsqrt (v + cEps)) := by
  refine hg.mul ?_
  obtain ⟨r, hr, e⟩ : ∃ r : ℝ, 0 < r ∧ cEps = (r : EReal) := cEps_val
  induction v using EReal.rec with
  | bot => exact absurd hv (by simp)
  | top => rw [e, EReal.top_add_coe]; exact ⟨0, by simp⟩
  | coe v =>
    have hv' : (0 : ℝ) ≤ v := by exact_mod_cast hv
    rw [e, ← EReal.coe_add]
    refine ⟨(Real.sqrt (v + r))⁻¹, ?_⟩
    rw [Ideal.rsqrt_coe, if_neg (by linarith), if_neg (by linarith)]

/-- The order in which the reference takes a point's coordinates. -/
def perm : Fin 3 → Fin 3 := ![1, 0, 2]

/-- The features of one point from its coordinates and its offsets to its cell's centroid. -/
def feat (p q : Fin 3 → EReal) (a b : Fin 3 → Fin 32 → EReal) (w2 : Fin 32 → Fin 64 → EReal) (w3 : Fin 64 → Fin 128 → EReal) (k : Fin 128) : EReal :=
  max (∑ i, max (∑ j, max (∑ l, p l * a l j + ∑ l, q l * b l j) 0 * w2 j i) 0 * w3 i k) 0

/-- A relu's value is not negative. -/
theorem feat_nonneg (p q : Fin 3 → EReal) (a b : Fin 3 → Fin 32 → EReal) (w2 : Fin 32 → Fin 64 → EReal) (w3 : Fin 64 → Fin 128 → EReal) (k : Fin 128) :
    0 ≤ feat p q a b w2 w3 k := le_max_right _ _

/-- The cells of a cloud's points. -/
def cellsOf (p : Fin 2048 → Fin 3 → EReal) : Fin 2048 → BitVec 32 := fun n => cell (p n 0) (p n 2)
/-- The features of a cloud's points. -/
def featsOf (p : Fin 2048 → Fin 3 → EReal) (a b : Fin 3 → Fin 32 → EReal) (w2 : Fin 32 → Fin 64 → EReal) (w3 : Fin 64 → Fin 128 → EReal) (n : Fin 2048) (k : Fin 128) : EReal :=
  feat (p n) (fun j => p n j - centre (cellsOf p) (fun m => p m j) (cellsOf p n).toNat) a b w2 w3 k

/-- The point encoder's arguments. -/
structure Pil where
  /-- the clouds' points -/
  x : Fin 32 → Fin 2048 → Fin 3 → EReal
  /-- the first layer's weights -/
  w1 : Fin 6 → Fin 32 → EReal
  /-- the second layer's weights -/
  w2 : Fin 32 → Fin 64 → EReal
  /-- the third layer's weights -/
  w3 : Fin 64 → Fin 128 → EReal
  /-- the weights over a point's and its cell's features -/
  wa : Fin 256 → Fin 768 → EReal
  /-- the normalisation's factor -/
  g : Fin 100 → EReal
  /-- the normalisation's shift -/
  b : Fin 100 → EReal
  /-- the normalisation's mean -/
  mu : Fin 100 → EReal
  /-- the normalisation's variance -/
  v : Fin 100 → EReal
  /-- the class token -/
  cls : Fin 768 → EReal
  /-- the position embedding -/
  pos : Fin 101 → Fin 768 → EReal

namespace Pil
variable (P : Pil)

/-- The mean and the factor are numbers and the variance is not negative. -/
def Normal : Prop := ∀ r, Num (P.mu r) ∧ Num (P.g r) ∧ 0 ≤ P.v r
/-- The normalisation's scale. -/
def scale (r : Fin 100) : EReal := P.g r * Ideal.rsqrt (P.v r + cEps)
/-- A point's features. -/
def h (n : Fin 32) : Fin 2048 → Fin 128 → EReal :=
  featsOf (P.x n) (fun l j => P.w1 ⟨(perm l).val, by omega⟩ j) (fun l j => P.w1 ⟨3 + (perm l).val, by omega⟩ j) P.w2 P.w3
/-- The part of a point's second feature that its own features give. -/
def u (n : Fin 32) (d : Fin 768) (k : Fin 2048) : EReal := ∑ e : Fin 128, P.h n k e * P.wa ⟨e.val, by omega⟩ d
/-- A token as the kernel computes it. -/
def kernelTok (n : Fin 32) (p : Fin 128) (d : Fin 768) : EReal :=
  if p.val = 0 then P.cls d + P.pos 0 d
  else if h : p.val - 1 < 100 then
    kernelCell (cellsOf (P.x n)) (P.h n) (P.u n d) (fun e => P.wa ⟨128 + e.val, by omega⟩ d) (p.val - 1) * P.scale ⟨p.val - 1, h⟩
      + (P.b ⟨p.val - 1, h⟩ - P.mu ⟨p.val - 1, h⟩ * P.scale ⟨p.val - 1, h⟩ + P.pos ⟨1 + (p.val - 1), by omega⟩ d)
  else 0
/-- A token as the reference computes it. -/
def tok (n : Fin 32) (p : Fin 128) (d : Fin 768) : EReal :=
  if p.val = 0 then P.cls d + P.pos 0 d
  else if h : p.val - 1 < 100 then
    (plainCell (cellsOf (P.x n)) (P.h n) (P.u n d) (fun e => P.wa ⟨128 + e.val, by omega⟩ d) (p.val - 1) - P.mu ⟨p.val - 1, h⟩) * P.scale ⟨p.val - 1, h⟩
      + P.b ⟨p.val - 1, h⟩ + P.pos ⟨1 + (p.val - 1), by omega⟩ d
  else 0
variable {P}
/-- The two agree where the normalisation is by numbers. -/
theorem tok_eq (hN : P.Normal) (n : Fin 32) (p : Fin 128) (d : Fin 768) : P.tok n p d = P.kernelTok n p d := by
  unfold tok kernelTok
  split
  · rfl
  · split
    · rename_i h
      obtain ⟨hm, hg, hv⟩ := hN ⟨p.val - 1, h⟩
      rw [kernelCell_eq (h := P.h n) h fun k e => feat_nonneg _ _ _ _ _ _ _]
      refine affine_eq ?_ hm (scale_num hg hv)
      unfold plainCell
      split
      · rename_i hc
        obtain ⟨k, hk⟩ := count_pos.mp hc
        exact le_trans (le_max_right _ _) (le_maxIn (f := fun k => max (P.u n d k + ∑ e, maxIn (cellsOf (P.x n)) (fun m => P.h n m e) (cellsOf (P.x n) k).toNat
          * P.wa ⟨128 + e.val, by omega⟩ d) 0) hk)
      · exact le_rfl
    · rfl
end Pil

end Cert.Pillar
end
-- ==== Proof.EncKer.lean ====
/-
  The point encoder's body on one batch entry read as arithmetic.
-/
module

public import proofs.«01_k».proof.Proof.EncBody
public import proofs.«01_k».proof.Proof.EncMath

@[expose] public section

set_option maxRecDepth 16384

noncomputable section

namespace Cert.Pillar

open Idealize.ShloMosaic Idealize.SL.Sem
open Cert.Kernel2Ideal Cert.Kernel2Ideal.Gen
open Cert.Encoder

/-- The mask value of a single is minus infinity. -/
theorem mask_f32 : Named.named (F := Ideal) (φ := .f32) κ "mask" 0xF149F2CA#32 = ⊥ := IdealRules.named_const.ideal_named_scalar (φ := .f32) κ "mask" _ ⊥ rfl
/-- The mask value of a half-width float is minus infinity. -/
theorem mask_bf16 : Named.named (F := Ideal) (φ := .bf16) κ "mask" 0xF14A#16 = ⊥ := IdealRules.named_const.ideal_named_scalar (φ := .bf16) κ "mask" _ ⊥ rfl
/-- The half-width word of minus infinity. -/
theorem ninf_bf16 : Ideal.ofBits .bf16 0xFF80#16 = ⊥ := by simp [Ideal.ofBits, Ideal.ieee]

/-- A comparison read as a number. -/
theorem hot_val (a b : BitVec 32) : FloatOps.sitofp (F := Ideal) .f32 (BitVec.setWidth 32 (IntOp.cmpi .eq a b)) = if b = a then (1 : EReal) else 0 := by
  by_cases h : a = b
  · subst h
    rw [if_pos rfl]
    simp [IntOp.cmpi, FloatOps.sitofp]
  · rw [if_neg (Ne.symm h)]
    have h' : (a == b) = false := by simpa using h
    simp [IntOp.cmpi, FloatOps.sitofp, h']

/-- A choice by a comparison. -/
theorem pick_val {α : Type} (a b : BitVec 32) (u v : α) : Scalar.select (IntOp.cmpi .eq a b) u v = if a = b then u else v := by
  by_cases h : a = b
  · subst h; simp [IntOp.cmpi, Scalar.select]
  · have h' : (a == b) = false := by simpa using h
    simp [IntOp.cmpi, Scalar.select, h, h']

/-- A sum weighted by comparisons is the cell's sum. -/
theorem hot_sum (c : Fin 2048 → BitVec 32) (f : Fin 2048 → EReal) (r : ℕ) :
    ∑ n, FloatOps.sitofp (F := Ideal) .f32 (BitVec.setWidth 32 (IntOp.cmpi .eq (BitVec.ofNat 32 r) (c n))) * f n = sumIn c f r := by
  unfold sumIn
  refine Finset.sum_congr rfl fun n _ => ?_
  rw [hot_val]
  split <;> simp

/-- A sum of comparisons is the cell's count. -/
theorem hot_count (c : Fin 2048 → BitVec 32) (r : ℕ) :
    ∑ n, FloatOps.sitofp (F := Ideal) .f32 (BitVec.setWidth 32 (IntOp.cmpi .eq (BitVec.ofNat 32 r) (c n))) = sumIn c (fun _ => 1) r := by
  unfold sumIn
  refine Finset.sum_congr rfl fun n _ => ?_
  rw [hot_val]

/-- A sum over cells weighted by a point's comparisons is the value at the point's cell. -/
theorem hot_pick (b : BitVec 32) (hb : b.toNat < 128) (f : ℕ → EReal) :
    ∑ r : Fin 128, FloatOps.sitofp (F := Ideal) .f32 (BitVec.setWidth 32 (IntOp.cmpi .eq (BitVec.ofNat 32 r.val) b)) * f r.val = f b.toNat := by
  rw [Finset.sum_eq_single ⟨b.toNat, hb⟩]
  · rw [hot_val, if_pos (by simp), one_mul]
  · intro r _ hr
    rw [hot_val, if_neg, zero_mul]
    intro h
    apply hr
    apply Fin.ext
    show r.val = b.toNat
    rw [h, BitVec.toNat_ofNat, Nat.mod_eq_of_lt (by omega)]
  · intro h
    exact absurd (Finset.mem_univ _) h

section Body
variable (x : Vec Ideal S1x2048x3 .f32)

/-- The cells of an entry's points. -/
abbrev cells : Fin 2048 → BitVec 32 := fun n => cell (x (ix3 0 n 0)) (x (ix3 0 n 2))
/-- A point's offset to its cell's centroid. -/
abbrev offset (n : Fin 2048) (j : Fin 3) : EReal := x (ix3 0 n j) - centre (cells x) (fun m => x (ix3 0 m j)) (cells x n).toNat

/-- The body's cells. -/
theorem pay12_at (n : Fin 2048) : k0_pay12 (F := Ideal) x (ix2 n 0) = cells x n := by
  pointwise [k0_pay12, k0_pay11]
  rfl

/-- The body's offsets. -/
theorem pay13_at (n : Fin 2048) (j : Fin 3) : k0_pay13 (F := Ideal) x (ix2 n j) = offset x n j := by
  pointwise [k0_pay13, k0_pay11]
  simp only [pay12_at]
  simp only [hot_count, hot_sum (cells x) fun m => x (ix3 0 m j)]
  exact congrArg (x (ix3 0 n j) - ·) (hot_pick (cells x n) (lt_trans (cell_lt _ _) (by norm_num)) (centre (cells x) fun m => x (ix3 0 m j)))

/-- The body's points. -/
theorem pay11_at (n : Fin 2048) (j : Fin 3) : k0_pay11 (F := Ideal) x (ix2 n j) = x (ix3 0 n j) := by
  pointwise [k0_pay11]

variable (v1 v40 : FVec Ideal S2048x3 .f32) (a b : Vec Ideal S3x32 .f32) (w2 : Vec Ideal S32x64 .f32) (w3 : Vec Ideal S64x128 .f32) (wa : Vec Ideal S128x768 .f32)

/-- The first 128 columns are a point's features. -/
theorem pay14_feat (n : Fin 2048) (e : Fin 128) : k0_pay14 (F := Ideal) v1 v40 a b w2 w3 wa (ix2 n ⟨e.val, by omega⟩)
    = feat (fun l => v1 (ix2 n l)) (fun l => v40 (ix2 n l)) (fun l j => a (ix2 l j)) (fun l j => b (ix2 l j)) (fun j i => w2 (ix2 j i)) (fun i k => w3 (ix2 i k)) e := by
  pointwise [k0_pay14]
  rfl

/-- The other columns are their product with the upper half of the last layer's weights. -/
theorem pay14_prod (n : Fin 2048) (d : Fin 768) : k0_pay14 (F := Ideal) v1 v40 a b w2 w3 wa (ix2 n ⟨128 + d.val, by omega⟩)
    = ∑ k, feat (fun l => v1 (ix2 n l)) (fun l => v40 (ix2 n l)) (fun l j => a (ix2 l j)) (fun l j => b (ix2 l j)) (fun j i => w2 (ix2 j i)) (fun i k => w3 (ix2 i k)) k
        * wa (ix2 k d) := by
  pointwise [k0_pay14]
  rfl

/-- A trip's row number as a word. -/
theorem row_word (k : Fin k0_t1_loop.trips) (s : Fin 8) :
    Scalar.addi (Scalar.muli (Scf.iv 0#32 1#32 k) 8#32) (BitVec.ofNat 32 s.val) = BitVec.ofNat 32 (8 * k.val + s.val) := by
  revert k s
  decide +kernel

variable (c : Fin 2048 → BitVec 32) (v26 : IVec S2048x1 32) (hc : ∀ n, v26 (ix2 n 0) = c n) (w : FVec Ideal S2048x896 .bf16)
include hc

/-- A maximum over the points that the comparison selects is the cell's maximum. -/
theorem fold_row (e : Fin 896) (b : BitVec 32) (r : ℕ) (hb : b = BitVec.ofNat 32 r) :
    Finset.fold max (Ideal.ofBits FTy.bf16 65408#16)
      (fun x => Scalar.select (IntOp.cmpi CmpIPredicate.eq (v26 (ix2 x 0)) b) (w (ix2 x e)) (Named.named (F := Ideal) (φ := .f32) κ "mask" 4048155338#32)) Finset.univ
      = maxIn c (fun n => w (ix2 n e)) r := by
  subst hb
  rw [ninf_bf16]
  unfold maxIn
  simp only [pick_val, hc, mask_f32]

/-- What one trip of the loop writes: eight cells' maxima. -/
theorem slab_at (k : Fin k0_t1_loop.trips) (s : Fin 8) (e : Fin 896) :
    slab v26 w k (ix3 0 s e) = maxIn c (fun n => w (ix2 n e)) (8 * k.val + s.val) := by
  have p2 : ∀ e, k0_pay2 (F := Ideal) v26 w 0#32 1#32 k (ix2 0 e) = maxIn c (fun n => w (ix2 n e)) (8 * k.val + 0) := fun e => by
    pointwise [k0_pay2]; exact fold_row c v26 hc w e _ _ (row_word k 0)
  have p3 : ∀ e, k0_pay3 (F := Ideal) v26 w 0#32 1#32 k (ix2 0 e) = maxIn c (fun n => w (ix2 n e)) (8 * k.val + 1) := fun e => by
    pointwise [k0_pay3]; exact fold_row c v26 hc w e _ _ (row_word k 1)
  have p4 : ∀ e, k0_pay4 (F := Ideal) v26 w 0#32 1#32 k (ix2 0 e) = maxIn c (fun n => w (ix2 n e)) (8 * k.val + 2) := fun e => by
    pointwise [k0_pay4]; exact fold_row c v26 hc w e _ _ (row_word k 2)
  have p6 : ∀ e, k0_pay6 (k0_pay5 (F := Ideal) v26 w 0#32 1#32 k) (ix2 0 e) = maxIn c (fun n => w (ix2 n e)) (8 * k.val + 3) := fun e => by
    pointwise [k0_pay6, k0_pay5]; exact fold_row c v26 hc w e _ _ (row_word k 3)
  have p7 : ∀ e, k0_pay7 (F := Ideal) v26 w (Scf.iv 0#32 1#32 k) (ix2 0 e) = maxIn c (fun n => w (ix2 n e)) (8 * k.val + 4) := fun e => by
    pointwise [k0_pay7]; exact fold_row c v26 hc w e _ _ (row_word k 4)
  have p8 : ∀ e, k0_pay8 (F := Ideal) v26 w (Scf.iv 0#32 1#32 k) (ix2 0 e) = maxIn c (fun n => w (ix2 n e)) (8 * k.val + 5) := fun e => by
    pointwise [k0_pay8]; exact fold_row c v26 hc w e _ _ (row_word k 5)
  have p9 : ∀ e, k0_pay9 (F := Ideal) v26 w (Scf.iv 0#32 1#32 k) (ix2 0 e) = maxIn c (fun n => w (ix2 n e)) (8 * k.val + 6) := fun e => by
    pointwise [k0_pay9]; exact fold_row c v26 hc w e _ _ (row_word k 6)
  have p10 : ∀ e, k0_pay10 (F := Ideal) v26 w (Scf.iv 0#32 1#32 k) (ix1 e) = maxIn c (fun n => w (ix2 n e)) (8 * k.val + 7) := fun e => by
    pointwise [k0_pay10]; exact fold_row c v26 hc w e _ _ (row_word k 7)
  unfold slab
  revert p2 p3 p4 p6 p7 p8 p9 p10
  generalize k0_pay2 (F := Ideal) v26 w 0#32 1#32 k = u2
  generalize k0_pay3 (F := Ideal) v26 w 0#32 1#32 k = u3
  generalize k0_pay4 (F := Ideal) v26 w 0#32 1#32 k = u4
  generalize k0_pay6 (k0_pay5 (F := Ideal) v26 w 0#32 1#32 k) = u6
  generalize k0_pay7 (F := Ideal) v26 w (Scf.iv 0#32 1#32 k) = u7
  generalize k0_pay8 (F := Ideal) v26 w (Scf.iv 0#32 1#32 k) = u8
  generalize k0_pay9 (F := Ideal) v26 w (Scf.iv 0#32 1#32 k) = u9
  generalize k0_pay10 (F := Ideal) v26 w (Scf.iv 0#32 1#32 k) = u10
  intro p2 p3 p4 p6 p7 p8 p9 p10
  pointwise [k0_pay16]
  fin_cases s
  · exact p2 e
  · exact p3 e
  · exact p4 e
  · exact p6 e
  · exact p7 e
  · exact p8 e
  · exact p9 e
  · exact p10 e

/-- A row of the scratch array of a trip that ran. -/
theorem scratch_at (r : Fin 16) (hr : r.val < 13) (s : Fin 8) (e : Fin 896) :
    scratch v26 w (ix3 r s e) = maxIn c (fun n => w (ix2 n e)) (8 * r.val + s.val) := by
  have h : r.val < k0_t1_loop.trips := by have : k0_t1_loop.trips = 13 := by decide +kernel
                                          omega
  unfold scratch
  rw [dif_pos (show ((ix3 r s e : S16x8x896.Idx) 0).val < k0_t1_loop.trips from h)]
  exact slab_at c v26 hc w ⟨r.val, h⟩ s e

omit hc in
/-- The output block's first row. -/
theorem out_first (S : Vec Ideal S16x8x896 .bf16) (x6 x7 x8 : Vec Ideal S128x768 .f32) (x9 : Vec Ideal S1x768 .f32) (d : Fin 768) :
    k0_pay1 (F := Ideal) (k0_pay17 S) (k0_pay18 S) x6 x7 x8 x9 (ix3 0 0 d) = x9 (ix2 0 d) := by
  pointwise [k0_pay1, k0_pay17, k0_pay18]

omit hc in
/-- The output block's other rows: a cell's feature scaled and shifted. -/
theorem out_row (S : Vec Ideal S16x8x896 .bf16) (x6 x7 x8 : Vec Ideal S128x768 .f32) (x9 : Vec Ideal S1x768 .f32) (r : Fin 127) (d : Fin 768) :
    k0_pay1 (F := Ideal) (k0_pay17 S) (k0_pay18 S) x6 x7 x8 x9 (ix3 0 ⟨r.val + 1, by omega⟩ d)
      = max (S (ix3 ⟨r.val / 8, by omega⟩ ⟨r.val % 8, by omega⟩ ⟨128 + d.val, by omega⟩)
          + ∑ k : Fin 128, max (S (ix3 ⟨r.val / 8, by omega⟩ ⟨r.val % 8, by omega⟩ ⟨k.val, by omega⟩)) 0 * x6 (ix2 k d)) 0
        * x7 (ix2 ⟨r.val, by omega⟩ d) + x8 (ix2 ⟨r.val, by omega⟩ d) := by
  pointwise [k0_pay1, k0_pay17, k0_pay18]
  rfl

/-- The other rows of a trip that ran, by the cell's maxima. -/
theorem out_cell (x6 x7 x8 : Vec Ideal S128x768 .f32) (x9 : Vec Ideal S1x768 .f32) (r : Fin 100) (d : Fin 768) :
    k0_pay1 (F := Ideal) (k0_pay17 (scratch v26 w)) (k0_pay18 (scratch v26 w)) x6 x7 x8 x9 (ix3 0 ⟨r.val + 1, by omega⟩ d)
      = kernelCell c (fun n k => w (ix2 n ⟨k.val, by omega⟩)) (fun n => w (ix2 n ⟨128 + d.val, by omega⟩)) (fun k => x6 (ix2 k d)) r.val
        * x7 (ix2 ⟨r.val, by omega⟩ d) + x8 (ix2 ⟨r.val, by omega⟩ d) := by
  rw [out_row (scratch v26 w) x6 x7 x8 x9 ⟨r.val, by omega⟩ d]
  simp only [scratch_at c v26 hc w ⟨r.val / 8, by omega⟩ (show r.val / 8 < 13 by omega) ⟨r.val % 8, by omega⟩, Nat.div_add_mod]
  rfl
end Body

end Cert.Pillar
end
-- ==== Proof.EncHost.lean ====
/-
  The arrays the host prepares for the point encoder, read at an index.
-/
module

public import proofs.«01_k».proof.Proof.EncKer
public import Idealize.ShloMosaic.Lib.Routing.OpsSet
public import Idealize.ShloMosaic.Lib.Pipeline.ValueKit

@[expose] public section

set_option maxRecDepth 16384

noncomputable section

namespace Cert.Pillar

open Idealize.ShloMosaic Idealize.ShloMosaic.TcCoe Idealize.SL.Sem
open Cert.Kernel2Ideal Cert.Kernel2Ideal.Gen
open Cert.Encoder

/-- The row numbers of the permuted weights as words. -/
def permWord : IVec S3x1 32 :=
  broadcastInDim S3x1 ![0] bcast_S3_S3x1_0 (select (cmpi .slt (fun i => lit0 (S3.rowMajor i)) (broadcastInDim S3 ![] bcast_S_S3 (constantI S_ 32 0#32)))
    (addi (fun i => lit0 (S3.rowMajor i)) (broadcastInDim S3 ![] bcast_S_S3 (constantI S_ 32 3#32))) (fun i => lit0 (S3.rowMajor i)))
/-- The row numbers are second, first, third. -/
theorem permWord_at (j : Fin 3) : permWord (ix2 j 0) = BitVec.ofNat 32 (perm j).val := by
  fin_cases j <;> decide +kernel

/-- Rows of a table of three picked by number. -/
theorem rows_at {α : Type} (x : S3x32.Idx → α) (j : Fin 3) (k : Fin 32) :
    Host.gather gather_S3x32_S3x1_S3x32_1_0_n_n_0_1_132 x permWord (ix2 j k) = x (ix2 (perm j) k) := by
  unfold Host.gather
  congr 1
  funext a
  refine Fin.ext ?_
  match a with
  | ⟨0, _⟩ =>
    have h : GatherDims.siIdx gather_S3x32_S3x1_S3x32_1_0_n_n_0_1_132 (ix2 j k) ⟨0, by decide⟩ = ix2 j 0 := by
      funext b
      match b with
      | ⟨0, _⟩ => rfl
      | ⟨1, _⟩ => rfl
    show min (permWord (GatherDims.siIdx gather_S3x32_S3x1_S3x32_1_0_n_n_0_1_132 (ix2 j k) ⟨0, _⟩)).toInt.toNat 2 + 0 + 0 = (perm j).val
    rw [h, permWord_at]
    clear h
    revert j
    decide
  | ⟨1, _⟩ => exact Nat.zero_add _

/-- A table of a hundred rows written over the top of a larger one. -/
theorem top_at {α : Type} (x : S128x768.Idx → α) (i : IVec S1 32) (hi : i (ix1 0) = 0#32) (u : S100x768.Idx → α) (r : Fin 128) (d : Fin 768) :
    Host.scatter scatter_S128x768_S1_S100x768_01_n_0_0 (fun _ b => b) x i u (ix2 r d) = if h : r.val < 100 then u (ix2 ⟨r.val, h⟩ d) else x (ix2 r d) := by
  have lands : ∀ k : S100x768.Idx, scatter_S128x768_S1_S100x768_01_n_0_0.resultIdx? k i = some (ix2 r d) ↔ (k 0).val = r.val ∧ (k 1).val = d.val := fun k => by
    refine Iff.trans (Routing.resultIdx?_ix2 (R := 128) (C := 768) scatter_S128x768_S1_S100x768_01_n_0_0 k i r d) ?_
    have hs : ScatterDims.siIdx scatter_S128x768_S1_S100x768_01_n_0_0 k ⟨0, by decide⟩ = ix1 0 := by
      funext b
      match b with
      | ⟨0, _⟩ => exact Subsingleton.elim (α := Fin 1) _ _
    have h0 : scatter_S128x768_S1_S100x768_01_n_0_0.start k i 0 = 0 := by
      show (i (ScatterDims.siIdx scatter_S128x768_S1_S100x768_01_n_0_0 k ⟨0, _⟩)).toInt = 0
      rw [hs, hi]; rfl
    have h1 : scatter_S128x768_S1_S100x768_01_n_0_0.start k i 1 = 0 := rfl
    have w0 : scatter_S128x768_S1_S100x768_01_n_0_0.window k 0 = (k 0).val := rfl
    have w1 : scatter_S128x768_S1_S100x768_01_n_0_0.window k 1 = (k 1).val := rfl
    rw [h0, h1, w0, w1]
    omega
  split
  · rename_i h
    refine Routing.scatter_set_hit _ x i u _ _ (fun k hk => ?_) (ix2 ⟨r.val, h⟩ d) ((lands _).mpr ⟨rfl, rfl⟩)
    obtain ⟨e0, e1⟩ := (lands k).mp hk
    obtain ⟨a, b, rfl⟩ : ∃ (a : Fin 100) (b : Fin 768), k = ix2 a b := ⟨k 0, k 1, by idx_vars k⟩
    obtain rfl : a = ⟨r.val, h⟩ := Fin.ext e0
    obtain rfl : b = d := Fin.ext e1
    rfl
  · rename_i h
    refine Routing.scatter_set_miss _ x i u _ fun k hk => h ?_
    have := ((lands k).mp hk).1
    have : (k 0).val < 100 := (k 0).isLt
    omega

/-- The upper half of a table at an index. -/
theorem lo_at (x : FVec Ideal S256x768 .f32) (l : Fin 128) (d : Fin 768) :
    extractStridedSlice S128x768 ![0, 0] x slices_S256x768_S128x768_0_0 (ix2 l d) = x (ix2 ⟨l.val, by omega⟩ d) := by
  pointwise
/-- The lower half of a table at an index. -/
theorem hi_at (x : FVec Ideal S256x768 .f32) (l : Fin 128) (d : Fin 768) :
    extractStridedSlice S128x768 ![128, 0] x slices_S256x768_S128x768_128_0 (ix2 l d) = x (ix2 ⟨128 + l.val, by omega⟩ d) := by
  pointwise

section Prep
variable (W1 : FVec Ideal S6x32 .f32) (Wa : FVec Ideal S256x768 .f32) (g b mu v : FVec Ideal S100 .f32) (cls : FVec Ideal S1x1x768 .f32) (pos : FVec Ideal S1x101x768 .f32)

/-- The permuted first-layer weights. -/
def w1x : FVec Ideal S6x32 .f32 := concatenate S6x32 0
  [⟨S3x32, Host.gather gather_S3x32_S3x1_S3x32_1_0_n_n_0_1_132 (extractStridedSlice S3x32 ![0, 0] W1 slices_S6x32_S3x32_0_0) permWord⟩,
   ⟨S3x32, Host.gather gather_S3x32_S3x1_S3x32_1_0_n_n_0_1_132 (extractStridedSlice S3x32 ![3, 0] W1 slices_S6x32_S3x32_3_0) permWord⟩] concatenates_S3x32_S3x32_S6x32_d0
/-- The normalisation's scale. -/
def scaleV : FVec Ideal S100 .f32 := mulf g (Host.rsqrt (addf v (broadcastInDim S100 ![] bcast_S_S100 (constant S_ .f32 0x3727C5AC#32))))
/-- The scale's table. -/
def scaleT : FVec Ideal S128x768 .f32 := Host.scatter scatter_S128x768_S1_S100x768_01_n_0_0 (fun _ b => b)
  (broadcastInDim S128x768 ![] bcast_S_S128x768 (constant S_ .f32 0x00000000#32)) (broadcastInDim S1 ![] bcast_S_S1 (constantI S_ 32 0#32))
  (broadcastInDim S100x768 ![0, 1] bcast_S100x1_S100x768_0_1 (broadcastInDim S100x1 ![0] bcast_S100_S100x1_0 (scaleV g v)))
/-- The shift's table. -/
def shiftT : FVec Ideal S128x768 .f32 := Host.scatter scatter_S128x768_S1_S100x768_01_n_0_0 (fun _ b => b)
  (broadcastInDim S128x768 ![] bcast_S_S128x768 (constant S_ .f32 0x00000000#32)) (broadcastInDim S1 ![] bcast_S_S1 (constantI S_ 32 0#32))
  (addf (broadcastInDim S100x768 ![0, 1] bcast_S100x1_S100x768_0_1 (broadcastInDim S100x1 ![0] bcast_S100_S100x1_0 (subf b (mulf mu (scaleV g v)))))
    (shapeCast S100x768 (extractStridedSlice S1x100x768 ![0, 1, 0] pos slices_S1x101x768_S1x100x768_0_1_0) shapeCasts_S1x100x768_S100x768))
/-- The first token. -/
def firstT : FVec Ideal S1x768 .f32 := addf (shapeCast S1x768 cls shapeCasts_S1x1x768_S1x768)
  (shapeCast S1x768 (extractStridedSlice S1x1x768 ![0, 0, 0] pos slices_S1x101x768_S1x1x768_0_0_0) shapeCasts_S1x1x768_S1x768)

/-- The first half of the reordered weights at an index. -/
theorem w1a_at (l : Fin 3) (k : Fin 32) : extractStridedSlice S3x32 ![0, 0] (w1x W1) slices_S6x32_S3x32_0_0 (ix2 l k) = W1 (ix2 ⟨(perm l).val, by omega⟩ k) := by
  pointwise [w1x]
  simp only [rows_at]
  pointwise
/-- The second half of the reordered weights at an index. -/
theorem w1b_at (l : Fin 3) (k : Fin 32) : extractStridedSlice S3x32 ![3, 0] (w1x W1) slices_S6x32_S3x32_3_0 (ix2 l k) = W1 (ix2 ⟨3 + (perm l).val, by omega⟩ k) := by
  pointwise [w1x]
  simp only [rows_at]
  pointwise
/-- The scale's table at an index. -/
theorem scaleT_at (r : Fin 128) (d : Fin 768) : scaleT g v (ix2 r d) = if h : r.val < 100 then g (ix1 ⟨r.val, h⟩) * Ideal.rsqrt (v (ix1 ⟨r.val, h⟩) + cEps) else 0 := by
  unfold scaleT
  rw [top_at _ _ (by pointwise)]
  split
  · pointwise [scaleV]
  · pointwise
/-- The shift's table at an index. -/
theorem shiftT_at (r : Fin 128) (d : Fin 768) : shiftT g b mu v pos (ix2 r d) = if h : r.val < 100 then
    b (ix1 ⟨r.val, h⟩) - mu (ix1 ⟨r.val, h⟩) * (g (ix1 ⟨r.val, h⟩) * Ideal.rsqrt (v (ix1 ⟨r.val, h⟩) + cEps)) + pos (ix3 0 ⟨1 + r.val, by omega⟩ d) else 0 := by
  unfold shiftT
  rw [top_at _ _ (by pointwise)]
  split
  · pointwise [scaleV]
  · pointwise
/-- The first row at an index. -/
theorem firstT_at (d : Fin 768) : firstT cls pos (ix2 0 d) = cls (ix3 0 0 d) + pos (ix3 0 0 d) := by
  pointwise [firstT]
end Prep

/-- The encoder over the argument arrays. -/
def pilOf (x : FVec Ideal S32x2048x3 .f32) (W1 : FVec Ideal S6x32 .f32) (W2 : FVec Ideal S32x64 .f32) (W3 : FVec Ideal S64x128 .f32) (Wa : FVec Ideal S256x768 .f32)
    (g b mu v : FVec Ideal S100 .f32) (cls : FVec Ideal S1x1x768 .f32) (pos : FVec Ideal S1x101x768 .f32) : Pil :=
  ⟨fun n k j => x (ix3 n k j), fun l j => W1 (ix2 l j), fun l j => W2 (ix2 l j), fun l j => W3 (ix2 l j), fun l j => Wa (ix2 l j),
    fun r => g (ix1 r), fun r => b (ix1 r), fun r => mu (ix1 r), fun r => v (ix1 r), fun d => cls (ix3 0 0 d), fun p d => pos (ix3 0 p d)⟩

/-! ### The body over its blocks -/

section Body
variable (x0 : Vec Ideal S1x2048x3 .f32) (x1 x2 : Vec Ideal S3x32 .f32) (x3 : Vec Ideal S32x64 .f32) (x4 : Vec Ideal S64x128 .f32)
  (x5 x6 x7 x8 : Vec Ideal S128x768 .f32) (x9 : Vec Ideal S1x768 .f32)

/-- The body's result block. -/
def bodyOut : Vec Ideal S1x128x768 .f32 :=
  k0_pay1 (k0_pay17 (scratch (k0_pay12 x0) (k0_pay14 (k0_pay11 x0) (k0_pay13 x0) x1 x2 x3 x4 x5)))
    (k0_pay18 (scratch (k0_pay12 x0) (k0_pay14 (k0_pay11 x0) (k0_pay13 x0) x1 x2 x3 x4 x5))) x6 x7 x8 x9

/-- The result block's first row. -/
theorem body_first (d : Fin 768) : bodyOut x0 x1 x2 x3 x4 x5 x6 x7 x8 x9 (ix3 0 0 d) = x9 (ix2 0 d) := out_first _ x6 x7 x8 x9 d
/-- The result block's row of a cell. -/
theorem body_cell (r : Fin 100) (d : Fin 768) : bodyOut x0 x1 x2 x3 x4 x5 x6 x7 x8 x9 (ix3 0 ⟨r.val + 1, by omega⟩ d)
    = kernelCell (cellsOf fun n j => x0 (ix3 0 n j))
        (featsOf (fun n j => x0 (ix3 0 n j)) (fun l j => x1 (ix2 l j)) (fun l j => x2 (ix2 l j)) (fun l j => x3 (ix2 l j)) fun l j => x4 (ix2 l j))
        (fun n => ∑ k, featsOf (fun n j => x0 (ix3 0 n j)) (fun l j => x1 (ix2 l j)) (fun l j => x2 (ix2 l j)) (fun l j => x3 (ix2 l j)) (fun l j => x4 (ix2 l j)) n k
          * x5 (ix2 k d)) (fun k => x6 (ix2 k d)) r.val * x7 (ix2 ⟨r.val, by omega⟩ d) + x8 (ix2 ⟨r.val, by omega⟩ d) := by
  unfold bodyOut
  rw [out_cell (cells x0) (k0_pay12 x0) (pay12_at x0)]
  simp only [pay14_feat, pay14_prod, pay11_at, pay13_at]
  rfl
/-- The result block's rows below the cells are zero. -/
theorem body_rest (r : Fin 127) (d : Fin 768) (h7 : x7 (ix2 ⟨r.val, by omega⟩ d) = 0) (h8 : x8 (ix2 ⟨r.val, by omega⟩ d) = 0) :
    bodyOut x0 x1 x2 x3 x4 x5 x6 x7 x8 x9 (ix3 0 ⟨r.val + 1, by omega⟩ d) = 0 := by
  unfold bodyOut
  rw [out_row, h7, h8, mul_zero, zero_add]
end Body

section Run
variable (m : (ℓ : Loc nD τ sig) → Buf (Elt Ideal) ℓ) (c : Dev nD)

/-- The second window's array. -/
theorem V_v17 : V m c main_v17 = extractStridedSlice S3x32 ![0, 0] (w1x (m ((c : Thread nD τ).loc main_arg1))) slices_S6x32_S3x32_0_0 := by
  show StableHlo.after hostOps0 (fun b => m (c, b)) (Proc.devRef .tc main_v17) = _
  after_results; try rfl
/-- The third window's array. -/
theorem V_v18 : V m c main_v18 = extractStridedSlice S3x32 ![3, 0] (w1x (m ((c : Thread nD τ).loc main_arg1))) slices_S6x32_S3x32_3_0 := by
  show StableHlo.after hostOps0 (fun b => m (c, b)) (Proc.devRef .tc main_v18) = _
  after_results; try rfl
/-- The sixth window's array. -/
theorem V_v19 : V m c main_v19 = extractStridedSlice S128x768 ![0, 0] (m ((c : Thread nD τ).loc main_arg4)) slices_S256x768_S128x768_0_0 := by
  show StableHlo.after hostOps0 (fun b => m (c, b)) (Proc.devRef .tc main_v19) = _
  after_results; try rfl
/-- The seventh window's array. -/
theorem V_v20 : V m c main_v20 = extractStridedSlice S128x768 ![128, 0] (m ((c : Thread nD τ).loc main_arg4)) slices_S256x768_S128x768_128_0 := by
  show StableHlo.after hostOps0 (fun b => m (c, b)) (Proc.devRef .tc main_v20) = _
  after_results; try rfl
/-- The eighth window's array. -/
theorem V_v31 : V m c main_v31 = scaleT (m ((c : Thread nD τ).loc main_arg5)) (m ((c : Thread nD τ).loc main_arg8)) := by
  show StableHlo.after hostOps0 (fun b => m (c, b)) (Proc.devRef .tc main_v31) = _
  after_results; try rfl
/-- The ninth window's array. -/
theorem V_v39 : V m c main_v39 = shiftT (m ((c : Thread nD τ).loc main_arg5)) (m ((c : Thread nD τ).loc main_arg6)) (m ((c : Thread nD τ).loc main_arg7))
    (m ((c : Thread nD τ).loc main_arg8)) (m ((c : Thread nD τ).loc main_arg10)) := by
  show StableHlo.after hostOps0 (fun b => m (c, b)) (Proc.devRef .tc main_v39) = _
  after_results; try rfl
/-- The tenth window's array. -/
theorem V_v43 : V m c main_v43 = firstT (m ((c : Thread nD τ).loc main_arg9)) (m ((c : Thread nD τ).loc main_arg10)) := by
  show StableHlo.after hostOps0 (fun b => m (c, b)) (Proc.devRef .tc main_v43) = _
  after_results; try rfl

/-- The encoder over the kernel's argument arrays. -/
def pil : Pil :=
  pilOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The block each window reads or writes at a grid point. -/
theorem idxE : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0, 0] :=
  (by decide +kernel : ∀ t : Fin grid0.N, _)
/-- The grid has 32 points. -/
theorem lt32 (t : Fin cfg0.N) : t.val < 32 := t.isLt

end Run
end Cert.Pillar
end
-- ==== Proof.EncArr.lean ====
/-
  The point encoder's result array.
-/
module

public import proofs.«01_k».proof.Proof.EncHost
public import Idealize.ShloMosaic.Lib.Pipeline.ValueKit

@[expose] public section

set_option maxRecDepth 16384

noncomputable section

namespace Cert.Pillar

open Idealize.ShloMosaic Idealize.ShloMosaic.TcCoe Idealize.SL.Sem
open Cert.Kernel2Ideal Cert.Kernel2Ideal.Gen
open Cert.Encoder

section Run
variable (m : (ℓ : Loc nD τ sig) → Buf (Elt Ideal) ℓ) (c : Dev nD)

/-- The first window's block: the cloud of the grid point. -/
theorem eblk_0 (t : Fin cfg0.N) (k : Fin 2048) (j : Fin 3) :
    (iblk m c 0 t : FVec Ideal S1x2048x3 .f32) (ix3 0 k j) = (pil m c).x ⟨t.val, lt32 t⟩ k j := by
  blk_simp [iblk]
  rw [show (win0_0.blk t).view.emb (ix3 0 k j) = ix3 ⟨t.val, lt32 t⟩ k j by blk_ext [idxE t], V_main_arg0]
  rfl
/-- The second window's block: the first half of the first layer's weights, rows reordered. -/
theorem eblk_1 (t : Fin cfg0.N) (l : Fin 3) (j : Fin 32) :
    (iblk m c 1 t : FVec Ideal S3x32 .f32) (ix2 l j) = (pil m c).w1 ⟨(perm l).val, by omega⟩ j := by
  blk_simp [iblk]
  rw [show (win0_1.blk t).view.emb (ix2 l j) = ix2 l j by blk_ext [idxE t], V_v17, w1a_at]
  rfl
/-- The third window's block: the second half of the first layer's weights, rows reordered. -/
theorem eblk_2 (t : Fin cfg0.N) (l : Fin 3) (j : Fin 32) :
    (iblk m c 2 t : FVec Ideal S3x32 .f32) (ix2 l j) = (pil m c).w1 ⟨3 + (perm l).val, by omega⟩ j := by
  blk_simp [iblk]
  rw [show (win0_2.blk t).view.emb (ix2 l j) = ix2 l j by blk_ext [idxE t], V_v18, w1b_at]
  rfl
/-- The second layer's weights. -/
theorem eblk_3 (t : Fin cfg0.N) (l : Fin 32) (j : Fin 64) :
    (iblk m c 3 t : FVec Ideal S32x64 .f32) (ix2 l j) = (pil m c).w2 l j := by
  blk_simp [iblk]
  rw [show (win0_3.blk t).view.emb (ix2 l j) = ix2 l j by blk_ext [idxE t], V_main_arg2]
  rfl
/-- The third layer's weights. -/
theorem eblk_4 (t : Fin cfg0.N) (l : Fin 64) (j : Fin 128) :
    (iblk m c 4 t : FVec Ideal S64x128 .f32) (ix2 l j) = (pil m c).w3 l j := by
  blk_simp [iblk]
  rw [show (win0_4.blk t).view.emb (ix2 l j) = ix2 l j by blk_ext [idxE t], V_main_arg3]
  rfl
/-- The upper half of the last layer's weights. -/
theorem eblk_5 (t : Fin cfg0.N) (l : Fin 128) (d : Fin 768) :
    (iblk m c 5 t : FVec Ideal S128x768 .f32) (ix2 l d) = (pil m c).wa ⟨l.val, by omega⟩ d := by
  blk_simp [iblk]
  rw [show (win0_5.blk t).view.emb (ix2 l d) = ix2 l d by blk_ext [idxE t], V_v19, lo_at]
  rfl
/-- The lower half of the last layer's weights. -/
theorem eblk_6 (t : Fin cfg0.N) (l : Fin 128) (d : Fin 768) :
    (iblk m c 6 t : FVec Ideal S128x768 .f32) (ix2 l d) = (pil m c).wa ⟨128 + l.val, by omega⟩ d := by
  blk_simp [iblk]
  rw [show (win0_6.blk t).view.emb (ix2 l d) = ix2 l d by blk_ext [idxE t], V_v20, hi_at]
  rfl
/-- The scale's window shows the whole table. -/
theorem read_7 (A : FVec Ideal S128x768 .f32) (t : Fin cfg0.N) (r : Fin 128) (d : Fin 768) :
    ((cfg0.win 7).blk t).view.read (Elt Ideal) A (ix2 r d) = A (ix2 r d) := by
  show A ((win0_7.blk t).view.emb (ix2 r d)) = _
  rw [show (win0_7.blk t).view.emb (ix2 r d) = ix2 r d by blk_ext [idxE t]]
/-- The shift's window shows the whole table. -/
theorem read_8 (A : FVec Ideal S128x768 .f32) (t : Fin cfg0.N) (r : Fin 128) (d : Fin 768) :
    ((cfg0.win 8).blk t).view.read (Elt Ideal) A (ix2 r d) = A (ix2 r d) := by
  show A ((win0_8.blk t).view.emb (ix2 r d)) = _
  rw [show (win0_8.blk t).view.emb (ix2 r d) = ix2 r d by blk_ext [idxE t]]
/-- The scale's table, zero below the hundred cells. -/
theorem eblk_7 (t : Fin cfg0.N) (r : Fin 128) (d : Fin 768) :
    (iblk m c 7 t : FVec Ideal S128x768 .f32) (ix2 r d) = if h : r.val < 100 then (pil m c).scale ⟨r.val, h⟩ else 0 := by
  refine Eq.trans ?_ (scaleT_at (m ((c : Thread nD τ).loc main_arg5)) (m ((c : Thread nD τ).loc main_arg8)) r d)
  have e := V_v31 m c
  show ((cfg0.win 7).blk t).view.read (Elt Ideal) (V m c main_v31) (ix2 r d) = _
  generalize V m c main_v31 = A at e ⊢
  rw [← e]
  exact read_7 A t r d
/-- The shift's table, zero below the hundred cells. -/
theorem eblk_8 (t : Fin cfg0.N) (r : Fin 128) (d : Fin 768) :
    (iblk m c 8 t : FVec Ideal S128x768 .f32) (ix2 r d) = if h : r.val < 100 then
      (pil m c).b ⟨r.val, h⟩ - (pil m c).mu ⟨r.val, h⟩ * (pil m c).scale ⟨r.val, h⟩ + (pil m c).pos ⟨1 + r.val, by omega⟩ d else 0 := by
  refine Eq.trans ?_ (shiftT_at (m ((c : Thread nD τ).loc main_arg5)) (m ((c : Thread nD τ).loc main_arg6)) (m ((c : Thread nD τ).loc main_arg7))
    (m ((c : Thread nD τ).loc main_arg8)) (m ((c : Thread nD τ).loc main_arg10)) r d)
  have e := V_v39 m c
  show ((cfg0.win 8).blk t).view.read (Elt Ideal) (V m c main_v39) (ix2 r d) = _
  generalize V m c main_v39 = A at e ⊢
  rw [← e]
  exact read_8 A t r d
/-- The class token with its position embedding. -/
theorem eblk_9 (t : Fin cfg0.N) (d : Fin 768) :
    (iblk m c 9 t : FVec Ideal S1x768 .f32) (ix2 0 d) = (pil m c).cls d + (pil m c).pos 0 d := by
  blk_simp [iblk]
  rw [show (win0_9.blk t).view.emb (ix2 0 d) = ix2 0 d by blk_ext [idxE t], V_v43, firstT_at]
  rfl

/-- The tokens' array over the kernel's arguments. -/
def tokens : FVec Ideal S32x128x768 .f32 := fun i => (pil m c).tok (i 0) (i 1) (i 2)
/-- The kernel's result array after the run. -/
theorem tokens_eq (hN : (pil m c).Normal) : (dats m 0 c).arrAt 10 cfg0.N = tokens m c := by
  refine (dats m 0 c).arrAt_eq_of_covers 10 _ (by decide +kernel) fun t _ y => ?_
  blk_simp
  rw [after0_10]
  unfold outsAt0
  rw [out_eq]
  obtain ⟨p, d, rfl⟩ : ∃ (p : Fin 128) (d : Fin 768), y = ix3 0 p d := ⟨y 1, y 2, by blk_ext⟩
  rw [show (win0_10.blk t).view.emb (ix3 0 p d) = ix3 ⟨t.val, lt32 t⟩ p d by blk_ext [idxE t]]
  show bodyOut (iblk m c 0 t) (iblk m c 1 t) (iblk m c 2 t) (iblk m c 3 t) (iblk m c 4 t) (iblk m c 5 t) (iblk m c 6 t) (iblk m c 7 t) (iblk m c 8 t) (iblk m c 9 t)
    (ix3 0 p d) = (pil m c).tok ⟨t.val, lt32 t⟩ p d
  rw [Pil.tok_eq hN]
  unfold Pil.kernelTok
  split
  · rename_i h
    obtain rfl : p = 0 := Fin.ext h
    rw [body_first, eblk_9]
  · rename_i h
    obtain ⟨r, rfl⟩ : ∃ r : Fin 127, p = ⟨r.val + 1, by omega⟩ := ⟨⟨p.val - 1, by omega⟩, Fin.ext (by show p.val = p.val - 1 + 1; omega)⟩
    split
    · rename_i h'
      have hr : r.val < 100 := by have : r.val + 1 - 1 < 100 := h'; omega
      refine (body_cell _ _ _ _ _ _ _ _ _ _ ⟨r.val, hr⟩ d).trans ?_
      simp only [eblk_0, eblk_1, eblk_2, eblk_3, eblk_4, eblk_5, eblk_6, eblk_7, eblk_8, dif_pos hr]
      rfl
    · rename_i h'
      have hr : ¬ r.val < 100 := fun e => h' (show r.val + 1 - 1 < 100 by omega)
      exact body_rest _ _ _ _ _ _ _ _ _ _ r d ((eblk_7 m c t ⟨r.val, by omega⟩ d).trans (dif_neg hr)) ((eblk_8 m c t ⟨r.val, by omega⟩ d).trans (dif_neg hr))
end Run
end Cert.Pillar
end
-- ==== Proof.Normal.lean ====
/-
  The second precondition read: the normalisation is by numbers.
-/
module

public import proofs.«01_k».proof.Proof.Finite
public import proofs.«01_k».proof.Proof.EncArr

@[expose] public section

set_option maxRecDepth 16384

noncomputable section

namespace Cert.Pre_normal

open Idealize.ShloMosaic

/-- The shapes of the precondition's operations fit. -/
theorem facts : Facts where
  bcast_S_S100 := by decide

end Cert.Pre_normal

namespace Cert.Pillar

open Idealize.ShloMosaic Idealize.ShloMosaic.TcCoe Idealize.SL.Sem
open Cert.Encoder

/-- A value that compares as at least zero is at least zero. -/
theorem nonneg_of_ge (v : FVec Ideal Cert.Pre_normal.S100 .f32) (h : Cert.Pre_normal.S_.BroadcastsInDim Cert.Pre_normal.S100 (![] : Fin 0 → Fin 1))
    (e : cmpf .oge v (broadcastInDim Cert.Pre_normal.S100 ![] h (constant Cert.Pre_normal.S_ .f32 0x00000000#32)) = fun _ => 1#1) (i : Cert.Pre_normal.S100.Idx) :
    0 ≤ (v i : EReal) := by
  have e' := congrFun e i
  pointwise at e'
  by_contra hn
  have hf : decide ((0 : EReal) ≤ v i) = false := decide_eq_false hn
  rw [hf] at e'
  exact absurd e' (by decide)

/-- Under the precondition the normalisation's mean and factor are numbers and its variance is not negative. -/
theorem pil_normal (m : (ℓ : Loc Cert.Kernel2Ideal.nD Cert.Kernel2Ideal.τ Cert.Kernel2Ideal.sig) → Buf (Elt Ideal) ℓ)
    (h : Cert.Pre_Kernel2Ideal_normal (hPre_normal := Cert.Pre_normal.facts) m) (c : Dev Cert.Kernel2Ideal.nD) : (pil m c).Normal := by
  obtain ⟨h0, h1, h2⟩ := h c
  exact fun r => ⟨num_of_lt _ _ h0 (ix1 r), num_of_lt _ _ h1 (ix1 r), nonneg_of_ge _ _ h2 (ix1 r)⟩

end Cert.Pillar
end
-- ==== Proof.EncRef.lean ====
/-
  The reference's operations on clouds of points, read at an index.
-/
module

public import proofs.«01_k».proof.Proof.Gen.Reference2Ideal.Run
public import proofs.«01_k».proof.Proof.EncHost
public import Idealize.ShloMosaic.Lib.ReduceAll

@[expose] public section

set_option maxRecDepth 16384

noncomputable section

namespace Cert.PillarRef

open Idealize.ShloMosaic Idealize.ShloMosaic.TcCoe Idealize.SL.Sem
open Cert.Reference2Ideal Cert.Reference2Ideal.Gen
open Cert.Encoder Cert.Pillar

/-- The word of a coordinate's number. -/
def orderWord : IVec S3x1 32 :=
  broadcastInDim S3x1 ![0] bcast_S3_S3x1_0 (select (cmpi .slt (fun i => lit0 (S3.rowMajor i)) (broadcastInDim S3 ![] bcast_S_S3 (constantI S_ 32 0#32)))
    (addi (fun i => lit0 (S3.rowMajor i)) (broadcastInDim S3 ![] bcast_S_S3 (constantI S_ 32 3#32))) (fun i => lit0 (S3.rowMajor i)))
/-- The coordinates are taken in the second, first, third order. -/
theorem orderWord_at (j : Fin 3) : orderWord (ix2 j 0) = BitVec.ofNat 32 (perm j).val := by
  fin_cases j <;> decide +kernel

/-- The points with their coordinates in the reference's order. -/
def pts (x : FVec Ideal S32x2048x3 .f32) : FVec Ideal S32x2048x3 .f32 := Host.gather gather_S32x2048x3_S3x1_S32x2048x3_01_2_n_n_2_1_3220481 x orderWord
/-- A point's coordinate in that order. -/
theorem pts_at (x : FVec Ideal S32x2048x3 .f32) (n : Fin 32) (k : Fin 2048) (j : Fin 3) : pts x (ix3 n k j) = x (ix3 n k (perm j)) := by
  unfold pts Host.gather
  congr 1
  funext a
  refine Fin.ext ?_
  match a with
  | ⟨0, _⟩ => exact Nat.zero_add _
  | ⟨1, _⟩ => exact Nat.zero_add _
  | ⟨2, _⟩ =>
    have h : GatherDims.siIdx gather_S32x2048x3_S3x1_S32x2048x3_01_2_n_n_2_1_3220481 (ix3 n k j) ⟨0, by decide⟩ = ix2 j 0 := by
      funext b
      match b with
      | ⟨0, _⟩ => rfl
      | ⟨1, _⟩ => rfl
    show min (orderWord (GatherDims.siIdx gather_S32x2048x3_S3x1_S32x2048x3_01_2_n_n_2_1_3220481 (ix3 n k j) ⟨0, _⟩)).toInt.toNat 2 + 0 + 0 = (perm j).val
    rw [h, orderWord_at]
    clear h
    revert j
    decide

/-- A cell's number along the two axes. -/
def bins (y : FVec Ideal S32x2048x3 .f32) : IVec S32x2048x2 32 :=
  fptosi 32 (Host.floor (Host.divf (minimumf (broadcastInDim S32x2048x2 ![] bcast_S_S32x2048x2 (id (constant S_ .f32 0x3FFEB852#32))) (maximumf (broadcastInDim S32x2048x2 ![] bcast_S_S32x2048x2 (id (constant S_ .f32 0x00000000#32))) (addf (extractStridedSlice S32x2048x2 ![0, 0, 1] y slices_S32x2048x3_S32x2048x2_0_0_1) (broadcastInDim S32x2048x2 ![] bcast_S_S32x2048x2 (constant S_ .f32 0x3F800000#32))))) (broadcastInDim S32x2048x2 ![] bcast_S_S32x2048x2 (constant S_ .f32 0x3E4CCCCD#32))))
/-- It is the bin of the coordinate. -/
theorem bins_at (y : FVec Ideal S32x2048x3 .f32) (n : Fin 32) (k : Fin 2048) (j : Fin 2) : bins y (ix3 n k j) = bin (y (ix3 n k ⟨1 + j.val, by omega⟩)) := by
  pointwise [bins, id_eq]
  rfl

/-- The points' cells. -/
def cellW (z : IVec S32x2048x2 32) : IVec S32x2048 32 :=
  addi (muli (shapeCast _ (extractStridedSlice S32x2048x1 ![0, 0, 0] z slices_S32x2048x2_S32x2048x1_0_0_0) shapeCasts_S32x2048x1_S32x2048) (broadcastInDim S32x2048 ![] bcast_S_S32x2048 (constantI S_ 32 10#32))) (shapeCast _ (extractStridedSlice S32x2048x1 ![0, 0, 1] z slices_S32x2048x2_S32x2048x1_0_0_1) shapeCasts_S32x2048x1_S32x2048)
/-- A cell is ten times one bin and the other. -/
theorem cellW_at (z : IVec S32x2048x2 32) (n : Fin 32) (k : Fin 2048) : cellW z (ix2 n k) = z (ix3 n k 0) * 10#32 + z (ix3 n k 1) := by
  pointwise [cellW]
  rfl

section Cells
variable (c : IVec S32x2048 32)

/-- Whether a point lies in a cell. -/
def hit : IVec S32x2048x100 1 :=
  cmpi .eq (broadcastInDim S32x2048x100 ![0, 1, 2] bcast_S32x2048x1_S32x2048x100_0_1_2 (broadcastInDim S32x2048x1 ![0, 1] bcast_S32x2048_S32x2048x1_0_1 c)) (broadcastInDim S32x2048x100 ![0, 1, 2] bcast_S1x1x100_S32x2048x100_0_1_2 (broadcastInDim S1x1x100 ![2] bcast_S100_S1x1x100_2 (iotaInDim S100 32 0)))
/-- It is a comparison of the point's cell with the number. -/
theorem hit_at (n : Fin 32) (k : Fin 2048) (r : Fin 100) : hit c (ix3 n k r) = IntOp.cmpi .eq (c (ix2 n k)) (BitVec.ofNat 32 r.val) := by
  pointwise [hit]

/-- The cells' counts. -/
def count (h : IVec S32x2048x100 1) : FVec Ideal S32x100x1 .f32 :=
  Host.reduceAdd (select (broadcastInDim S32x2048x100x1 ![0, 1, 2] bcast_S32x2048x100_S32x2048x100x1_0_1_2 h) (broadcastInDim S32x2048x100x1 ![0, 1, 2, 3] bcast_S32x2048x1x1_S32x2048x100x1_0_1_2_3 (broadcastInDim S32x2048x1x1 ![0, 1, 3] bcast_S32x2048x1_S32x2048x1x1_0_1_3 (broadcastInDim S32x2048x1 ![] bcast_S_S32x2048x1 (constant S_ .f32 0x3F800000#32)))) (broadcastInDim S32x2048x100x1 ![] bcast_S_S32x2048x100x1 (id (constant S_ .f32 0x00000000#32)))) (constant S_ .f32 0x00000000#32) reducesTo_S32x2048x100x1_S32x100x1_d1 h_S_
/-- They count the cells' points. -/
theorem count_at (n : Fin 32) (r : Fin 100) : count (hit c) (ix3 n r 0) = sumIn (fun k => c (ix2 n k)) (fun _ => 1) r.val := by
  pointwise [count, id_eq]
  simp only [hit_at, Pillar.pick_val]
  rfl

/-- The number a point's cell is read by. -/
def idxW : IVec S32x2048x1 32 :=
  select (cmpi .slt (broadcastInDim S32x2048x1 ![0, 1] bcast_S32x2048_S32x2048x1_0_1 c) (broadcastInDim S32x2048x1 ![] bcast_S_S32x2048x1 (constantI S_ 32 0#32))) (addi (broadcastInDim S32x2048x1 ![0, 1] bcast_S32x2048_S32x2048x1_0_1 c) (broadcastInDim S32x2048x1 ![] bcast_S_S32x2048x1 (constantI S_ 32 100#32))) (broadcastInDim S32x2048x1 ![0, 1] bcast_S32x2048_S32x2048x1_0_1 c)

/-- A word below a hundred is not negative. -/
theorem small_word (b : BitVec 32) (hb : b.toNat < 100) : (IntOp.cmpi .slt b 0#32 = 0#1) ∧ IntOp.cmpi .sge b 0#32 = 1#1 ∧ IntOp.cmpi .sle b 99#32 = 1#1 ∧ b.toInt.toNat = b.toNat := by
  obtain ⟨r, rfl⟩ : ∃ r : Fin 100, b = BitVec.ofNat 32 r.val := ⟨⟨b.toNat, hb⟩, by simp⟩
  clear hb
  revert r
  decide +kernel

variable (hc : ∀ n k, (c (ix2 n k)).toNat < 100)
include hc
/-- It is the cell itself, which is not negative. -/
theorem idxW_at (n : Fin 32) (k : Fin 2048) : idxW c (ix3 n k 0) = c (ix2 n k) := by
  pointwise [idxW]
  rw [(small_word _ (hc n k)).1]
  rfl

/-- Whether the number is in range. -/
def okW (i : IVec S32x2048x1 32) : IVec S32x2048 1 :=
  Host.reduce IntOp.andi (andi (cmpi .sge i (broadcastInDim S32x2048x1 ![] bcast_S_S32x2048x1 (constantI S_ 32 0#32))) (cmpi .sle i (broadcastInDim S32x2048x1 ![0, 1, 2] bcast_S1x1x1_S32x2048x1_0_1_2 (broadcastInDim S1x1x1 ![2] bcast_S1_S1x1x1_2 (constantI S1 32 99#32))))) (constantI S_ 1 1#1) reducesTo_S32x2048x1_S32x2048_d2 h_S_
/-- It is. -/
theorem okW_at (j : S32x2048.Idx) : okW (idxW c) j = 1#1 := by
  unfold okW
  refine Host.reduce_andi_one _ _ _ _ _ rfl fun i => ?_
  obtain ⟨n, k, rfl⟩ : ∃ (n : Fin 32) (k : Fin 2048), i = ix3 n k 0 := ⟨i 0, i 1, by
    funext a
    match a with
    | ⟨0, _⟩ => rfl
    | ⟨1, _⟩ => rfl
    | ⟨2, _⟩ => exact Subsingleton.elim (α := Fin 1) _ _⟩
  pointwise
  rw [idxW_at c hc]
  obtain ⟨-, h1, h2, -⟩ := small_word _ (hc n k)
  rw [h1, h2]
  rfl

/-- A table's rows of three read at the points' cells. -/
theorem take3_at (A : FVec Ideal S32x100x3 .f32) (n : Fin 32) (k : Fin 2048) (j : Fin 3) :
    Host.gather gather_S32x100x3_S32x2048x1_S32x2048x3_2_1_0_0_1_2_113 A (idxW c) (ix3 n k j) = A (ix3 n ⟨(c (ix2 n k)).toNat, hc n k⟩ j) := by
  unfold Host.gather
  congr 1
  funext a
  refine Fin.ext ?_
  match a with
  | ⟨0, _⟩ => exact Nat.zero_add _
  | ⟨1, _⟩ =>
    have h : GatherDims.siIdx gather_S32x100x3_S32x2048x1_S32x2048x3_2_1_0_0_1_2_113 (ix3 n k j) ⟨0, by decide⟩ = ix3 n k 0 := by
      funext b
      match b with
      | ⟨0, _⟩ => rfl
      | ⟨1, _⟩ => rfl
      | ⟨2, _⟩ => rfl
    show min (idxW c (GatherDims.siIdx gather_S32x100x3_S32x2048x1_S32x2048x3_2_1_0_0_1_2_113 (ix3 n k j) ⟨0, _⟩)).toInt.toNat 99 + 0 + 0 = (c (ix2 n k)).toNat
    rw [h, idxW_at c hc, (small_word _ (hc n k)).2.2.2]
    have := hc n k
    omega
  | ⟨2, _⟩ => exact Nat.zero_add _
/-- A table's rows of features read at the points' cells. -/
theorem take128_at (A : FVec Ideal S32x100x128 .f32) (n : Fin 32) (k : Fin 2048) (j : Fin 128) :
    Host.gather gather_S32x100x128_S32x2048x1_S32x2048x128_2_1_0_0_1_2_11128 A (idxW c) (ix3 n k j) = A (ix3 n ⟨(c (ix2 n k)).toNat, hc n k⟩ j) := by
  unfold Host.gather
  congr 1
  funext a
  refine Fin.ext ?_
  match a with
  | ⟨0, _⟩ => exact Nat.zero_add _
  | ⟨1, _⟩ =>
    have h : GatherDims.siIdx gather_S32x100x128_S32x2048x1_S32x2048x128_2_1_0_0_1_2_11128 (ix3 n k j) ⟨0, by decide⟩ = ix3 n k 0 := by
      funext b
      match b with
      | ⟨0, _⟩ => rfl
      | ⟨1, _⟩ => rfl
      | ⟨2, _⟩ => rfl
    show min (idxW c (GatherDims.siIdx gather_S32x100x128_S32x2048x1_S32x2048x128_2_1_0_0_1_2_11128 (ix3 n k j) ⟨0, _⟩)).toInt.toNat 99 + 0 + 0 = (c (ix2 n k)).toNat
    rw [h, idxW_at c hc, (small_word _ (hc n k)).2.2.2]
    have := hc n k
    omega
  | ⟨2, _⟩ => exact Nat.zero_add _
end Cells

end Cert.PillarRef
end
-- ==== Proof.EncRefLayer.lean ====
/-
  The reference's layers and maxima, read at an index.
-/
module

public import proofs.«01_k».proof.Proof.EncRef

@[expose] public section

set_option maxRecDepth 16384

noncomputable section

namespace Cert.PillarRef

open Idealize.ShloMosaic Idealize.ShloMosaic.TcCoe Idealize.SL.Sem
open Cert.Reference2Ideal Cert.Reference2Ideal.Gen
open Cert.Encoder Cert.Pillar

/-- The cells' sums of coordinates. -/
def sums (h : IVec S32x2048x100 1) (y : FVec Ideal S32x2048x3 .f32) : FVec Ideal S32x100x3 .f32 :=
  Host.reduceAdd (select (broadcastInDim S32x2048x100x3 ![0, 1, 2, 3] bcast_S32x2048x100x1_S32x2048x100x3_0_1_2_3 (broadcastInDim S32x2048x100x1 ![0, 1, 2] bcast_S32x2048x100_S32x2048x100x1_0_1_2 h)) (broadcastInDim S32x2048x100x3 ![0, 1, 2, 3] bcast_S32x2048x1x3_S32x2048x100x3_0_1_2_3 (broadcastInDim S32x2048x1x3 ![0, 1, 3] bcast_S32x2048x3_S32x2048x1x3_0_1_3 y)) (broadcastInDim S32x2048x100x3 ![] bcast_S_S32x2048x100x3 (id (constant S_ .f32 0x00000000#32)))) (constant S_ .f32 0x00000000#32) reducesTo_S32x2048x100x3_S32x100x3_d1 h_S_
/-- The cells' centroids. -/
def centres (s : FVec Ideal S32x100x3 .f32) (q : FVec Ideal S32x100x1 .f32) : FVec Ideal S32x100x3 .f32 :=
  Host.divf s (broadcastInDim S32x100x3 ![0, 1, 2] bcast_S32x100x1_S32x100x3_0_1_2 (maximumf q (broadcastInDim S32x100x1 ![] bcast_S_S32x100x1 (constant S_ .f32 0x3F800000#32))))
/-- A table's rows of three picked by cell where the number is in range. -/
def pick3 (ok : IVec S32x2048 1) (g : FVec Ideal S32x2048x3 .f32) : FVec Ideal S32x2048x3 .f32 :=
  select (broadcastInDim S32x2048x3 ![0, 1] bcast_S32x2048_S32x2048x3_0_1 ok) g (broadcastInDim S32x2048x3 ![] bcast_S_S32x2048x3 (constant S_ .f32 0x7FC00000#32))
/-- A table's rows of features picked by cell where the number is in range. -/
def pick128 (ok : IVec S32x2048 1) (g : FVec Ideal S32x2048x128 .f32) : FVec Ideal S32x2048x128 .f32 :=
  select (broadcastInDim S32x2048x128 ![0, 1] bcast_S32x2048_S32x2048x128_0_1 ok) g (broadcastInDim S32x2048x128 ![] bcast_S_S32x2048x128 (constant S_ .f32 0x7FC00000#32))
/-- The first layer over the points and their offsets. -/
def layerA (y o : FVec Ideal S32x2048x3 .f32) (w : FVec Ideal S6x32 .f32) : FVec Ideal S32x2048x32 .f32 :=
  maximumf (Host.dotGeneral dot_S32x2048x6_S6x32_S32x2048x32_2_0_01_1_n_n none (concatenate S32x2048x6 2 [⟨S32x2048x3, y⟩, ⟨S32x2048x3, o⟩] concatenates_S32x2048x3_S32x2048x3_S32x2048x6_d2) w) (broadcastInDim S32x2048x32 ![] bcast_S_S32x2048x32 (constant S_ .f32 0x00000000#32))
/-- The second layer. -/
def layerB (y : FVec Ideal S32x2048x32 .f32) (w : FVec Ideal S32x64 .f32) : FVec Ideal S32x2048x64 .f32 :=
  maximumf (Host.dotGeneral dot_S32x2048x32_S32x64_S32x2048x64_2_0_01_1_n_n none y w) (broadcastInDim S32x2048x64 ![] bcast_S_S32x2048x64 (constant S_ .f32 0x00000000#32))
/-- The third layer. -/
def layerC (y : FVec Ideal S32x2048x64 .f32) (w : FVec Ideal S64x128 .f32) : FVec Ideal S32x2048x128 .f32 :=
  maximumf (Host.dotGeneral dot_S32x2048x64_S64x128_S32x2048x128_2_0_01_1_n_n none y w) (broadcastInDim S32x2048x128 ![] bcast_S_S32x2048x128 (constant S_ .f32 0x00000000#32))
/-- The layer over a point's and its cell's features. -/
def layerD (y o : FVec Ideal S32x2048x128 .f32) (w : FVec Ideal S256x768 .f32) : FVec Ideal S32x2048x768 .f32 :=
  maximumf (Host.dotGeneral dot_S32x2048x256_S256x768_S32x2048x768_2_0_01_1_n_n none (concatenate S32x2048x256 2 [⟨S32x2048x128, y⟩, ⟨S32x2048x128, o⟩] concatenates_S32x2048x128_S32x2048x128_S32x2048x256_d2) w) (broadcastInDim S32x2048x768 ![] bcast_S_S32x2048x768 (constant S_ .f32 0x00000000#32))
/-- The cells' maxima of a point's features. -/
def top128 (h : IVec S32x2048x100 1) (y : FVec Ideal S32x2048x128 .f32) : FVec Ideal S32x100x128 .f32 :=
  Host.reduce FloatOps.maximumf (select (broadcastInDim S32x2048x100x128 ![0, 1, 2, 3] bcast_S32x2048x100x1_S32x2048x100x128_0_1_2_3 (broadcastInDim S32x2048x100x1 ![0, 1, 2] bcast_S32x2048x100_S32x2048x100x1_0_1_2 h)) (broadcastInDim S32x2048x100x128 ![0, 1, 2, 3] bcast_S32x2048x1x128_S32x2048x100x128_0_1_2_3 (broadcastInDim S32x2048x1x128 ![0, 1, 3] bcast_S32x2048x128_S32x2048x1x128_0_1_3 y)) (broadcastInDim S32x2048x100x128 ![] bcast_S_S32x2048x100x128 (id (constant S_ .f32 0xFF800000#32)))) (constant S_ .f32 0xFF800000#32) reducesTo_S32x2048x100x128_S32x100x128_d1 h_S_
/-- The cells' maxima of a point's second features. -/
def top768 (h : IVec S32x2048x100 1) (y : FVec Ideal S32x2048x768 .f32) : FVec Ideal S32x100x768 .f32 :=
  Host.reduce FloatOps.maximumf (select (broadcastInDim S32x2048x100x768 ![0, 1, 2, 3] bcast_S32x2048x100x1_S32x2048x100x768_0_1_2_3 (broadcastInDim S32x2048x100x1 ![0, 1, 2] bcast_S32x2048x100_S32x2048x100x1_0_1_2 h)) (broadcastInDim S32x2048x100x768 ![0, 1, 2, 3] bcast_S32x2048x1x768_S32x2048x100x768_0_1_2_3 (broadcastInDim S32x2048x1x768 ![0, 1, 3] bcast_S32x2048x768_S32x2048x1x768_0_1_3 y)) (broadcastInDim S32x2048x100x768 ![] bcast_S_S32x2048x100x768 (id (constant S_ .f32 0xFF800000#32)))) (constant S_ .f32 0xFF800000#32) reducesTo_S32x2048x100x768_S32x100x768_d1 h_S_
/-- The cells' features, zero for an empty cell. -/
def cellsF (q : FVec Ideal S32x100x1 .f32) (t : FVec Ideal S32x100x768 .f32) : FVec Ideal S32x100x768 .f32 :=
  select (broadcastInDim S32x100x768 ![0, 1, 2] bcast_S32x100x1_S32x100x768_0_1_2 (cmpf .ogt q (broadcastInDim S32x100x1 ![] bcast_S_S32x100x1 (constant S_ .f32 0x00000000#32)))) t (broadcastInDim S32x100x768 ![] bcast_S_S32x100x768 (id (constant S_ .f32 0x00000000#32)))
/-- The batch norm. -/
def normed (t : FVec Ideal S32x100x768 .f32) (g b mu v : FVec Ideal S100 .f32) : FVec Ideal S32x100x768 .f32 :=
  addf (mulf (subf t (broadcastInDim S32x100x768 ![0, 1, 2] bcast_S1x100x1_S32x100x768_0_1_2 (broadcastInDim S1x100x1 ![1] bcast_S100_S1x100x1_1 mu))) (broadcastInDim S32x100x768 ![0, 1, 2] bcast_S1x100x1_S32x100x768_0_1_2 (broadcastInDim S1x100x1 ![1] bcast_S100_S1x100x1_1 (mulf g (Host.rsqrt (addf v (broadcastInDim S100 ![] bcast_S_S100 (constant S_ .f32 0x3727C5AC#32)))))))) (broadcastInDim S32x100x768 ![0, 1, 2] bcast_S1x100x1_S32x100x768_0_1_2 (broadcastInDim S1x100x1 ![1] bcast_S100_S1x100x1_1 b))
/-- The tokens: the class token and the cells with the position embedding, and rows of zeros below. -/
def tokens (t : FVec Ideal S32x100x768 .f32) (cls : FVec Ideal S1x1x768 .f32) (pos : FVec Ideal S1x101x768 .f32) : FVec Ideal S32x128x768 .f32 :=
  pad S32x128x768 ![0, 0, 0] ![0, 27, 0] ![0, 0, 0] (addf (concatenate S32x101x768 1 [⟨S32x1x768, (broadcastInDim S32x1x768 ![0, 1, 2] bcast_S1x1x768_S32x1x768_0_1_2 cls)⟩, ⟨S32x100x768, t⟩] concatenates_S32x1x768_S32x100x768_S32x101x768_d1) (broadcastInDim S32x101x768 ![0, 1, 2] bcast_S1x101x768_S32x101x768_0_1_2 pos)) (sitofp .f32 (constantI S_ 32 0#32)) pads_S32x101x768_S32x128x768_000_0270_000 h_S_

section Cells
variable (c : IVec S32x2048 32) (n : Fin 32) (k : Fin 2048) (r : Fin 100)

/-- The word of minus infinity. -/
theorem ninf_val : Ideal.ofBits .f32 0xFF800000#32 = ⊥ := by simp [Ideal.ofBits, Ideal.ieee]

/-- They are the cells' sums. -/
theorem sums_at (y : FVec Ideal S32x2048x3 .f32) (j : Fin 3) : sums (hit c) y (ix3 n r j) = sumIn (fun k => c (ix2 n k)) (fun k => y (ix3 n k j)) r.val := by
  pointwise [sums, id_eq]
  simp only [hit_at, pick_val]
  rfl
/-- They are the cells' centroids. -/
theorem centres_at (y : FVec Ideal S32x2048x3 .f32) (j : Fin 3) :
    centres (sums (hit c) y) (count (hit c)) (ix3 n r j) = centre (fun k => c (ix2 n k)) (fun k => y (ix3 n k j)) r.val := by
  pointwise [centres]
  rw [sums_at, count_at]
  rfl
/-- In range the row is taken. -/
theorem pick3_at (ok : IVec S32x2048 1) (hok : ok (ix2 n k) = 1#1) (g : FVec Ideal S32x2048x3 .f32) (j : Fin 3) : pick3 ok g (ix3 n k j) = g (ix3 n k j) := by
  pointwise [pick3]
  rw [hok]
  rfl
/-- In range the row of features is taken. -/
theorem pick128_at (ok : IVec S32x2048 1) (hok : ok (ix2 n k) = 1#1) (g : FVec Ideal S32x2048x128 .f32) (j : Fin 128) : pick128 ok g (ix3 n k j) = g (ix3 n k j) := by
  pointwise [pick128]
  rw [hok]
  rfl
/-- They are the cells' maxima. -/
theorem top128_at (y : FVec Ideal S32x2048x128 .f32) (j : Fin 128) : top128 (hit c) y (ix3 n r j) = maxIn (fun k => c (ix2 n k)) (fun k => y (ix3 n k j)) r.val := by
  pointwise [top128, id_eq]
  simp only [hit_at, pick_val, ninf_val]
  rfl
/-- They are the cells' maxima. -/
theorem top768_at (y : FVec Ideal S32x2048x768 .f32) (j : Fin 768) : top768 (hit c) y (ix3 n r j) = maxIn (fun k => c (ix2 n k)) (fun k => y (ix3 n k j)) r.val := by
  pointwise [top768, id_eq]
  simp only [hit_at, pick_val, ninf_val]
  rfl
/-- The maximum where the cell has a point. -/
theorem cellsF_at (t : FVec Ideal S32x100x768 .f32) (d : Fin 768) :
    cellsF (count (hit c)) t (ix3 n r d) = if 0 < sumIn (fun k => c (ix2 n k)) (fun _ => 1) r.val then t (ix3 n r d) else 0 := by
  pointwise [cellsF, id_eq]
  rw [count_at]
/-- The batch norm at an index. -/
theorem normed_at (t : FVec Ideal S32x100x768 .f32) (g b mu v : FVec Ideal S100 .f32) (d : Fin 768) :
    normed t g b mu v (ix3 n r d) = (t (ix3 n r d) - mu (ix1 r)) * (g (ix1 r) * Ideal.rsqrt (v (ix1 r) + cEps)) + b (ix1 r) := by
  pointwise [normed]

/-- The first layer at an index, the two halves of its sum apart. -/
theorem layerA_at (y o : FVec Ideal S32x2048x3 .f32) (w : FVec Ideal S6x32 .f32) (j : Fin 32) :
    layerA y o w (ix3 n k j) = max (∑ l : Fin 3, y (ix3 n k l) * w (ix2 ⟨l.val, by omega⟩ j) + ∑ l : Fin 3, o (ix3 n k l) * w (ix2 ⟨3 + l.val, by omega⟩ j)) 0 := by
  pointwise [layerA]
/-- The second layer at an index. -/
theorem layerB_at (y : FVec Ideal S32x2048x32 .f32) (w : FVec Ideal S32x64 .f32) (j : Fin 64) :
    layerB y w (ix3 n k j) = max (∑ l, y (ix3 n k l) * w (ix2 l j)) 0 := by
  pointwise [layerB]
/-- The third layer at an index. -/
theorem layerC_at (y : FVec Ideal S32x2048x64 .f32) (w : FVec Ideal S64x128 .f32) (j : Fin 128) :
    layerC y w (ix3 n k j) = max (∑ l, y (ix3 n k l) * w (ix2 l j)) 0 := by
  pointwise [layerC]
/-- The last layer at an index, the two halves of its sum apart. -/
theorem layerD_at (y o : FVec Ideal S32x2048x128 .f32) (w : FVec Ideal S256x768 .f32) (j : Fin 768) :
    layerD y o w (ix3 n k j) = max (∑ l : Fin 128, y (ix3 n k l) * w (ix2 ⟨l.val, by omega⟩ j) + ∑ l : Fin 128, o (ix3 n k l) * w (ix2 ⟨128 + l.val, by omega⟩ j)) 0 := by
  pointwise [layerD]
end Cells

/-- The tokens at an index. -/
theorem tokens_at (t : FVec Ideal S32x100x768 .f32) (cls : FVec Ideal S1x1x768 .f32) (pos : FVec Ideal S1x101x768 .f32) (n : Fin 32) (p : Fin 128) (d : Fin 768) :
    tokens t cls pos (ix3 n p d) = if p.val = 0 then cls (ix3 0 0 d) + pos (ix3 0 0 d)
      else if h : p.val - 1 < 100 then t (ix3 n ⟨p.val - 1, h⟩ d) + pos (ix3 0 ⟨1 + (p.val - 1), by omega⟩ d) else 0 := by
  pointwise [tokens]
  have hz : FloatOps.sitofp (F := Ideal) .f32 0#32 = (0 : EReal) := by simp [FloatOps.sitofp]
  rw [hz]
  by_cases h0 : p.val = 0
  · obtain rfl : p = 0 := Fin.ext h0
    rfl
  · rw [if_neg h0]
    by_cases h1 : p.val - 1 < 100
    · rw [dif_pos (show p.val < 101 by omega), dif_neg (show ¬ p.val < 1 by omega), dif_pos h1]
      congr 3
      exact Fin.ext (show p.val = 1 + (p.val - 1) by omega)
    · rw [dif_neg (show ¬ p.val < 101 by omega), dif_neg h1]

end Cert.PillarRef
end
-- ==== Proof.EncRefVal.lean ====
/-
  The reference's tokens are the encoder's.
-/
module

public import proofs.«01_k».proof.Proof.EncRefLayer

@[expose] public section

set_option maxRecDepth 16384

noncomputable section

namespace Cert.PillarRef

open Idealize.ShloMosaic Idealize.ShloMosaic.TcCoe Idealize.SL.Sem
open Idealize.ShloMosaic.StableHlo
open Cert.Reference2Ideal Cert.Reference2Ideal.Gen
open Cert.Encoder Cert.Pillar

/-- A sum of products over the coordinates does not depend on their order. -/
theorem order_sum (p w : Fin 3 → EReal) : ∑ l, p (perm l) * w l = ∑ l, p l * w (perm l) := by
  rw [Fin.sum_univ_three, Fin.sum_univ_three]
  show p 1 * w 0 + p 0 * w 1 + p 2 * w 2 = p 0 * w 1 + p 1 * w 0 + p 2 * w 2
  rw [add_comm (p 1 * w 0)]

section Args
variable (x : FVec Ideal S32x2048x3 .f32) (w1 : FVec Ideal S6x32 .f32) (w2 : FVec Ideal S32x64 .f32) (w3 : FVec Ideal S64x128 .f32) (wa : FVec Ideal S256x768 .f32)
  (g b mu v : FVec Ideal S100 .f32) (cls : FVec Ideal S1x1x768 .f32) (pos : FVec Ideal S1x101x768 .f32)

/-- The points' cells. -/
def cellA : IVec S32x2048 32 := cellW (bins (pts x))
/-- They are the encoder's cells. -/
theorem cellA_at (n : Fin 32) (k : Fin 2048) : cellA x (ix2 n k) = cellsOf (fun k j => x (ix3 n k j)) k := by
  unfold cellA
  rw [cellW_at, bins_at, bins_at, pts_at, pts_at]
  rfl
/-- There are a hundred of them. -/
theorem cellA_lt (n : Fin 32) (k : Fin 2048) : (cellA x (ix2 n k)).toNat < 100 := by
  rw [cellA_at]
  exact cell_lt _ _

/-- The points' offsets to their cells' centroids. -/
def offs (y : FVec Ideal S32x2048x3 .f32) (c : IVec S32x2048 32) : FVec Ideal S32x2048x3 .f32 :=
  subf y (pick3 (okW (idxW c)) (Host.gather gather_S32x100x3_S32x2048x1_S32x2048x3_2_1_0_0_1_2_113 (centres (sums (hit c) y) (count (hit c))) (idxW c)))
/-- An offset at an index. -/
theorem offs_at (y : FVec Ideal S32x2048x3 .f32) (c : IVec S32x2048 32) (hc : ∀ n k, (c (ix2 n k)).toNat < 100) (n : Fin 32) (k : Fin 2048) (j : Fin 3) :
    offs y c (ix3 n k j) = y (ix3 n k j) - centre (fun k => c (ix2 n k)) (fun k => y (ix3 n k j)) (c (ix2 n k)).toNat := by
  unfold offs
  pointwise
  rw [pick3_at n k _ (okW_at c hc _), take3_at c hc, centres_at]

/-- The points' features. -/
def feats : FVec Ideal S32x2048x128 .f32 := layerC (layerB (layerA (pts x) (offs (pts x) (cellA x)) w1) w2) w3
/-- They are the encoder's features. -/
theorem feats_at (n : Fin 32) (k : Fin 2048) (e : Fin 128) : feats x w1 w2 w3 (ix3 n k e) = (pilOf x w1 w2 w3 wa g b mu v cls pos).h n k e := by
  unfold feats
  simp only [layerC_at, layerB_at, layerA_at, offs_at _ _ (cellA_lt x), pts_at, cellA_at]
  have e1 := fun j => order_sum (fun l => x (ix3 n k l)) (fun l => w1 (ix2 ⟨l.val, by omega⟩ j))
  have e2 := fun j => order_sum (fun l => x (ix3 n k l) - centre (cellsOf fun k j => x (ix3 n k j)) (fun k => x (ix3 n k l)) (cellsOf (fun k j => x (ix3 n k j)) k).toNat)
    (fun l => w1 (ix2 ⟨3 + l.val, by omega⟩ j))
  simp only [e1, e2]
  rfl

/-- The points' second features. -/
def feats2 (f : FVec Ideal S32x2048x128 .f32) (c : IVec S32x2048 32) : FVec Ideal S32x2048x768 .f32 :=
  layerD f (pick128 (okW (idxW c)) (Host.gather gather_S32x100x128_S32x2048x1_S32x2048x128_2_1_0_0_1_2_11128 (top128 (hit c) f) (idxW c))) wa
/-- A second feature at an index. -/
theorem feats2_at (f : FVec Ideal S32x2048x128 .f32) (c : IVec S32x2048 32) (hc : ∀ n k, (c (ix2 n k)).toNat < 100) (n : Fin 32) (k : Fin 2048) (d : Fin 768) :
    feats2 wa f c (ix3 n k d) = max (∑ l : Fin 128, f (ix3 n k l) * wa (ix2 ⟨l.val, by omega⟩ d)
      + ∑ l : Fin 128, maxIn (fun k => c (ix2 n k)) (fun k => f (ix3 n k l)) (c (ix2 n k)).toNat * wa (ix2 ⟨128 + l.val, by omega⟩ d)) 0 := by
  unfold feats2
  rw [layerD_at]
  simp only [pick128_at n k _ (okW_at c hc _), take128_at c hc, top128_at]

/-- The tokens. -/
def out : FVec Ideal S32x128x768 .f32 :=
  tokens (normed (cellsF (count (hit (cellA x))) (top768 (hit (cellA x)) (feats2 wa (feats x w1 w2 w3) (cellA x)))) g b mu v) cls pos
/-- They are the encoder's. -/
theorem out_at (n : Fin 32) (p : Fin 128) (d : Fin 768) :
    out x w1 w2 w3 wa g b mu v cls pos (ix3 n p d) = (pilOf x w1 w2 w3 wa g b mu v cls pos).tok n p d := by
  unfold out
  rw [tokens_at]
  unfold Pil.tok
  split
  · rfl
  · split
    · rename_i h
      rw [normed_at, cellsF_at, top768_at]
      simp only [feats2_at wa _ _ (cellA_lt x), cellA_at, feats_at x w1 w2 w3 wa g b mu v cls pos]
      rfl
    · rfl
end Args

end Cert.PillarRef
end
-- ==== Proof.lean ====
/-
  The proof of `Cert.Claim`: the programs run and leave their arguments and counters, the first kernel's result is its
  reference's whenever the tokens and the layers' parameters are numbers, and the second kernel's tokens are its reference's
  whenever the batch norm's mean and factor are numbers and its variance is not negative.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FrameB
public import proofs.«01_k».proof.Proof.Finite
public import proofs.«01_k».proof.Proof.RefVal
public import proofs.«01_k».proof.Proof.Normal
public import proofs.«01_k».proof.Proof.EncRefVal
public import Idealize.ShloMosaic.Adequacy
public import Idealize.ShloMosaic.Init

@[expose] public section

noncomputable section

namespace Cert.Proof

open Idealize.ShloMosaic Idealize.ShloMosaic.TcCoe Idealize.SL.Sem

/-- The kernel on bits runs and leaves its arguments and counters as they were. -/
theorem frameK : quiescent_Kernel (hKernel := Cert.Kernel.Gen.facts) := fun m g _ =>
  (θ_run _ _ _).mono (fun _ h => ⟨fun c => by
    obtain ⟨h0, h1, h2, h3, h4, h5, h6, h7, h8, h9, h10, h11, h12, h13, h14, h15, _⟩ := h.1 c
    exact ⟨h0, h1, h2, h3, h4, h5, h6, h7, h8, h9, h10, h11, h12, h13, h14, h15⟩, h.2⟩) (Cert.Kernel.Vit.run_all m g)
/-- So does the kernel on extended reals. -/
theorem frameKI : quiescent_KernelIdeal (hKernelIdeal := Cert.KernelIdeal.Gen.facts) := fun m g _ =>
  (θ_run _ _ _).mono (fun _ h => ⟨fun c => by
    obtain ⟨h0, h1, h2, h3, h4, h5, h6, h7, h8, h9, h10, h11, h12, h13, h14, h15, _⟩ := h.1 c
    exact ⟨h0, h1, h2, h3, h4, h5, h6, h7, h8, h9, h10, h11, h12, h13, h14, h15⟩, h.2⟩) (Cert.KernelIdeal.Vit.run_all m g)
/-- And the reference. -/
theorem frameRI : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The two programs' encoders are one when their arguments agree. -/
theorem net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Enc.net m' c = Cert.KernelIdeal.Vit.net m c := by
  obtain ⟨h0, h1, h2, h3, h4, h5, h6, h7, h8, h9, h10, h11, h12, h13, h14, h15⟩ := h
  unfold Cert.ReferenceIdeal.Enc.net Cert.KernelIdeal.Vit.net
  rw [h0, h1, h2, h3, h4, h5, h6, h7, h8, h9, h10, h11, h12, h13, h14, h15]

/-- The kernel's result is the reference's. -/
theorem value : algebraic_KernelIdeal_ReferenceIdeal_pre_finite (hKernelIdeal := Cert.KernelIdeal.Gen.facts)
    (hReferenceIdeal := Cert.ReferenceIdeal.Gen.facts) (hPre_finite := Cert.Pre_finite.facts) := fun m g m' g' hpre hargs => by
  refine ⟨fun c => Cert.KernelIdeal.Vit.result m c, (θ_run _ _ _).mono (fun _ h c => ?_) (Cert.KernelIdeal.Vit.run_all m g),
    (θ_run _ _ _).mono (fun _ h c => ⟨(h c).1.trans ?_, (h c).2⟩) (Cert.ReferenceIdeal.Value.run m' g')⟩
  · obtain ⟨h0, h1, h2, h3, h4, h5, h6, h7, h8, h9, h10, h11, h12, h13, h14, h15, hv⟩ := h.1 c
    exact ⟨hv.trans (Cert.KernelIdeal.Vit.final m g c (Cert.KernelIdeal.Vit.net_finite m hpre c)),
      h0, h1, h2, h3, h4, h5, h6, h7, h8, h9, h10, h11, h12, h13, h14, h15⟩
  · refine funext fun i => ?_
    obtain ⟨n, o, rfl⟩ : ∃ (n : Fin 32) (o : Fin 40), i = ix2 n o := ⟨i 0, i 1, by idx_vars i⟩
    refine (Cert.ReferenceIdeal.Enc.result_at m' c n o).trans ?_
    rw [net_eq m m' c (hargs c)]
    rfl

/-- The point encoder on bits runs and leaves its arguments and counters as they were. -/
theorem frameK2 : quiescent_Kernel2 (hKernel2 := Cert.Kernel2.Gen.facts) := fun m g _ => Cert.Kernel2.Gen.frame m g
/-- So does the point encoder on extended reals. -/
theorem frameKI2 : quiescent_Kernel2Ideal (hKernel2Ideal := Cert.Kernel2Ideal.Gen.facts) := fun m g _ => Cert.Kernel2Ideal.Gen.frame m g
/-- And its reference. -/
theorem frameRI2 : quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

/-- The mask value may be read as minus infinity. -/
theorem mask : preserves_Kernel2_Kernel2Ideal :=
  ⟨IdealRules.named_const.statement Cert.Kernel2Ideal.κ "mask" .bf16 0xF14A#16 ⊥ rfl, IdealRules.named_const.statement Cert.Kernel2Ideal.κ "mask" .f32 0xF149F2CA#32 ⊥ rfl⟩

/-- The point encoder's tokens are the reference's. -/
theorem value2 : algebraic_Kernel2Ideal_Reference2Ideal_pre_normal (hKernel2Ideal := Cert.Kernel2Ideal.Gen.facts)
    (hReference2Ideal := Cert.Reference2Ideal.Gen.facts) (hPre_normal := Cert.Pre_normal.facts) := fun m g m' g' hpre hargs => by
  refine ⟨fun c => Cert.Pillar.tokens m c, (θ_run _ _ _).mono (fun _ h c => ?_) (Cert.Kernel2Ideal.Value.run_blocks m g),
    (θ_run _ _ _).mono (fun _ h c => ⟨(h c).1.trans ?_, (h c).2⟩) (Cert.Reference2Ideal.Value.run m' g')⟩
  · exact ⟨(h c).1.trans (Cert.Pillar.tokens_eq m c (Cert.Pillar.pil_normal m hpre c)), (h c).2⟩
  · obtain ⟨h0, h1, h2, h3, h4, h5, h6, h7, h8, h9, h10⟩ := hargs c
    refine Eq.trans (b := Cert.PillarRef.out _ _ _ _ _ _ _ _ _ _ _) rfl ?_
    refine funext fun i => ?_
    obtain ⟨n, p, d, rfl⟩ : ∃ (n : Fin 32) (p : Fin 128) (d : Fin 768), i = ix3 n p d := ⟨i 0, i 1, i 2, by idx_vars i⟩
    refine (Cert.PillarRef.out_at _ _ _ _ _ _ _ _ _ _ _ n p d).trans ?_
    show (Cert.Pillar.pilOf _ _ _ _ _ _ _ _ _ _ _).tok n p d = (Cert.Pillar.pil m c).tok n p d
    unfold Cert.Pillar.pil
    rw [← h0, ← h1, ← h2, ← h3, ← h4, ← h5, ← h6, ← h7, ← h8, ← h9, ← h10]

/-- Everything that the certificate claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.facts, Cert.Pre_normal.facts,
  frameK, frameKI, fun m g _ => frameKI m g trivial, frameRI, fun m g _ => frameRI m g trivial,
  frameK2, frameKI2, fun m g _ => frameKI2 m g trivial, frameRI2, fun m g _ => frameRI2 m g trivial, trivial, value, mask, value2⟩

end Cert.Proof

end
